-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x16x16x16 : Shape := ⟨5, ![8, 32, 16, 16, 16]⟩
abbrev S8x32x32x16x16 : Shape := ⟨5, ![8, 32, 32, 16, 16]⟩
abbrev S8x32x32x16x16x16 : Shape := ⟨6, ![8, 32, 32, 16, 16, 16]⟩
abbrev S8x32x16x16x1 : Shape := ⟨5, ![8, 32, 16, 16, 1]⟩
abbrev S8x32x16x16 : Shape := ⟨4, ![8, 32, 16, 16]⟩
abbrev S256x8x2x8x2 : Shape := ⟨5, ![256, 8, 2, 8, 2]⟩
abbrev S256x2x2x8x8 : Shape := ⟨5, ![256, 2, 2, 8, 8]⟩
abbrev S256x4x64 : Shape := ⟨3, ![256, 4, 64]⟩
abbrev S8192x8x2x8x2 : Shape := ⟨5, ![8192, 8, 2, 8, 2]⟩
abbrev S8192x2x2x8x8 : Shape := ⟨5, ![8192, 2, 2, 8, 8]⟩
abbrev S8192x4x64 : Shape := ⟨3, ![8192, 4, 64]⟩
abbrev S_ : Shape := ⟨0, ![]⟩
abbrev S1 : Shape := ⟨1, ![1]⟩
abbrev S2 : Shape := ⟨1, ![2]⟩
abbrev S24 : Shape := ⟨1, ![24]⟩
abbrev S2x1 : Shape := ⟨2, ![2, 1]⟩
abbrev S2x2 : Shape := ⟨2, ![2, 2]⟩
abbrev S1x2 : Shape := ⟨2, ![1, 2]⟩
abbrev S32 : Shape := ⟨1, ![32]⟩
abbrev S32x1 : Shape := ⟨2, ![32, 1]⟩
abbrev S32x64 : Shape := ⟨2, ![32, 64]⟩
abbrev S8192x32 : Shape := ⟨2, ![8192, 32]⟩
abbrev S32x4x64 : Shape := ⟨3, ![32, 4, 64]⟩
abbrev S256x32 : Shape := ⟨2, ![256, 32]⟩
abbrev S32x1x64 : Shape := ⟨3, ![32, 1, 64]⟩
abbrev S32x64x64 : Shape := ⟨3, ![32, 64, 64]⟩
abbrev S32x64x1 : Shape := ⟨3, ![32, 64, 1]⟩
abbrev S8x32x4x64 : Shape := ⟨4, ![8, 32, 4, 64]⟩
abbrev S1x32x4x64 : Shape := ⟨4, ![1, 32, 4, 64]⟩
abbrev S8x32x64 : Shape := ⟨3, ![8, 32, 64]⟩
abbrev S8x32x1x64 : Shape := ⟨4, ![8, 32, 1, 64]⟩
abbrev S256x64 : Shape := ⟨2, ![256, 64]⟩
abbrev S256x64x64 : Shape := ⟨3, ![256, 64, 64]⟩
abbrev S256x64x1 : Shape := ⟨3, ![256, 64, 1]⟩
abbrev S256x1x64 : Shape := ⟨3, ![256, 1, 64]⟩
abbrev S1x32x64 : Shape := ⟨3, ![1, 32, 64]⟩
abbrev S256x32x64 : Shape := ⟨3, ![256, 32, 64]⟩
abbrev S8192x16x256 : Shape := ⟨3, ![8192, 16, 256]⟩
abbrev S8192x16x24 : Shape := ⟨3, ![8192, 16, 24]⟩
abbrev S256x16x256 : Shape := ⟨3, ![256, 16, 256]⟩
abbrev S256x16x24 : Shape := ⟨3, ![256, 16, 24]⟩
abbrev S256x32x256 : Shape := ⟨3, ![256, 32, 256]⟩
abbrev S256x32x1 : Shape := ⟨3, ![256, 32, 1]⟩
abbrev S256x16x32 : Shape := ⟨3, ![256, 16, 32]⟩
abbrev S8x32x32x16x24x1 : Shape := ⟨6, ![8, 32, 32, 16, 24, 1]⟩

abbrev nBuf : Space → Nat
  | .hbm => 511
  | .vmem => 13
  | .smem => 0
  | _ => 0

abbrev hbmTy0_0 (i : Nat) : BufTy := match i % 128 with
  | 0 => ⟨S8x32x16x16x16, .f32⟩
  | 1 => ⟨S8x32x32x16x16, .f32⟩
  | 2 => ⟨S8x32x32x16x16x16, .f32⟩
  | 3 => ⟨S8x32x16x16x1, .f32⟩
  | 4 => ⟨S8x32x16x16, .f32⟩
  | 5 => ⟨S256x8x2x8x2, .f32⟩
  | 6 => ⟨S256x2x2x8x8, .f32⟩
  | 7 => ⟨S256x4x64, .f32⟩
  | 8 => ⟨S8192x8x2x8x2, .f32⟩
  | 9 => ⟨S8192x2x2x8x8, .f32⟩
  | 10 => ⟨S8192x4x64, .f32⟩
  | 11 => ⟨S_, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S1, .i32⟩
  | 20 => ⟨S2, .i32⟩
  | 21 => ⟨S24, .i32⟩
  | 22 => ⟨S1, .i32⟩
  | 23 => ⟨S_, .i32⟩
  | 24 => ⟨S1, .i32⟩
  | 25 => ⟨S_, .i32⟩
  | 26 => ⟨S2, .i64⟩
  | 27 => ⟨S_, .i64⟩
  | 28 => ⟨S2, .i64⟩
  | 29 => ⟨S2, .i64⟩
  | 30 => ⟨S_, .i64⟩
  | 31 => ⟨S2, .i64⟩
  | 32 => ⟨S2, .i64⟩
  | 33 => ⟨S2, .i32⟩
  | 34 => ⟨S2, .i32⟩
  | 35 => ⟨S_, .i32⟩
  | 36 => ⟨S_, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S8x32x16x16x16, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S8x32x16x16x16, .f32⟩

abbrev hbmTy0_2 (i : Nat) : BufTy := match i % 128 with
  | 0 => ⟨S2, .i32⟩
  | 1 => ⟨S2x1, .i32⟩
  | 2 => ⟨S2x1, .i32⟩
  | 3 => ⟨S2x2, .i32⟩
  | 4 => ⟨S1x2, .i32⟩
  | 5 => ⟨S2, .i32⟩
  | 6 => ⟨S1x2, .i32⟩
  | 7 => ⟨S2, .i32⟩
  | 8 => ⟨S1, .i32⟩
  | 9 => ⟨S_, .i32⟩
  | 10 => ⟨S1, .i32⟩
  | 11 => ⟨S_, .i32⟩
  | 12 => ⟨S24, .i64⟩
  | 13 => ⟨S_, .i64⟩
  | 14 => ⟨S24, .i64⟩
  | 15 => ⟨S24, .i64⟩
  | 16 => ⟨S_, .i64⟩
  | 17 => ⟨S24, .i64⟩
  | 18 => ⟨S24, .i64⟩
  | 19 => ⟨S24, .i32⟩
  | 20 => ⟨S24, .i32⟩
  | 21 => ⟨S_, .i32⟩
  | 22 => ⟨S_, .i32⟩
  | 23 => ⟨S_, .i32⟩
  | 24 => ⟨S24, .i32⟩
  | 25 => ⟨S24, .i32⟩
  | 26 => ⟨S24, .i32⟩
  | 27 => ⟨S24, .i32⟩
  | 28 => ⟨S24, .i32⟩
  | 29 => ⟨S_, .i32⟩
  | 30 => ⟨S24, .i32⟩
  | 31 => ⟨S24, .i32⟩
  | 32 => ⟨S_, .i32⟩
  | 33 => ⟨S24, .i32⟩
  | 34 => ⟨S24, .i32⟩
  | 35 => ⟨S24, .i32⟩
  | 36 => ⟨S24, .i32⟩
  | 37 => ⟨S24, .i32⟩
  | 38 => ⟨S_, .i32⟩
  | 39 => ⟨S24, .i32⟩
  | 40 => ⟨S24, .i32⟩
  | 41 => ⟨S_, .i32⟩
  | 42 => ⟨S24, .i32⟩
  | 43 => ⟨S24, .i32⟩
  | 44 => ⟨S24, .i32⟩
  | 45 => ⟨S24, .i32⟩
  | 46 => ⟨S24, .i32⟩
  | 47 => ⟨S_, .i32⟩
  | 48 => ⟨S24, .i32⟩
  | 49 => ⟨S24, .i32⟩
  | 50 => ⟨S_, .i32⟩
  | 51 => ⟨S24, .i32⟩
  | 52 => ⟨S24, .i32⟩
  | 53 => ⟨S24, .i32⟩
  | 54 => ⟨S24, .i32⟩
  | 55 => ⟨S24, .i32⟩
  | 56 => ⟨S_, .i32⟩
  | 57 => ⟨S24, .i32⟩
  | 58 => ⟨S24, .i32⟩
  | 59 => ⟨S_, .i32⟩
  | 60 => ⟨S24, .i32⟩
  | 61 => ⟨S24, .i32⟩
  | 62 => ⟨S24, .i32⟩
  | 63 => ⟨S24, .i32⟩
  | 64 => ⟨S24, .i32⟩
  | 65 => ⟨S24, .i32⟩
  | 66 => ⟨S24, .i32⟩
  | 67 => ⟨S24, .i32⟩
  | 68 => ⟨S_, .i32⟩
  | 69 => ⟨S24, .i32⟩
  | 70 => ⟨S24, .i32⟩
  | 71 => ⟨S24, .i32⟩
  | 72 => ⟨S_, .i32⟩
  | 73 => ⟨S24, .i32⟩
  | 74 => ⟨S24, .i32⟩
  | 75 => ⟨S_, .i32⟩
  | 76 => ⟨S24, .i32⟩
  | 77 => ⟨S24, .i32⟩
  | 78 => ⟨S24, .i32⟩
  | 79 => ⟨S24, .i32⟩
  | 80 => ⟨S24, .i32⟩
  | 81 => ⟨S_, .i32⟩
  | 82 => ⟨S24, .i32⟩
  | 83 => ⟨S24, .i32⟩
  | 84 => ⟨S_, .i32⟩
  | 85 => ⟨S24, .i32⟩
  | 86 => ⟨S24, .i32⟩
  | 87 => ⟨S24, .i32⟩
  | 88 => ⟨S24, .i32⟩
  | 89 => ⟨S24, .i32⟩
  | 90 => ⟨S_, .i32⟩
  | 91 => ⟨S24, .i32⟩
  | 92 => ⟨S24, .i32⟩
  | 93 => ⟨S_, .i32⟩
  | 94 => ⟨S24, .i32⟩
  | 95 => ⟨S24, .i32⟩
  | 96 => ⟨S24, .i32⟩
  | 97 => ⟨S24, .i32⟩
  | 98 => ⟨S24, .i32⟩
  | 99 => ⟨S_, .i32⟩
  | 100 => ⟨S24, .i32⟩
  | 101 => ⟨S24, .i32⟩
  | 102 => ⟨S_, .i32⟩
  | 103 => ⟨S24, .i32⟩
  | 104 => ⟨S24, .i32⟩
  | 105 => ⟨S24, .i32⟩
  | 106 => ⟨S24, .i32⟩
  | 107 => ⟨S24, .i32⟩
  | 108 => ⟨S24, .i32⟩
  | 109 => ⟨S24, .i32⟩
  | 110 => ⟨S24, .i32⟩
  | 111 => ⟨S_, .i32⟩
  | 112 => ⟨S24, .i32⟩
  | 113 => ⟨S24, .i32⟩
  | 114 => ⟨S24, .i32⟩
  | 115 => ⟨S_, .i32⟩
  | 116 => ⟨S24, .i32⟩
  | 117 => ⟨S24, .i32⟩
  | 118 => ⟨S_, .i32⟩
  | 119 => ⟨S24, .i32⟩
  | 120 => ⟨S24, .i32⟩
  | 121 => ⟨S24, .i32⟩
  | 122 => ⟨S24, .i32⟩
  | 123 => ⟨S24, .i32⟩
  | 124 => ⟨S_, .i32⟩
  | 125 => ⟨S24, .i32⟩
  | 126 => ⟨S24, .i32⟩
  | 127 => ⟨S_, .i32⟩
  | _ => ⟨S8x32x16x16x16, .f32⟩

abbrev hbmTy0_3 (i : Nat) : BufTy := match i % 128 with
  | 0 => ⟨S24, .i32⟩
  | 1 => ⟨S24, .i32⟩
  | 2 => ⟨S24, .i32⟩
  | 3 => ⟨S24, .i32⟩
  | 4 => ⟨S24, .i32⟩
  | 5 => ⟨S_, .i32⟩
  | 6 => ⟨S24, .i32⟩
  | 7 => ⟨S24, .i32⟩
  | 8 => ⟨S_, .i32⟩
  | 9 => ⟨S24, .i32⟩
  | 10 => ⟨S24, .i32⟩
  | 11 => ⟨S24, .i32⟩
  | 12 => ⟨S24, .i32⟩
  | 13 => ⟨S24, .i32⟩
  | 14 => ⟨S_, .i32⟩
  | 15 => ⟨S24, .i32⟩
  | 16 => ⟨S24, .i32⟩
  | 17 => ⟨S_, .i32⟩
  | 18 => ⟨S24, .i32⟩
  | 19 => ⟨S24, .i32⟩
  | 20 => ⟨S24, .i32⟩
  | 21 => ⟨S24, .i32⟩
  | 22 => ⟨S24, .i32⟩
  | 23 => ⟨S24, .i32⟩
  | 24 => ⟨S24, .i32⟩
  | 25 => ⟨S24, .i32⟩
  | 26 => ⟨S_, .i32⟩
  | 27 => ⟨S24, .i32⟩
  | 28 => ⟨S24, .i32⟩
  | 29 => ⟨S24, .i32⟩
  | 30 => ⟨S_, .i32⟩
  | 31 => ⟨S24, .i32⟩
  | 32 => ⟨S24, .i32⟩
  | 33 => ⟨S_, .i32⟩
  | 34 => ⟨S24, .i32⟩
  | 35 => ⟨S24, .i32⟩
  | 36 => ⟨S24, .i32⟩
  | 37 => ⟨S24, .i32⟩
  | 38 => ⟨S24, .i32⟩
  | 39 => ⟨S_, .i32⟩
  | 40 => ⟨S24, .i32⟩
  | 41 => ⟨S24, .i32⟩
  | 42 => ⟨S_, .i32⟩
  | 43 => ⟨S24, .i32⟩
  | 44 => ⟨S24, .i32⟩
  | 45 => ⟨S24, .i32⟩
  | 46 => ⟨S24, .i32⟩
  | 47 => ⟨S24, .i32⟩
  | 48 => ⟨S_, .i32⟩
  | 49 => ⟨S24, .i32⟩
  | 50 => ⟨S24, .i32⟩
  | 51 => ⟨S_, .i32⟩
  | 52 => ⟨S24, .i32⟩
  | 53 => ⟨S24, .i32⟩
  | 54 => ⟨S24, .i32⟩
  | 55 => ⟨S24, .i32⟩
  | 56 => ⟨S24, .i32⟩
  | 57 => ⟨S_, .i32⟩
  | 58 => ⟨S24, .i32⟩
  | 59 => ⟨S24, .i32⟩
  | 60 => ⟨S_, .i32⟩
  | 61 => ⟨S24, .i32⟩
  | 62 => ⟨S24, .i32⟩
  | 63 => ⟨S24, .i32⟩
  | 64 => ⟨S24, .i32⟩
  | 65 => ⟨S24, .i32⟩
  | 66 => ⟨S24, .i32⟩
  | 67 => ⟨S24, .i32⟩
  | 68 => ⟨S24, .i32⟩
  | 69 => ⟨S_, .i32⟩
  | 70 => ⟨S24, .i32⟩
  | 71 => ⟨S24, .i32⟩
  | 72 => ⟨S24, .i32⟩
  | 73 => ⟨S_, .i32⟩
  | 74 => ⟨S24, .i32⟩
  | 75 => ⟨S24, .i32⟩
  | 76 => ⟨S_, .i32⟩
  | 77 => ⟨S24, .i32⟩
  | 78 => ⟨S24, .i32⟩
  | 79 => ⟨S24, .i32⟩
  | 80 => ⟨S24, .i32⟩
  | 81 => ⟨S24, .i32⟩
  | 82 => ⟨S_, .i32⟩
  | 83 => ⟨S24, .i32⟩
  | 84 => ⟨S24, .i32⟩
  | 85 => ⟨S_, .i32⟩
  | 86 => ⟨S24, .i32⟩
  | 87 => ⟨S24, .i32⟩
  | 88 => ⟨S24, .i32⟩
  | 89 => ⟨S24, .i32⟩
  | 90 => ⟨S24, .i32⟩
  | 91 => ⟨S_, .i32⟩
  | 92 => ⟨S24, .i32⟩
  | 93 => ⟨S24, .i32⟩
  | 94 => ⟨S_, .i32⟩
  | 95 => ⟨S24, .i32⟩
  | 96 => ⟨S24, .i32⟩
  | 97 => ⟨S24, .i32⟩
  | 98 => ⟨S24, .i32⟩
  | 99 => ⟨S24, .i32⟩
  | 100 => ⟨S_, .i32⟩
  | 101 => ⟨S24, .i32⟩
  | 102 => ⟨S24, .i32⟩
  | 103 => ⟨S_, .i32⟩
  | 104 => ⟨S24, .i32⟩
  | 105 => ⟨S24, .i32⟩
  | 106 => ⟨S24, .i32⟩
  | 107 => ⟨S24, .i32⟩
  | 108 => ⟨S24, .i32⟩
  | 109 => ⟨S24, .i32⟩
  | 110 => ⟨S24, .i32⟩
  | 111 => ⟨S24, .i32⟩
  | 112 => ⟨S_, .i32⟩
  | 113 => ⟨S24, .i32⟩
  | 114 => ⟨S24, .i32⟩
  | 115 => ⟨S24, .i32⟩
  | 116 => ⟨S24, .i32⟩
  | 117 => ⟨S24, .i32⟩
  | 118 => ⟨S_, .i32⟩
  | 119 => ⟨S_, .i32⟩
  | 120 => ⟨S32, .i32⟩
  | 121 => ⟨S32x1, .i32⟩
  | 122 => ⟨S32x64, .i32⟩
  | 123 => ⟨S8192x32, .i32⟩
  | 124 => ⟨S8192x16x256, .f32⟩
  | 125 => ⟨S8192x16x24, .f32⟩
  | 126 => ⟨S8x32x32x16x24x1, .f32⟩
  | _ => ⟨S8x32x16x16x16, .f32⟩

abbrev hbmTy (i : Nat) : BufTy := match i / 128 with
  | 0 => hbmTy0_0 i
  | 1 => hbmTy0_1 i
  | 2 => hbmTy0_2 i
  | 3 => hbmTy0_3 i
  | _ => ⟨S8x32x16x16x16, .f32⟩

abbrev bufTy : (tb : Table) → Fin (tcTables nBuf tb) → BufTy
  | .hbm, ⟨i, _⟩ => hbmTy i
  | .local _ .vmem, ⟨0, _⟩ => ⟨S32x4x64, .f32⟩
  | .local _ .vmem, ⟨1, _⟩ => ⟨S32x4x64, .f32⟩
  | .local _ .vmem, ⟨2, _⟩ => ⟨S256x4x64, .f32⟩
  | .local _ .vmem, ⟨3, _⟩ => ⟨S256x4x64, .f32⟩
  | .local _ .vmem, ⟨4, _⟩ => ⟨S32x64, .i32⟩
  | .local _ .vmem, ⟨5, _⟩ => ⟨S256x32, .i32⟩
  | .local _ .vmem, ⟨6, _⟩ => ⟨S256x32, .i32⟩
  | .local _ .vmem, ⟨7, _⟩ => ⟨S256x16x256, .f32⟩
  | .local _ .vmem, ⟨8, _⟩ => ⟨S256x16x256, .f32⟩
  | .local _ .vmem, ⟨9, _⟩ => ⟨S256x32, .i32⟩
  | .local _ .vmem, ⟨10, _⟩ => ⟨S256x32, .i32⟩
  | .local _ .vmem, ⟨11, _⟩ => ⟨S256x16x24, .f32⟩
  | .local _ .vmem, ⟨12, _⟩ => ⟨S256x16x24, .f32⟩
  | _, _ => ⟨S8x32x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_c : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_c_0 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_call0_v0 : Ref sig .tc := ⟨.hbm, 35, rfl⟩
abbrev main_call0_call0_call0_c : Ref sig .tc := ⟨.hbm, 36, rfl⟩
abbrev main_call0_call0_call0_v1 : Ref sig .tc := ⟨.hbm, 37, rfl⟩
abbrev main_call0_call0_call0_v2 : Ref sig .tc := ⟨.hbm, 38, rfl⟩
abbrev main_call0_call0_call0_v3 : Ref sig .tc := ⟨.hbm, 39, rfl⟩
abbrev main_call0_call0_call0_v4 : Ref sig .tc := ⟨.hbm, 40, rfl⟩
abbrev main_call0_call0_call0_v5 : Ref sig .tc := ⟨.hbm, 41, rfl⟩
abbrev main_call0_call0_call0_v6 : Ref sig .tc := ⟨.hbm, 42, rfl⟩
abbrev main_call0_call0_call0_c_0 : Ref sig .tc := ⟨.hbm, 43, rfl⟩
abbrev main_call0_call0_call0_v7 : Ref sig .tc := ⟨.hbm, 44, rfl⟩
abbrev main_call0_call0_call0_v8 : Ref sig .tc := ⟨.hbm, 45, rfl⟩
abbrev main_call0_call0_call0_c_1 : Ref sig .tc := ⟨.hbm, 46, rfl⟩
abbrev main_call0_call0_call0_v9 : Ref sig .tc := ⟨.hbm, 47, rfl⟩
abbrev main_call0_call0_call0_v10 : Ref sig .tc := ⟨.hbm, 48, rfl⟩
abbrev main_call0_call0_call0_v11 : Ref sig .tc := ⟨.hbm, 49, rfl⟩
abbrev main_call0_call0_call0_v12 : Ref sig .tc := ⟨.hbm, 50, rfl⟩
abbrev main_call0_call0_call0_v13 : Ref sig .tc := ⟨.hbm, 51, rfl⟩
abbrev main_call0_call0_call0_c_2 : Ref sig .tc := ⟨.hbm, 52, rfl⟩
abbrev main_call0_call0_call0_v14 : Ref sig .tc := ⟨.hbm, 53, rfl⟩
abbrev main_call0_call0_call0_v15 : Ref sig .tc := ⟨.hbm, 54, rfl⟩
abbrev main_call0_call0_call0_c_3 : Ref sig .tc := ⟨.hbm, 55, rfl⟩
abbrev main_call0_call0_call0_v16 : Ref sig .tc := ⟨.hbm, 56, rfl⟩
abbrev main_call0_call0_call0_v17 : Ref sig .tc := ⟨.hbm, 57, rfl⟩
abbrev main_call0_call0_call0_v18 : Ref sig .tc := ⟨.hbm, 58, rfl⟩
abbrev main_call0_call0_call0_v19 : Ref sig .tc := ⟨.hbm, 59, rfl⟩
abbrev main_call0_call0_call0_v20 : Ref sig .tc := ⟨.hbm, 60, rfl⟩
abbrev main_call0_call0_call0_c_4 : Ref sig .tc := ⟨.hbm, 61, rfl⟩
abbrev main_call0_call0_call0_v21 : Ref sig .tc := ⟨.hbm, 62, rfl⟩
abbrev main_call0_call0_call0_v22 : Ref sig .tc := ⟨.hbm, 63, rfl⟩
abbrev main_call0_call0_call0_c_5 : Ref sig .tc := ⟨.hbm, 64, rfl⟩
abbrev main_call0_call0_call0_v23 : Ref sig .tc := ⟨.hbm, 65, rfl⟩
abbrev main_call0_call0_call0_v24 : Ref sig .tc := ⟨.hbm, 66, rfl⟩
abbrev main_call0_call0_call0_v25 : Ref sig .tc := ⟨.hbm, 67, rfl⟩
abbrev main_call0_call0_call0_v26 : Ref sig .tc := ⟨.hbm, 68, rfl⟩
abbrev main_call0_call0_call0_v27 : Ref sig .tc := ⟨.hbm, 69, rfl⟩
abbrev main_call0_call0_call0_c_6 : Ref sig .tc := ⟨.hbm, 70, rfl⟩
abbrev main_call0_call0_call0_v28 : Ref sig .tc := ⟨.hbm, 71, rfl⟩
abbrev main_call0_call0_call0_v29 : Ref sig .tc := ⟨.hbm, 72, rfl⟩
abbrev main_call0_call0_call0_c_7 : Ref sig .tc := ⟨.hbm, 73, rfl⟩
abbrev main_call0_call0_call0_v30 : Ref sig .tc := ⟨.hbm, 74, rfl⟩
abbrev main_call0_call0_call0_v31 : Ref sig .tc := ⟨.hbm, 75, rfl⟩
abbrev main_call0_call0_call0_v32 : Ref sig .tc := ⟨.hbm, 76, rfl⟩
abbrev main_call0_call0_call0_v33 : Ref sig .tc := ⟨.hbm, 77, rfl⟩
abbrev main_call0_call0_call0_v34 : Ref sig .tc := ⟨.hbm, 78, rfl⟩
abbrev main_call0_call0_call0_v35 : Ref sig .tc := ⟨.hbm, 79, rfl⟩
abbrev main_call0_call0_call0_v36 : Ref sig .tc := ⟨.hbm, 80, rfl⟩
abbrev main_call0_call0_call0_v37 : Ref sig .tc := ⟨.hbm, 81, rfl⟩
abbrev main_call0_call0_call0_c_8 : Ref sig .tc := ⟨.hbm, 82, rfl⟩
abbrev main_call0_call0_call0_v38 : Ref sig .tc := ⟨.hbm, 83, rfl⟩
abbrev main_call0_call0_call0_v39 : Ref sig .tc := ⟨.hbm, 84, rfl⟩
abbrev main_call0_call0_call0_v40 : Ref sig .tc := ⟨.hbm, 85, rfl⟩
abbrev main_call0_call0_call0_c_9 : Ref sig .tc := ⟨.hbm, 86, rfl⟩
abbrev main_call0_call0_call0_v41 : Ref sig .tc := ⟨.hbm, 87, rfl⟩
abbrev main_call0_call0_call0_v42 : Ref sig .tc := ⟨.hbm, 88, rfl⟩
abbrev main_call0_call0_call0_c_10 : Ref sig .tc := ⟨.hbm, 89, rfl⟩
abbrev main_call0_call0_call0_v43 : Ref sig .tc := ⟨.hbm, 90, rfl⟩
abbrev main_call0_call0_call0_v44 : Ref sig .tc := ⟨.hbm, 91, rfl⟩
abbrev main_call0_call0_call0_v45 : Ref sig .tc := ⟨.hbm, 92, rfl⟩
abbrev main_call0_call0_call0_v46 : Ref sig .tc := ⟨.hbm, 93, rfl⟩
abbrev main_call0_call0_call0_v47 : Ref sig .tc := ⟨.hbm, 94, rfl⟩
abbrev main_call0_call0_call0_c_11 : Ref sig .tc := ⟨.hbm, 95, rfl⟩
abbrev main_call0_call0_call0_v48 : Ref sig .tc := ⟨.hbm, 96, rfl⟩
abbrev main_call0_call0_call0_v49 : Ref sig .tc := ⟨.hbm, 97, rfl⟩
abbrev main_call0_call0_call0_c_12 : Ref sig .tc := ⟨.hbm, 98, rfl⟩
abbrev main_call0_call0_call0_v50 : Ref sig .tc := ⟨.hbm, 99, rfl⟩
abbrev main_call0_call0_call0_v51 : Ref sig .tc := ⟨.hbm, 100, rfl⟩
abbrev main_call0_call0_call0_v52 : Ref sig .tc := ⟨.hbm, 101, rfl⟩
abbrev main_call0_call0_call0_v53 : Ref sig .tc := ⟨.hbm, 102, rfl⟩
abbrev main_call0_call0_call0_v54 : Ref sig .tc := ⟨.hbm, 103, rfl⟩
abbrev main_call0_call0_call0_c_13 : Ref sig .tc := ⟨.hbm, 104, rfl⟩
abbrev main_call0_call0_call0_v55 : Ref sig .tc := ⟨.hbm, 105, rfl⟩
abbrev main_call0_call0_call0_v56 : Ref sig .tc := ⟨.hbm, 106, rfl⟩
abbrev main_call0_call0_call0_c_14 : Ref sig .tc := ⟨.hbm, 107, rfl⟩
abbrev main_call0_call0_call0_v57 : Ref sig .tc := ⟨.hbm, 108, rfl⟩
abbrev main_call0_call0_call0_v58 : Ref sig .tc := ⟨.hbm, 109, rfl⟩
abbrev main_call0_call0_call0_v59 : Ref sig .tc := ⟨.hbm, 110, rfl⟩
abbrev main_call0_call0_call0_v60 : Ref sig .tc := ⟨.hbm, 111, rfl⟩
abbrev main_call0_call0_call0_v61 : Ref sig .tc := ⟨.hbm, 112, rfl⟩
abbrev main_call0_call0_call0_c_15 : Ref sig .tc := ⟨.hbm, 113, rfl⟩
abbrev main_call0_call0_call0_v62 : Ref sig .tc := ⟨.hbm, 114, rfl⟩
abbrev main_call0_call0_call0_v63 : Ref sig .tc := ⟨.hbm, 115, rfl⟩
abbrev main_call0_call0_call0_c_16 : Ref sig .tc := ⟨.hbm, 116, rfl⟩
abbrev main_call0_call0_call0_v64 : Ref sig .tc := ⟨.hbm, 117, rfl⟩
abbrev main_call0_call0_call0_v65 : Ref sig .tc := ⟨.hbm, 118, rfl⟩
abbrev main_call0_call0_call0_v66 : Ref sig .tc := ⟨.hbm, 119, rfl⟩
abbrev main_call0_call0_call0_v67 : Ref sig .tc := ⟨.hbm, 120, rfl⟩
abbrev main_call0_call0_call0_v68 : Ref sig .tc := ⟨.hbm, 121, rfl⟩
abbrev main_call0_call0_call0_v69 : Ref sig .tc := ⟨.hbm, 122, rfl⟩
abbrev main_call0_call0_call0_v70 : Ref sig .tc := ⟨.hbm, 123, rfl⟩
abbrev main_call0_call0_call0_v71 : Ref sig .tc := ⟨.hbm, 124, rfl⟩
abbrev main_call0_call0_call0_c_17 : Ref sig .tc := ⟨.hbm, 125, rfl⟩
abbrev main_call0_call0_call0_v72 : Ref sig .tc := ⟨.hbm, 126, rfl⟩
abbrev main_call0_call0_call0_v73 : Ref sig .tc := ⟨.hbm, 127, rfl⟩
abbrev main_call0_call0_call0_v74 : Ref sig .tc := ⟨.hbm, 128, rfl⟩
abbrev main_call0_call0_call0_c_18 : Ref sig .tc := ⟨.hbm, 129, rfl⟩
abbrev main_call0_call0_call0_v75 : Ref sig .tc := ⟨.hbm, 130, rfl⟩
abbrev main_call0_call0_call0_v76 : Ref sig .tc := ⟨.hbm, 131, rfl⟩
abbrev main_call0_call0_call0_c_19 : Ref sig .tc := ⟨.hbm, 132, rfl⟩
abbrev main_call0_call0_call0_v77 : Ref sig .tc := ⟨.hbm, 133, rfl⟩
abbrev main_call0_call0_call0_v78 : Ref sig .tc := ⟨.hbm, 134, rfl⟩
abbrev main_call0_call0_call0_v79 : Ref sig .tc := ⟨.hbm, 135, rfl⟩
abbrev main_call0_call0_call0_v80 : Ref sig .tc := ⟨.hbm, 136, rfl⟩
abbrev main_call0_call0_call0_v81 : Ref sig .tc := ⟨.hbm, 137, rfl⟩
abbrev main_call0_call0_call0_c_20 : Ref sig .tc := ⟨.hbm, 138, rfl⟩
abbrev main_call0_call0_call0_v82 : Ref sig .tc := ⟨.hbm, 139, rfl⟩
abbrev main_call0_call0_call0_v83 : Ref sig .tc := ⟨.hbm, 140, rfl⟩
abbrev main_call0_call0_call0_c_21 : Ref sig .tc := ⟨.hbm, 141, rfl⟩
abbrev main_call0_call0_call0_v84 : Ref sig .tc := ⟨.hbm, 142, rfl⟩
abbrev main_call0_call0_call0_v85 : Ref sig .tc := ⟨.hbm, 143, rfl⟩
abbrev main_call0_call0_call0_v86 : Ref sig .tc := ⟨.hbm, 144, rfl⟩
abbrev main_call0_call0_call0_v87 : Ref sig .tc := ⟨.hbm, 145, rfl⟩
abbrev main_call0_call0_call0_v88 : Ref sig .tc := ⟨.hbm, 146, rfl⟩
abbrev main_call0_call0_call0_c_22 : Ref sig .tc := ⟨.hbm, 147, rfl⟩
abbrev main_call0_call0_call0_v89 : Ref sig .tc := ⟨.hbm, 148, rfl⟩
abbrev main_call0_call0_call0_v90 : Ref sig .tc := ⟨.hbm, 149, rfl⟩
abbrev main_call0_call0_call0_c_23 : Ref sig .tc := ⟨.hbm, 150, rfl⟩
abbrev main_call0_call0_call0_v91 : Ref sig .tc := ⟨.hbm, 151, rfl⟩
abbrev main_call0_call0_call0_v92 : Ref sig .tc := ⟨.hbm, 152, rfl⟩
abbrev main_call0_call0_call0_v93 : Ref sig .tc := ⟨.hbm, 153, rfl⟩
abbrev main_call0_call0_call0_v94 : Ref sig .tc := ⟨.hbm, 154, rfl⟩
abbrev main_call0_call0_call0_v95 : Ref sig .tc := ⟨.hbm, 155, rfl⟩
abbrev main_call0_call0_call0_c_24 : Ref sig .tc := ⟨.hbm, 156, rfl⟩
abbrev main_call0_call0_call0_v96 : Ref sig .tc := ⟨.hbm, 157, rfl⟩
abbrev main_call0_call0_call0_v97 : Ref sig .tc := ⟨.hbm, 158, rfl⟩
abbrev main_call0_call0_call0_c_25 : Ref sig .tc := ⟨.hbm, 159, rfl⟩
abbrev main_call0_call0_call0_v98 : Ref sig .tc := ⟨.hbm, 160, rfl⟩
abbrev main_call0_call0_call0_v99 : Ref sig .tc := ⟨.hbm, 161, rfl⟩
abbrev main_call0_call0_call0_v100 : Ref sig .tc := ⟨.hbm, 162, rfl⟩
abbrev main_call0_call0_call0_v101 : Ref sig .tc := ⟨.hbm, 163, rfl⟩
abbrev main_call0_call0_call0_v102 : Ref sig .tc := ⟨.hbm, 164, rfl⟩
abbrev main_call0_call0_call0_v103 : Ref sig .tc := ⟨.hbm, 165, rfl⟩
abbrev main_call0_call0_call0_v104 : Ref sig .tc := ⟨.hbm, 166, rfl⟩
abbrev main_call0_call0_call0_v105 : Ref sig .tc := ⟨.hbm, 167, rfl⟩
abbrev main_call0_call0_call0_c_26 : Ref sig .tc := ⟨.hbm, 168, rfl⟩
abbrev main_call0_call0_call0_v106 : Ref sig .tc := ⟨.hbm, 169, rfl⟩
abbrev main_call0_call0_call0_v107 : Ref sig .tc := ⟨.hbm, 170, rfl⟩
abbrev main_call0_call0_call0_v108 : Ref sig .tc := ⟨.hbm, 171, rfl⟩
abbrev main_call0_call0_call0_c_27 : Ref sig .tc := ⟨.hbm, 172, rfl⟩
abbrev main_call0_call0_call0_v109 : Ref sig .tc := ⟨.hbm, 173, rfl⟩
abbrev main_call0_call0_call0_v110 : Ref sig .tc := ⟨.hbm, 174, rfl⟩
abbrev main_call0_call0_call0_c_28 : Ref sig .tc := ⟨.hbm, 175, rfl⟩
abbrev main_call0_call0_call0_v111 : Ref sig .tc := ⟨.hbm, 176, rfl⟩
abbrev main_call0_call0_call0_v112 : Ref sig .tc := ⟨.hbm, 177, rfl⟩
abbrev main_call0_call0_call0_v113 : Ref sig .tc := ⟨.hbm, 178, rfl⟩
abbrev main_call0_call0_call0_v114 : Ref sig .tc := ⟨.hbm, 179, rfl⟩
abbrev main_call0_call0_call0_v115 : Ref sig .tc := ⟨.hbm, 180, rfl⟩
abbrev main_call0_call0_call0_c_29 : Ref sig .tc := ⟨.hbm, 181, rfl⟩
abbrev main_call0_call0_call0_v116 : Ref sig .tc := ⟨.hbm, 182, rfl⟩
abbrev main_call0_call0_call0_v117 : Ref sig .tc := ⟨.hbm, 183, rfl⟩
abbrev main_call0_call0_call0_c_30 : Ref sig .tc := ⟨.hbm, 184, rfl⟩
abbrev main_call0_call0_call0_v118 : Ref sig .tc := ⟨.hbm, 185, rfl⟩
abbrev main_call0_call0_call0_v119 : Ref sig .tc := ⟨.hbm, 186, rfl⟩
abbrev main_call0_call0_call0_v120 : Ref sig .tc := ⟨.hbm, 187, rfl⟩
abbrev main_call0_call0_call0_v121 : Ref sig .tc := ⟨.hbm, 188, rfl⟩
abbrev main_call0_call0_call0_v122 : Ref sig .tc := ⟨.hbm, 189, rfl⟩
abbrev main_call0_call0_call0_c_31 : Ref sig .tc := ⟨.hbm, 190, rfl⟩
abbrev main_call0_call0_call0_v123 : Ref sig .tc := ⟨.hbm, 191, rfl⟩
abbrev main_call0_call0_call0_v124 : Ref sig .tc := ⟨.hbm, 192, rfl⟩
abbrev main_call0_call0_call0_c_32 : Ref sig .tc := ⟨.hbm, 193, rfl⟩
abbrev main_call0_call0_call0_v125 : Ref sig .tc := ⟨.hbm, 194, rfl⟩
abbrev main_call0_call0_call0_v126 : Ref sig .tc := ⟨.hbm, 195, rfl⟩
abbrev main_call0_call0_call0_v127 : Ref sig .tc := ⟨.hbm, 196, rfl⟩
abbrev main_call0_call0_call0_v128 : Ref sig .tc := ⟨.hbm, 197, rfl⟩
abbrev main_call0_call0_call0_v129 : Ref sig .tc := ⟨.hbm, 198, rfl⟩
abbrev main_call0_call0_call0_c_33 : Ref sig .tc := ⟨.hbm, 199, rfl⟩
abbrev main_call0_call0_call0_v130 : Ref sig .tc := ⟨.hbm, 200, rfl⟩
abbrev main_call0_call0_call0_v131 : Ref sig .tc := ⟨.hbm, 201, rfl⟩
abbrev main_call0_call0_call0_c_34 : Ref sig .tc := ⟨.hbm, 202, rfl⟩
abbrev main_call0_call0_call0_v132 : Ref sig .tc := ⟨.hbm, 203, rfl⟩
abbrev main_call0_call0_call0_v133 : Ref sig .tc := ⟨.hbm, 204, rfl⟩
abbrev main_call0_call0_call0_v134 : Ref sig .tc := ⟨.hbm, 205, rfl⟩
abbrev main_call0_call0_call0_v135 : Ref sig .tc := ⟨.hbm, 206, rfl⟩
abbrev main_call0_call0_call0_v136 : Ref sig .tc := ⟨.hbm, 207, rfl⟩
abbrev main_call0_call0_call0_v137 : Ref sig .tc := ⟨.hbm, 208, rfl⟩
abbrev main_call0_call0_call0_v138 : Ref sig .tc := ⟨.hbm, 209, rfl⟩
abbrev main_call0_call0_call0_v139 : Ref sig .tc := ⟨.hbm, 210, rfl⟩
abbrev main_call0_call0_call0_c_35 : Ref sig .tc := ⟨.hbm, 211, rfl⟩
abbrev main_call0_call0_call0_v140 : Ref sig .tc := ⟨.hbm, 212, rfl⟩
abbrev main_call0_call0_call0_v141 : Ref sig .tc := ⟨.hbm, 213, rfl⟩
abbrev main_call0_call0_call0_v142 : Ref sig .tc := ⟨.hbm, 214, rfl⟩
abbrev main_call0_call0_call0_c_36 : Ref sig .tc := ⟨.hbm, 215, rfl⟩
abbrev main_call0_call0_call0_v143 : Ref sig .tc := ⟨.hbm, 216, rfl⟩
abbrev main_call0_call0_call0_v144 : Ref sig .tc := ⟨.hbm, 217, rfl⟩
abbrev main_call0_call0_call0_c_37 : Ref sig .tc := ⟨.hbm, 218, rfl⟩
abbrev main_call0_call0_call0_v145 : Ref sig .tc := ⟨.hbm, 219, rfl⟩
abbrev main_call0_call0_call0_v146 : Ref sig .tc := ⟨.hbm, 220, rfl⟩
abbrev main_call0_call0_call0_v147 : Ref sig .tc := ⟨.hbm, 221, rfl⟩
abbrev main_call0_call0_call0_v148 : Ref sig .tc := ⟨.hbm, 222, rfl⟩
abbrev main_call0_call0_call0_v149 : Ref sig .tc := ⟨.hbm, 223, rfl⟩
abbrev main_call0_call0_call0_c_38 : Ref sig .tc := ⟨.hbm, 224, rfl⟩
abbrev main_call0_call0_call0_v150 : Ref sig .tc := ⟨.hbm, 225, rfl⟩
abbrev main_call0_call0_call0_v151 : Ref sig .tc := ⟨.hbm, 226, rfl⟩
abbrev main_call0_call0_call0_c_39 : Ref sig .tc := ⟨.hbm, 227, rfl⟩
abbrev main_call0_call0_call0_v152 : Ref sig .tc := ⟨.hbm, 228, rfl⟩
abbrev main_call0_call0_call0_v153 : Ref sig .tc := ⟨.hbm, 229, rfl⟩
abbrev main_call0_call0_call0_v154 : Ref sig .tc := ⟨.hbm, 230, rfl⟩
abbrev main_call0_call0_call0_v155 : Ref sig .tc := ⟨.hbm, 231, rfl⟩
abbrev main_call0_call0_call0_v156 : Ref sig .tc := ⟨.hbm, 232, rfl⟩
abbrev main_call0_call0_call0_c_40 : Ref sig .tc := ⟨.hbm, 233, rfl⟩
abbrev main_call0_call0_call0_v157 : Ref sig .tc := ⟨.hbm, 234, rfl⟩
abbrev main_call0_call0_call0_v158 : Ref sig .tc := ⟨.hbm, 235, rfl⟩
abbrev main_call0_call0_call0_c_41 : Ref sig .tc := ⟨.hbm, 236, rfl⟩
abbrev main_call0_call0_call0_v159 : Ref sig .tc := ⟨.hbm, 237, rfl⟩
abbrev main_call0_call0_call0_v160 : Ref sig .tc := ⟨.hbm, 238, rfl⟩
abbrev main_call0_call0_call0_v161 : Ref sig .tc := ⟨.hbm, 239, rfl⟩
abbrev main_call0_call0_call0_v162 : Ref sig .tc := ⟨.hbm, 240, rfl⟩
abbrev main_call0_call0_call0_v163 : Ref sig .tc := ⟨.hbm, 241, rfl⟩
abbrev main_call0_call0_call0_c_42 : Ref sig .tc := ⟨.hbm, 242, rfl⟩
abbrev main_call0_call0_call0_v164 : Ref sig .tc := ⟨.hbm, 243, rfl⟩
abbrev main_call0_call0_call0_v165 : Ref sig .tc := ⟨.hbm, 244, rfl⟩
abbrev main_call0_call0_call0_c_43 : Ref sig .tc := ⟨.hbm, 245, rfl⟩
abbrev main_call0_call0_call0_v166 : Ref sig .tc := ⟨.hbm, 246, rfl⟩
abbrev main_call0_call0_call0_v167 : Ref sig .tc := ⟨.hbm, 247, rfl⟩
abbrev main_call0_call0_call0_v168 : Ref sig .tc := ⟨.hbm, 248, rfl⟩
abbrev main_call0_call0_call0_v169 : Ref sig .tc := ⟨.hbm, 249, rfl⟩
abbrev main_call0_call0_call0_v170 : Ref sig .tc := ⟨.hbm, 250, rfl⟩
abbrev main_call0_call0_v11_0 : Ref sig .tc := ⟨.hbm, 251, rfl⟩
abbrev main_call0_call0_call0_v172 : Ref sig .tc := ⟨.hbm, 252, rfl⟩
abbrev main_call0_call0_call0_v173 : Ref sig .tc := ⟨.hbm, 253, rfl⟩
abbrev main_call0_call0_call0_c_44 : Ref sig .tc := ⟨.hbm, 254, rfl⟩
abbrev main_call0_call0_call0_v174 : Ref sig .tc := ⟨.hbm, 255, rfl⟩
abbrev main_call0_call0_v11_1 : Ref sig .tc := ⟨.hbm, 256, rfl⟩
abbrev main_call0_call0_v12 : Ref sig .tc := ⟨.hbm, 257, rfl⟩
abbrev main_call0_call0_v13 : Ref sig .tc := ⟨.hbm, 258, rfl⟩
abbrev main_call0_v0 : Ref sig .tc := ⟨.hbm, 259, rfl⟩
abbrev main_call0_v1 : Ref sig .tc := ⟨.hbm, 260, rfl⟩
abbrev main_call0_v2 : Ref sig .tc := ⟨.hbm, 261, rfl⟩
abbrev main_call0_v3 : Ref sig .tc := ⟨.hbm, 262, rfl⟩
abbrev main_call0_v4 : Ref sig .tc := ⟨.hbm, 263, rfl⟩
abbrev main_call0_v5 : Ref sig .tc := ⟨.hbm, 264, rfl⟩
abbrev main_call0_v6 : Ref sig .tc := ⟨.hbm, 265, rfl⟩
abbrev main_call0_v7 : Ref sig .tc := ⟨.hbm, 266, rfl⟩
abbrev main_call0_v8 : Ref sig .tc := ⟨.hbm, 267, rfl⟩
abbrev main_call0_v9 : Ref sig .tc := ⟨.hbm, 268, rfl⟩
abbrev main_call0_c : Ref sig .tc := ⟨.hbm, 269, rfl⟩
abbrev main_call0_v10 : Ref sig .tc := ⟨.hbm, 270, rfl⟩
abbrev main_call0_v11 : Ref sig .tc := ⟨.hbm, 271, rfl⟩
abbrev main_call0_c_0 : Ref sig .tc := ⟨.hbm, 272, rfl⟩
abbrev main_call0_v12 : Ref sig .tc := ⟨.hbm, 273, rfl⟩
abbrev main_call0_v13 : Ref sig .tc := ⟨.hbm, 274, rfl⟩
abbrev main_call0_v14 : Ref sig .tc := ⟨.hbm, 275, rfl⟩
abbrev main_call0_v15 : Ref sig .tc := ⟨.hbm, 276, rfl⟩
abbrev main_call0_call1_v0 : Ref sig .tc := ⟨.hbm, 277, rfl⟩
abbrev main_call0_call1_c : Ref sig .tc := ⟨.hbm, 278, rfl⟩
abbrev main_call0_call1_v1 : Ref sig .tc := ⟨.hbm, 279, rfl⟩
abbrev main_call0_call1_v2 : Ref sig .tc := ⟨.hbm, 280, rfl⟩
abbrev main_call0_call1_v3 : Ref sig .tc := ⟨.hbm, 281, rfl⟩
abbrev main_call0_call1_v4 : Ref sig .tc := ⟨.hbm, 282, rfl⟩
abbrev main_call0_call1_v5 : Ref sig .tc := ⟨.hbm, 283, rfl⟩
abbrev main_call0_call1_v6 : Ref sig .tc := ⟨.hbm, 284, rfl⟩
abbrev main_call0_call1_c_0 : Ref sig .tc := ⟨.hbm, 285, rfl⟩
abbrev main_call0_call1_v7 : Ref sig .tc := ⟨.hbm, 286, rfl⟩
abbrev main_call0_call1_v8 : Ref sig .tc := ⟨.hbm, 287, rfl⟩
abbrev main_call0_call1_c_1 : Ref sig .tc := ⟨.hbm, 288, rfl⟩
abbrev main_call0_call1_v9 : Ref sig .tc := ⟨.hbm, 289, rfl⟩
abbrev main_call0_call1_v10 : Ref sig .tc := ⟨.hbm, 290, rfl⟩
abbrev main_call0_call1_v11 : Ref sig .tc := ⟨.hbm, 291, rfl⟩
abbrev main_call0_call1_v12 : Ref sig .tc := ⟨.hbm, 292, rfl⟩
abbrev main_call0_call1_v13 : Ref sig .tc := ⟨.hbm, 293, rfl⟩
abbrev main_call0_call1_c_2 : Ref sig .tc := ⟨.hbm, 294, rfl⟩
abbrev main_call0_call1_v14 : Ref sig .tc := ⟨.hbm, 295, rfl⟩
abbrev main_call0_call1_v15 : Ref sig .tc := ⟨.hbm, 296, rfl⟩
abbrev main_call0_call1_c_3 : Ref sig .tc := ⟨.hbm, 297, rfl⟩
abbrev main_call0_call1_v16 : Ref sig .tc := ⟨.hbm, 298, rfl⟩
abbrev main_call0_call1_v17 : Ref sig .tc := ⟨.hbm, 299, rfl⟩
abbrev main_call0_call1_v18 : Ref sig .tc := ⟨.hbm, 300, rfl⟩
abbrev main_call0_call1_v19 : Ref sig .tc := ⟨.hbm, 301, rfl⟩
abbrev main_call0_call1_v20 : Ref sig .tc := ⟨.hbm, 302, rfl⟩
abbrev main_call0_call1_c_4 : Ref sig .tc := ⟨.hbm, 303, rfl⟩
abbrev main_call0_call1_v21 : Ref sig .tc := ⟨.hbm, 304, rfl⟩
abbrev main_call0_call1_v22 : Ref sig .tc := ⟨.hbm, 305, rfl⟩
abbrev main_call0_call1_c_5 : Ref sig .tc := ⟨.hbm, 306, rfl⟩
abbrev main_call0_call1_v23 : Ref sig .tc := ⟨.hbm, 307, rfl⟩
abbrev main_call0_call1_v24 : Ref sig .tc := ⟨.hbm, 308, rfl⟩
abbrev main_call0_call1_v25 : Ref sig .tc := ⟨.hbm, 309, rfl⟩
abbrev main_call0_call1_v26 : Ref sig .tc := ⟨.hbm, 310, rfl⟩
abbrev main_call0_call1_v27 : Ref sig .tc := ⟨.hbm, 311, rfl⟩
abbrev main_call0_call1_c_6 : Ref sig .tc := ⟨.hbm, 312, rfl⟩
abbrev main_call0_call1_v28 : Ref sig .tc := ⟨.hbm, 313, rfl⟩
abbrev main_call0_call1_v29 : Ref sig .tc := ⟨.hbm, 314, rfl⟩
abbrev main_call0_call1_c_7 : Ref sig .tc := ⟨.hbm, 315, rfl⟩
abbrev main_call0_call1_v30 : Ref sig .tc := ⟨.hbm, 316, rfl⟩
abbrev main_call0_call1_v31 : Ref sig .tc := ⟨.hbm, 317, rfl⟩
abbrev main_call0_call1_v32 : Ref sig .tc := ⟨.hbm, 318, rfl⟩
abbrev main_call0_call1_v33 : Ref sig .tc := ⟨.hbm, 319, rfl⟩
abbrev main_call0_call1_v34 : Ref sig .tc := ⟨.hbm, 320, rfl⟩
abbrev main_call0_call1_v35 : Ref sig .tc := ⟨.hbm, 321, rfl⟩
abbrev main_call0_call1_v36 : Ref sig .tc := ⟨.hbm, 322, rfl⟩
abbrev main_call0_call1_v37 : Ref sig .tc := ⟨.hbm, 323, rfl⟩
abbrev main_call0_call1_c_8 : Ref sig .tc := ⟨.hbm, 324, rfl⟩
abbrev main_call0_call1_v38 : Ref sig .tc := ⟨.hbm, 325, rfl⟩
abbrev main_call0_call1_v39 : Ref sig .tc := ⟨.hbm, 326, rfl⟩
abbrev main_call0_call1_v40 : Ref sig .tc := ⟨.hbm, 327, rfl⟩
abbrev main_call0_call1_c_9 : Ref sig .tc := ⟨.hbm, 328, rfl⟩
abbrev main_call0_call1_v41 : Ref sig .tc := ⟨.hbm, 329, rfl⟩
abbrev main_call0_call1_v42 : Ref sig .tc := ⟨.hbm, 330, rfl⟩
abbrev main_call0_call1_c_10 : Ref sig .tc := ⟨.hbm, 331, rfl⟩
abbrev main_call0_call1_v43 : Ref sig .tc := ⟨.hbm, 332, rfl⟩
abbrev main_call0_call1_v44 : Ref sig .tc := ⟨.hbm, 333, rfl⟩
abbrev main_call0_call1_v45 : Ref sig .tc := ⟨.hbm, 334, rfl⟩
abbrev main_call0_call1_v46 : Ref sig .tc := ⟨.hbm, 335, rfl⟩
abbrev main_call0_call1_v47 : Ref sig .tc := ⟨.hbm, 336, rfl⟩
abbrev main_call0_call1_c_11 : Ref sig .tc := ⟨.hbm, 337, rfl⟩
abbrev main_call0_call1_v48 : Ref sig .tc := ⟨.hbm, 338, rfl⟩
abbrev main_call0_call1_v49 : Ref sig .tc := ⟨.hbm, 339, rfl⟩
abbrev main_call0_call1_c_12 : Ref sig .tc := ⟨.hbm, 340, rfl⟩
abbrev main_call0_call1_v50 : Ref sig .tc := ⟨.hbm, 341, rfl⟩
abbrev main_call0_call1_v51 : Ref sig .tc := ⟨.hbm, 342, rfl⟩
abbrev main_call0_call1_v52 : Ref sig .tc := ⟨.hbm, 343, rfl⟩
abbrev main_call0_call1_v53 : Ref sig .tc := ⟨.hbm, 344, rfl⟩
abbrev main_call0_call1_v54 : Ref sig .tc := ⟨.hbm, 345, rfl⟩
abbrev main_call0_call1_c_13 : Ref sig .tc := ⟨.hbm, 346, rfl⟩
abbrev main_call0_call1_v55 : Ref sig .tc := ⟨.hbm, 347, rfl⟩
abbrev main_call0_call1_v56 : Ref sig .tc := ⟨.hbm, 348, rfl⟩
abbrev main_call0_call1_c_14 : Ref sig .tc := ⟨.hbm, 349, rfl⟩
abbrev main_call0_call1_v57 : Ref sig .tc := ⟨.hbm, 350, rfl⟩
abbrev main_call0_call1_v58 : Ref sig .tc := ⟨.hbm, 351, rfl⟩
abbrev main_call0_call1_v59 : Ref sig .tc := ⟨.hbm, 352, rfl⟩
abbrev main_call0_call1_v60 : Ref sig .tc := ⟨.hbm, 353, rfl⟩
abbrev main_call0_call1_v61 : Ref sig .tc := ⟨.hbm, 354, rfl⟩
abbrev main_call0_call1_c_15 : Ref sig .tc := ⟨.hbm, 355, rfl⟩
abbrev main_call0_call1_v62 : Ref sig .tc := ⟨.hbm, 356, rfl⟩
abbrev main_call0_call1_v63 : Ref sig .tc := ⟨.hbm, 357, rfl⟩
abbrev main_call0_call1_c_16 : Ref sig .tc := ⟨.hbm, 358, rfl⟩
abbrev main_call0_call1_v64 : Ref sig .tc := ⟨.hbm, 359, rfl⟩
abbrev main_call0_call1_v65 : Ref sig .tc := ⟨.hbm, 360, rfl⟩
abbrev main_call0_call1_v66 : Ref sig .tc := ⟨.hbm, 361, rfl⟩
abbrev main_call0_call1_v67 : Ref sig .tc := ⟨.hbm, 362, rfl⟩
abbrev main_call0_call1_v68 : Ref sig .tc := ⟨.hbm, 363, rfl⟩
abbrev main_call0_call1_v69 : Ref sig .tc := ⟨.hbm, 364, rfl⟩
abbrev main_call0_call1_v70 : Ref sig .tc := ⟨.hbm, 365, rfl⟩
abbrev main_call0_call1_v71 : Ref sig .tc := ⟨.hbm, 366, rfl⟩
abbrev main_call0_call1_c_17 : Ref sig .tc := ⟨.hbm, 367, rfl⟩
abbrev main_call0_call1_v72 : Ref sig .tc := ⟨.hbm, 368, rfl⟩
abbrev main_call0_call1_v73 : Ref sig .tc := ⟨.hbm, 369, rfl⟩
abbrev main_call0_call1_v74 : Ref sig .tc := ⟨.hbm, 370, rfl⟩
abbrev main_call0_call1_c_18 : Ref sig .tc := ⟨.hbm, 371, rfl⟩
abbrev main_call0_call1_v75 : Ref sig .tc := ⟨.hbm, 372, rfl⟩
abbrev main_call0_call1_v76 : Ref sig .tc := ⟨.hbm, 373, rfl⟩
abbrev main_call0_call1_c_19 : Ref sig .tc := ⟨.hbm, 374, rfl⟩
abbrev main_call0_call1_v77 : Ref sig .tc := ⟨.hbm, 375, rfl⟩
abbrev main_call0_call1_v78 : Ref sig .tc := ⟨.hbm, 376, rfl⟩
abbrev main_call0_call1_v79 : Ref sig .tc := ⟨.hbm, 377, rfl⟩
abbrev main_call0_call1_v80 : Ref sig .tc := ⟨.hbm, 378, rfl⟩
abbrev main_call0_call1_v81 : Ref sig .tc := ⟨.hbm, 379, rfl⟩
abbrev main_call0_call1_c_20 : Ref sig .tc := ⟨.hbm, 380, rfl⟩
abbrev main_call0_call1_v82 : Ref sig .tc := ⟨.hbm, 381, rfl⟩
abbrev main_call0_call1_v83 : Ref sig .tc := ⟨.hbm, 382, rfl⟩
abbrev main_call0_call1_c_21 : Ref sig .tc := ⟨.hbm, 383, rfl⟩
abbrev main_call0_call1_v84 : Ref sig .tc := ⟨.hbm, 384, rfl⟩
abbrev main_call0_call1_v85 : Ref sig .tc := ⟨.hbm, 385, rfl⟩
abbrev main_call0_call1_v86 : Ref sig .tc := ⟨.hbm, 386, rfl⟩
abbrev main_call0_call1_v87 : Ref sig .tc := ⟨.hbm, 387, rfl⟩
abbrev main_call0_call1_v88 : Ref sig .tc := ⟨.hbm, 388, rfl⟩
abbrev main_call0_call1_c_22 : Ref sig .tc := ⟨.hbm, 389, rfl⟩
abbrev main_call0_call1_v89 : Ref sig .tc := ⟨.hbm, 390, rfl⟩
abbrev main_call0_call1_v90 : Ref sig .tc := ⟨.hbm, 391, rfl⟩
abbrev main_call0_call1_c_23 : Ref sig .tc := ⟨.hbm, 392, rfl⟩
abbrev main_call0_call1_v91 : Ref sig .tc := ⟨.hbm, 393, rfl⟩
abbrev main_call0_call1_v92 : Ref sig .tc := ⟨.hbm, 394, rfl⟩
abbrev main_call0_call1_v93 : Ref sig .tc := ⟨.hbm, 395, rfl⟩
abbrev main_call0_call1_v94 : Ref sig .tc := ⟨.hbm, 396, rfl⟩
abbrev main_call0_call1_v95 : Ref sig .tc := ⟨.hbm, 397, rfl⟩
abbrev main_call0_call1_c_24 : Ref sig .tc := ⟨.hbm, 398, rfl⟩
abbrev main_call0_call1_v96 : Ref sig .tc := ⟨.hbm, 399, rfl⟩
abbrev main_call0_call1_v97 : Ref sig .tc := ⟨.hbm, 400, rfl⟩
abbrev main_call0_call1_c_25 : Ref sig .tc := ⟨.hbm, 401, rfl⟩
abbrev main_call0_call1_v98 : Ref sig .tc := ⟨.hbm, 402, rfl⟩
abbrev main_call0_call1_v99 : Ref sig .tc := ⟨.hbm, 403, rfl⟩
abbrev main_call0_call1_v100 : Ref sig .tc := ⟨.hbm, 404, rfl⟩
abbrev main_call0_call1_v101 : Ref sig .tc := ⟨.hbm, 405, rfl⟩
abbrev main_call0_call1_v102 : Ref sig .tc := ⟨.hbm, 406, rfl⟩
abbrev main_call0_call1_v103 : Ref sig .tc := ⟨.hbm, 407, rfl⟩
abbrev main_call0_call1_v104 : Ref sig .tc := ⟨.hbm, 408, rfl⟩
abbrev main_call0_call1_v105 : Ref sig .tc := ⟨.hbm, 409, rfl⟩
abbrev main_call0_call1_c_26 : Ref sig .tc := ⟨.hbm, 410, rfl⟩
abbrev main_call0_call1_v106 : Ref sig .tc := ⟨.hbm, 411, rfl⟩
abbrev main_call0_call1_v107 : Ref sig .tc := ⟨.hbm, 412, rfl⟩
abbrev main_call0_call1_v108 : Ref sig .tc := ⟨.hbm, 413, rfl⟩
abbrev main_call0_call1_c_27 : Ref sig .tc := ⟨.hbm, 414, rfl⟩
abbrev main_call0_call1_v109 : Ref sig .tc := ⟨.hbm, 415, rfl⟩
abbrev main_call0_call1_v110 : Ref sig .tc := ⟨.hbm, 416, rfl⟩
abbrev main_call0_call1_c_28 : Ref sig .tc := ⟨.hbm, 417, rfl⟩
abbrev main_call0_call1_v111 : Ref sig .tc := ⟨.hbm, 418, rfl⟩
abbrev main_call0_call1_v112 : Ref sig .tc := ⟨.hbm, 419, rfl⟩
abbrev main_call0_call1_v113 : Ref sig .tc := ⟨.hbm, 420, rfl⟩
abbrev main_call0_call1_v114 : Ref sig .tc := ⟨.hbm, 421, rfl⟩
abbrev main_call0_call1_v115 : Ref sig .tc := ⟨.hbm, 422, rfl⟩
abbrev main_call0_call1_c_29 : Ref sig .tc := ⟨.hbm, 423, rfl⟩
abbrev main_call0_call1_v116 : Ref sig .tc := ⟨.hbm, 424, rfl⟩
abbrev main_call0_call1_v117 : Ref sig .tc := ⟨.hbm, 425, rfl⟩
abbrev main_call0_call1_c_30 : Ref sig .tc := ⟨.hbm, 426, rfl⟩
abbrev main_call0_call1_v118 : Ref sig .tc := ⟨.hbm, 427, rfl⟩
abbrev main_call0_call1_v119 : Ref sig .tc := ⟨.hbm, 428, rfl⟩
abbrev main_call0_call1_v120 : Ref sig .tc := ⟨.hbm, 429, rfl⟩
abbrev main_call0_call1_v121 : Ref sig .tc := ⟨.hbm, 430, rfl⟩
abbrev main_call0_call1_v122 : Ref sig .tc := ⟨.hbm, 431, rfl⟩
abbrev main_call0_call1_c_31 : Ref sig .tc := ⟨.hbm, 432, rfl⟩
abbrev main_call0_call1_v123 : Ref sig .tc := ⟨.hbm, 433, rfl⟩
abbrev main_call0_call1_v124 : Ref sig .tc := ⟨.hbm, 434, rfl⟩
abbrev main_call0_call1_c_32 : Ref sig .tc := ⟨.hbm, 435, rfl⟩
abbrev main_call0_call1_v125 : Ref sig .tc := ⟨.hbm, 436, rfl⟩
abbrev main_call0_call1_v126 : Ref sig .tc := ⟨.hbm, 437, rfl⟩
abbrev main_call0_call1_v127 : Ref sig .tc := ⟨.hbm, 438, rfl⟩
abbrev main_call0_call1_v128 : Ref sig .tc := ⟨.hbm, 439, rfl⟩
abbrev main_call0_call1_v129 : Ref sig .tc := ⟨.hbm, 440, rfl⟩
abbrev main_call0_call1_c_33 : Ref sig .tc := ⟨.hbm, 441, rfl⟩
abbrev main_call0_call1_v130 : Ref sig .tc := ⟨.hbm, 442, rfl⟩
abbrev main_call0_call1_v131 : Ref sig .tc := ⟨.hbm, 443, rfl⟩
abbrev main_call0_call1_c_34 : Ref sig .tc := ⟨.hbm, 444, rfl⟩
abbrev main_call0_call1_v132 : Ref sig .tc := ⟨.hbm, 445, rfl⟩
abbrev main_call0_call1_v133 : Ref sig .tc := ⟨.hbm, 446, rfl⟩
abbrev main_call0_call1_v134 : Ref sig .tc := ⟨.hbm, 447, rfl⟩
abbrev main_call0_call1_v135 : Ref sig .tc := ⟨.hbm, 448, rfl⟩
abbrev main_call0_call1_v136 : Ref sig .tc := ⟨.hbm, 449, rfl⟩
abbrev main_call0_call1_v137 : Ref sig .tc := ⟨.hbm, 450, rfl⟩
abbrev main_call0_call1_v138 : Ref sig .tc := ⟨.hbm, 451, rfl⟩
abbrev main_call0_call1_v139 : Ref sig .tc := ⟨.hbm, 452, rfl⟩
abbrev main_call0_call1_c_35 : Ref sig .tc := ⟨.hbm, 453, rfl⟩
abbrev main_call0_call1_v140 : Ref sig .tc := ⟨.hbm, 454, rfl⟩
abbrev main_call0_call1_v141 : Ref sig .tc := ⟨.hbm, 455, rfl⟩
abbrev main_call0_call1_v142 : Ref sig .tc := ⟨.hbm, 456, rfl⟩
abbrev main_call0_call1_c_36 : Ref sig .tc := ⟨.hbm, 457, rfl⟩
abbrev main_call0_call1_v143 : Ref sig .tc := ⟨.hbm, 458, rfl⟩
abbrev main_call0_call1_v144 : Ref sig .tc := ⟨.hbm, 459, rfl⟩
abbrev main_call0_call1_c_37 : Ref sig .tc := ⟨.hbm, 460, rfl⟩
abbrev main_call0_call1_v145 : Ref sig .tc := ⟨.hbm, 461, rfl⟩
abbrev main_call0_call1_v146 : Ref sig .tc := ⟨.hbm, 462, rfl⟩
abbrev main_call0_call1_v147 : Ref sig .tc := ⟨.hbm, 463, rfl⟩
abbrev main_call0_call1_v148 : Ref sig .tc := ⟨.hbm, 464, rfl⟩
abbrev main_call0_call1_v149 : Ref sig .tc := ⟨.hbm, 465, rfl⟩
abbrev main_call0_call1_c_38 : Ref sig .tc := ⟨.hbm, 466, rfl⟩
abbrev main_call0_call1_v150 : Ref sig .tc := ⟨.hbm, 467, rfl⟩
abbrev main_call0_call1_v151 : Ref sig .tc := ⟨.hbm, 468, rfl⟩
abbrev main_call0_call1_c_39 : Ref sig .tc := ⟨.hbm, 469, rfl⟩
abbrev main_call0_call1_v152 : Ref sig .tc := ⟨.hbm, 470, rfl⟩
abbrev main_call0_call1_v153 : Ref sig .tc := ⟨.hbm, 471, rfl⟩
abbrev main_call0_call1_v154 : Ref sig .tc := ⟨.hbm, 472, rfl⟩
abbrev main_call0_call1_v155 : Ref sig .tc := ⟨.hbm, 473, rfl⟩
abbrev main_call0_call1_v156 : Ref sig .tc := ⟨.hbm, 474, rfl⟩
abbrev main_call0_call1_c_40 : Ref sig .tc := ⟨.hbm, 475, rfl⟩
abbrev main_call0_call1_v157 : Ref sig .tc := ⟨.hbm, 476, rfl⟩
abbrev main_call0_call1_v158 : Ref sig .tc := ⟨.hbm, 477, rfl⟩
abbrev main_call0_call1_c_41 : Ref sig .tc := ⟨.hbm, 478, rfl⟩
abbrev main_call0_call1_v159 : Ref sig .tc := ⟨.hbm, 479, rfl⟩
abbrev main_call0_call1_v160 : Ref sig .tc := ⟨.hbm, 480, rfl⟩
abbrev main_call0_call1_v161 : Ref sig .tc := ⟨.hbm, 481, rfl⟩
abbrev main_call0_call1_v162 : Ref sig .tc := ⟨.hbm, 482, rfl⟩
abbrev main_call0_call1_v163 : Ref sig .tc := ⟨.hbm, 483, rfl⟩
abbrev main_call0_call1_c_42 : Ref sig .tc := ⟨.hbm, 484, rfl⟩
abbrev main_call0_call1_v164 : Ref sig .tc := ⟨.hbm, 485, rfl⟩
abbrev main_call0_call1_v165 : Ref sig .tc := ⟨.hbm, 486, rfl⟩
abbrev main_call0_call1_c_43 : Ref sig .tc := ⟨.hbm, 487, rfl⟩
abbrev main_call0_call1_v166 : Ref sig .tc := ⟨.hbm, 488, rfl⟩
abbrev main_call0_call1_v167 : Ref sig .tc := ⟨.hbm, 489, rfl⟩
abbrev main_call0_call1_v168 : Ref sig .tc := ⟨.hbm, 490, rfl⟩
abbrev main_call0_call1_v169 : Ref sig .tc := ⟨.hbm, 491, rfl⟩
abbrev main_call0_call1_v170 : Ref sig .tc := ⟨.hbm, 492, rfl⟩
abbrev main_call0_v16_0 : Ref sig .tc := ⟨.hbm, 493, rfl⟩
abbrev main_call0_call1_v172 : Ref sig .tc := ⟨.hbm, 494, rfl⟩
abbrev main_call0_call1_v173 : Ref sig .tc := ⟨.hbm, 495, rfl⟩
abbrev main_call0_call1_c_44 : Ref sig .tc := ⟨.hbm, 496, rfl⟩
abbrev main_call0_call1_v174 : Ref sig .tc := ⟨.hbm, 497, rfl⟩
abbrev main_call0_v16_1 : Ref sig .tc := ⟨.hbm, 498, rfl⟩
abbrev main_call0_v17 : Ref sig .tc := ⟨.hbm, 499, rfl⟩
abbrev main_call0_v18_0 : Ref sig .tc := ⟨.hbm, 500, rfl⟩
abbrev main_v16 : Ref sig .tc := ⟨.hbm, 501, rfl⟩
abbrev main_c_2 : Ref sig .tc := ⟨.hbm, 502, rfl⟩
abbrev main_call1_v0 : Ref sig .tc := ⟨.hbm, 503, rfl⟩
abbrev main_v17 : Ref sig .tc := ⟨.hbm, 504, rfl⟩
abbrev main_v18 : Ref sig .tc := ⟨.hbm, 505, rfl⟩
abbrev main_v19 : Ref sig .tc := ⟨.hbm, 506, rfl⟩
abbrev main_v20 : Ref sig .tc := ⟨.hbm, 507, rfl⟩
abbrev main_v21 : Ref sig .tc := ⟨.hbm, 508, rfl⟩
abbrev main_v22 : Ref sig .tc := ⟨.hbm, 509, rfl⟩
abbrev main_v23 : Ref sig .tc := ⟨.hbm, 510, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x16x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x32 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x16x24 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S8x32x16x16x16 : Shape := ⟨5, ![8, 32, 16, 16, 16]⟩
abbrev S8x32x32x16x16 : Shape := ⟨5, ![8, 32, 32, 16, 16]⟩
abbrev S8x32x32x16x16x16 : Shape := ⟨6, ![8, 32, 32, 16, 16, 16]⟩
abbrev S8x32x16x16x1 : Shape := ⟨5, ![8, 32, 16, 16, 1]⟩
abbrev S8x32x16x16 : Shape := ⟨4, ![8, 32, 16, 16]⟩
abbrev S8x32x8x2x8x2 : Shape := ⟨6, ![8, 32, 8, 2, 8, 2]⟩
abbrev S8x32x8x8x2x2 : Shape := ⟨6, ![8, 32, 8, 8, 2, 2]⟩
abbrev S8x32x8x8x4 : Shape := ⟨5, ![8, 32, 8, 8, 4]⟩
abbrev S_ : Shape := ⟨0, ![]⟩
abbrev S8x32x8x8 : Shape := ⟨4, ![8, 32, 8, 8]⟩
abbrev S8 : Shape := ⟨1, ![8]⟩
abbrev S1x1x8x1 : Shape := ⟨4, ![1, 1, 8, 1]⟩
abbrev S1x1x1x8 : Shape := ⟨4, ![1, 1, 1, 8]⟩
abbrev S8x32x64 : Shape := ⟨3, ![8, 32, 64]⟩
abbrev S8x32x16 : Shape := ⟨3, ![8, 32, 16]⟩
abbrev S8x32x16x1 : Shape := ⟨4, ![8, 32, 16, 1]⟩
abbrev S1 : Shape := ⟨1, ![1]⟩
abbrev S1x1x1x1 : Shape := ⟨4, ![1, 1, 1, 1]⟩
abbrev S256 : Shape := ⟨1, ![256]⟩
abbrev S8x32x1 : Shape := ⟨3, ![8, 32, 1]⟩
abbrev S65536 : Shape := ⟨1, ![65536]⟩
abbrev S4096 : Shape := ⟨1, ![4096]⟩
abbrev S4096x1 : Shape := ⟨2, ![4096, 1]⟩
abbrev S8x1x32x16x16 : Shape := ⟨5, ![8, 1, 32, 16, 16]⟩
abbrev S8x1024x16x16 : Shape := ⟨4, ![8, 1024, 16, 16]⟩
abbrev S8x1024x8x2x8x2 : Shape := ⟨6, ![8, 1024, 8, 2, 8, 2]⟩
abbrev S8x1024x8x8x2x2 : Shape := ⟨6, ![8, 1024, 8, 8, 2, 2]⟩
abbrev S8x1024x8x8x4 : Shape := ⟨5, ![8, 1024, 8, 8, 4]⟩
abbrev S8x1024x8x8 : Shape := ⟨4, ![8, 1024, 8, 8]⟩
abbrev S8x32x32x64 : Shape := ⟨4, ![8, 32, 32, 64]⟩
abbrev S8x32x32x24 : Shape := ⟨4, ![8, 32, 32, 24]⟩
abbrev S8x32x32x24x1 : Shape := ⟨5, ![8, 32, 32, 24, 1]⟩
abbrev S1x1x1x1x1 : Shape := ⟨5, ![1, 1, 1, 1, 1]⟩
abbrev S2 : Shape := ⟨1, ![2]⟩
abbrev S24 : Shape := ⟨1, ![24]⟩
abbrev S2x1 : Shape := ⟨2, ![2, 1]⟩
abbrev S2x2 : Shape := ⟨2, ![2, 2]⟩
abbrev S1x2 : Shape := ⟨2, ![1, 2]⟩
abbrev S24x1 : Shape := ⟨2, ![24, 1]⟩
abbrev S8x32x32x1x24 : Shape := ⟨5, ![8, 32, 32, 1, 24]⟩
abbrev S8x32x32x16x24 : Shape := ⟨5, ![8, 32, 32, 16, 24]⟩
abbrev S8x32x32x16x256 : Shape := ⟨5, ![8, 32, 32, 16, 256]⟩
abbrev S8x32x32x16x24x1 : Shape := ⟨6, ![8, 32, 32, 16, 24, 1]⟩
abbrev S1x1x1x1x1x1 : Shape := ⟨6, ![1, 1, 1, 1, 1, 1]⟩

abbrev nBuf : Space → Nat
  | .hbm => 751
  | .vmem => 0
  | .smem => 0
  | _ => 0

abbrev hbmTy0_0 (i : Nat) : BufTy := match i % 128 with
  | 0 => ⟨S8x32x16x16x16, .f32⟩
  | 1 => ⟨S8x32x32x16x16, .f32⟩
  | 2 => ⟨S8x32x32x16x16x16, .f32⟩
  | 3 => ⟨S8x32x16x16x1, .f32⟩
  | 4 => ⟨S8x32x16x16, .f32⟩
  | 5 => ⟨S8x32x8x2x8x2, .f32⟩
  | 6 => ⟨S8x32x8x8x2x2, .f32⟩
  | 7 => ⟨S8x32x8x8x4, .f32⟩
  | 8 => ⟨S_, .f32⟩
  | 9 => ⟨S8x32x8x8, .f32⟩
  | 10 => ⟨S8x32x8x8x4, .i32⟩
  | 11 => ⟨S_, .f32⟩
  | 12 => ⟨S_, .i32⟩
  | 13 => ⟨S8x32x8x8, .f32⟩
  | 14 => ⟨S8x32x8x8, .i32⟩
  | 15 => ⟨S_, .i32⟩
  | 16 => ⟨S_, .i32⟩
  | 17 => ⟨S8x32x8x8, .i32⟩
  | 18 => ⟨S8x32x8x8, .i32⟩
  | 19 => ⟨S8x32x8x8, .i32⟩
  | 20 => ⟨S_, .i32⟩
  | 21 => ⟨S8x32x8x8, .i32⟩
  | 22 => ⟨S8x32x8x8, .i1⟩
  | 23 => ⟨S8x32x8x8, .i32⟩
  | 24 => ⟨S8x32x8x8, .i32⟩
  | 25 => ⟨S_, .i32⟩
  | 26 => ⟨S8x32x8x8, .i32⟩
  | 27 => ⟨S8x32x8x8, .i1⟩
  | 28 => ⟨S8x32x8x8, .i1⟩
  | 29 => ⟨S_, .i32⟩
  | 30 => ⟨S8x32x8x8, .i32⟩
  | 31 => ⟨S8x32x8x8, .i32⟩
  | 32 => ⟨S8x32x8x8, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S8x32x8x8, .i32⟩
  | 40 => ⟨S8x32x8x8, .i32⟩
  | 41 => ⟨S_, .i32⟩
  | 42 => ⟨S8x32x8x8, .i32⟩
  | 43 => ⟨S8x32x8x8, .i1⟩
  | 44 => ⟨S_, .i32⟩
  | 45 => ⟨S8x32x8x8, .i32⟩
  | 46 => ⟨S8x32x8x8, .i1⟩
  | 47 => ⟨S_, .i32⟩
  | 48 => ⟨S_, .i1⟩
  | 49 => ⟨S8x32x8x8, .i1⟩
  | 50 => ⟨S8x32x8x8, .i1⟩
  | 51 => ⟨S8x32x8x8, .i1⟩
  | 52 => ⟨S8x32x8x8, .i32⟩
  | 53 => ⟨S8x32x8x8, .i32⟩
  | 54 => ⟨S8x32x8x8, .i32⟩
  | 55 => ⟨S8, .i32⟩
  | 56 => ⟨S_, .i32⟩
  | 57 => ⟨S8, .i32⟩
  | 58 => ⟨S8, .i32⟩
  | 59 => ⟨S1x1x8x1, .i32⟩
  | 60 => ⟨S8, .i32⟩
  | 61 => ⟨S_, .i32⟩
  | 62 => ⟨S8, .i32⟩
  | 63 => ⟨S8, .i32⟩
  | 64 => ⟨S1x1x1x8, .i32⟩
  | 65 => ⟨S8x32x8x8, .i32⟩
  | 66 => ⟨S8x32x8x8, .i32⟩
  | 67 => ⟨S_, .i32⟩
  | 68 => ⟨S8x32x8x8, .i32⟩
  | 69 => ⟨S8x32x8x8, .i32⟩
  | 70 => ⟨S8x32x8x8, .i32⟩
  | 71 => ⟨S8x32x8x8, .i32⟩
  | 72 => ⟨S8x32x8x8, .i32⟩
  | 73 => ⟨S8x32x64, .i32⟩
  | 74 => ⟨S8x32x64, .f32⟩
  | 75 => ⟨S8x32x64, .f32⟩
  | 76 => ⟨S8x32x64, .i32⟩
  | 77 => ⟨S8x32x64, .f32⟩
  | 78 => ⟨S8x32x64, .i32⟩
  | 79 => ⟨S8x32x16, .i32⟩
  | 80 => ⟨S_, .i32⟩
  | 81 => ⟨S8x32x16, .i32⟩
  | 82 => ⟨S8x32x16, .i1⟩
  | 83 => ⟨S_, .i32⟩
  | 84 => ⟨S8x32x16, .i32⟩
  | 85 => ⟨S8x32x16, .i32⟩
  | 86 => ⟨S8x32x16, .i32⟩
  | 87 => ⟨S8x32x16x1, .i32⟩
  | 88 => ⟨S1, .i32⟩
  | 89 => ⟨S_, .i32⟩
  | 90 => ⟨S8x32x16x1, .i32⟩
  | 91 => ⟨S8x32x16x1, .i1⟩
  | 92 => ⟨S1x1x1x1, .i32⟩
  | 93 => ⟨S8x32x16x1, .i32⟩
  | 94 => ⟨S8x32x16x1, .i1⟩
  | 95 => ⟨S8x32x16x1, .i1⟩
  | 96 => ⟨S_, .i1⟩
  | 97 => ⟨S8x32x16, .i1⟩
  | 98 => ⟨S8x32x16, .i32⟩
  | 99 => ⟨S_, .i32⟩
  | 100 => ⟨S8x32x16, .i32⟩
  | 101 => ⟨S8x32x16, .i32⟩
  | 102 => ⟨S256, .i32⟩
  | 103 => ⟨S_, .i32⟩
  | 104 => ⟨S256, .i32⟩
  | 105 => ⟨S256, .i32⟩
  | 106 => ⟨S8x32x1, .i32⟩
  | 107 => ⟨S8x32x16, .i32⟩
  | 108 => ⟨S8x32x16, .i32⟩
  | 109 => ⟨S_, .f32⟩
  | 110 => ⟨S65536, .f32⟩
  | 111 => ⟨S4096, .i32⟩
  | 112 => ⟨S_, .i32⟩
  | 113 => ⟨S4096, .i32⟩
  | 114 => ⟨S4096, .i1⟩
  | 115 => ⟨S_, .i32⟩
  | 116 => ⟨S4096, .i32⟩
  | 117 => ⟨S4096, .i32⟩
  | 118 => ⟨S4096, .i32⟩
  | 119 => ⟨S4096x1, .i32⟩
  | 120 => ⟨S_, .f32⟩
  | 121 => ⟨S4096, .f32⟩
  | 122 => ⟨S65536, .f32⟩
  | 123 => ⟨S8x32x16x16, .f32⟩
  | 124 => ⟨S8x1x32x16x16, .f32⟩
  | 125 => ⟨S8x32x32x16x16, .f32⟩
  | 126 => ⟨S8x32x32x16x16, .f32⟩
  | 127 => ⟨S8x1024x16x16, .f32⟩
  | _ => ⟨S8x32x16x16x16, .f32⟩

abbrev hbmTy0_1 (i : Nat) : BufTy := match i % 128 with
  | 0 => ⟨S8x1024x8x2x8x2, .f32⟩
  | 1 => ⟨S8x1024x8x8x2x2, .f32⟩
  | 2 => ⟨S8x1024x8x8x4, .f32⟩
  | 3 => ⟨S_, .f32⟩
  | 4 => ⟨S8x1024x8x8, .f32⟩
  | 5 => ⟨S8x1024x8x8x4, .i32⟩
  | 6 => ⟨S_, .f32⟩
  | 7 => ⟨S_, .i32⟩
  | 8 => ⟨S8x1024x8x8, .f32⟩
  | 9 => ⟨S8x1024x8x8, .i32⟩
  | 10 => ⟨S_, .i32⟩
  | 11 => ⟨S_, .i32⟩
  | 12 => ⟨S8x1024x8x8, .i32⟩
  | 13 => ⟨S8x1024x8x8, .i32⟩
  | 14 => ⟨S8x1024x8x8, .i32⟩
  | 15 => ⟨S_, .i32⟩
  | 16 => ⟨S8x1024x8x8, .i32⟩
  | 17 => ⟨S8x1024x8x8, .i1⟩
  | 18 => ⟨S8x1024x8x8, .i32⟩
  | 19 => ⟨S8x1024x8x8, .i32⟩
  | 20 => ⟨S_, .i32⟩
  | 21 => ⟨S8x1024x8x8, .i32⟩
  | 22 => ⟨S8x1024x8x8, .i1⟩
  | 23 => ⟨S8x1024x8x8, .i1⟩
  | 24 => ⟨S_, .i32⟩
  | 25 => ⟨S8x1024x8x8, .i32⟩
  | 26 => ⟨S8x1024x8x8, .i32⟩
  | 27 => ⟨S8x1024x8x8, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S8x1024x8x8, .i32⟩
  | 35 => ⟨S8x1024x8x8, .i32⟩
  | 36 => ⟨S_, .i32⟩
  | 37 => ⟨S8x1024x8x8, .i32⟩
  | 38 => ⟨S8x1024x8x8, .i1⟩
  | 39 => ⟨S_, .i32⟩
  | 40 => ⟨S8x1024x8x8, .i32⟩
  | 41 => ⟨S8x1024x8x8, .i1⟩
  | 42 => ⟨S_, .i32⟩
  | 43 => ⟨S_, .i1⟩
  | 44 => ⟨S8x1024x8x8, .i1⟩
  | 45 => ⟨S8x1024x8x8, .i1⟩
  | 46 => ⟨S8x1024x8x8, .i1⟩
  | 47 => ⟨S8x1024x8x8, .i32⟩
  | 48 => ⟨S8x1024x8x8, .i32⟩
  | 49 => ⟨S8x1024x8x8, .i32⟩
  | 50 => ⟨S8, .i32⟩
  | 51 => ⟨S_, .i32⟩
  | 52 => ⟨S8, .i32⟩
  | 53 => ⟨S8, .i32⟩
  | 54 => ⟨S1x1x8x1, .i32⟩
  | 55 => ⟨S8, .i32⟩
  | 56 => ⟨S_, .i32⟩
  | 57 => ⟨S8, .i32⟩
  | 58 => ⟨S8, .i32⟩
  | 59 => ⟨S1x1x1x8, .i32⟩
  | 60 => ⟨S8x1024x8x8, .i32⟩
  | 61 => ⟨S8x1024x8x8, .i32⟩
  | 62 => ⟨S_, .i32⟩
  | 63 => ⟨S8x1024x8x8, .i32⟩
  | 64 => ⟨S8x1024x8x8, .i32⟩
  | 65 => ⟨S8x1024x8x8, .i32⟩
  | 66 => ⟨S8x1024x8x8, .i32⟩
  | 67 => ⟨S8x1024x8x8, .i32⟩
  | 68 => ⟨S8x32x32x64, .i32⟩
  | 69 => ⟨S8x32x32x64, .f32⟩
  | 70 => ⟨S8x32x32x64, .f32⟩
  | 71 => ⟨S8x32x32x64, .i32⟩
  | 72 => ⟨S8x32x32x64, .f32⟩
  | 73 => ⟨S8x32x32x64, .i32⟩
  | 74 => ⟨S8x32x32x24, .i32⟩
  | 75 => ⟨S_, .i32⟩
  | 76 => ⟨S8x32x32x24, .i32⟩
  | 77 => ⟨S8x32x32x24, .i1⟩
  | 78 => ⟨S_, .i32⟩
  | 79 => ⟨S8x32x32x24, .i32⟩
  | 80 => ⟨S8x32x32x24, .i32⟩
  | 81 => ⟨S8x32x32x24, .i32⟩
  | 82 => ⟨S8x32x32x24x1, .i32⟩
  | 83 => ⟨S1, .i32⟩
  | 84 => ⟨S_, .i32⟩
  | 85 => ⟨S8x32x32x24x1, .i32⟩
  | 86 => ⟨S8x32x32x24x1, .i1⟩
  | 87 => ⟨S1x1x1x1x1, .i32⟩
  | 88 => ⟨S8x32x32x24x1, .i32⟩
  | 89 => ⟨S8x32x32x24x1, .i1⟩
  | 90 => ⟨S8x32x32x24x1, .i1⟩
  | 91 => ⟨S_, .i1⟩
  | 92 => ⟨S8x32x32x24, .i1⟩
  | 93 => ⟨S8x32x32x24, .i32⟩
  | 94 => ⟨S_, .i32⟩
  | 95 => ⟨S8x32x32x24, .i32⟩
  | 96 => ⟨S8x32x32x24, .i32⟩
  | 97 => ⟨S_, .i32⟩
  | 98 => ⟨S_, .i32⟩
  | 99 => ⟨S_, .i32⟩
  | 100 => ⟨S_, .i32⟩
  | 101 => ⟨S1, .i32⟩
  | 102 => ⟨S_, .i32⟩
  | 103 => ⟨S_, .i32⟩
  | 104 => ⟨S_, .i32⟩
  | 105 => ⟨S1, .i32⟩
  | 106 => ⟨S2, .i32⟩
  | 107 => ⟨S24, .i32⟩
  | 108 => ⟨S1, .i32⟩
  | 109 => ⟨S_, .i32⟩
  | 110 => ⟨S1, .i32⟩
  | 111 => ⟨S_, .i32⟩
  | 112 => ⟨S2, .i64⟩
  | 113 => ⟨S_, .i64⟩
  | 114 => ⟨S2, .i64⟩
  | 115 => ⟨S2, .i64⟩
  | 116 => ⟨S_, .i64⟩
  | 117 => ⟨S2, .i64⟩
  | 118 => ⟨S2, .i64⟩
  | 119 => ⟨S2, .i32⟩
  | 120 => ⟨S2, .i32⟩
  | 121 => ⟨S_, .i32⟩
  | 122 => ⟨S_, .i32⟩
  | 123 => ⟨S_, .i32⟩
  | 124 => ⟨S2, .i32⟩
  | 125 => ⟨S2, .i32⟩
  | 126 => ⟨S2, .i32⟩
  | 127 => ⟨S2, .i32⟩
  | _ => ⟨S8x32x16x16x16, .f32⟩

abbrev hbmTy0_2 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S8x32x16x16x16, .f32⟩

abbrev hbmTy0_3 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S2x1, .i32⟩
  | 88 => ⟨S2x1, .i32⟩
  | 89 => ⟨S2x2, .i32⟩
  | 90 => ⟨S1x2, .i32⟩
  | 91 => ⟨S2, .i32⟩
  | 92 => ⟨S1x2, .i32⟩
  | 93 => ⟨S2, .i32⟩
  | 94 => ⟨S1, .i32⟩
  | 95 => ⟨S_, .i32⟩
  | 96 => ⟨S1, .i32⟩
  | 97 => ⟨S_, .i32⟩
  | 98 => ⟨S24, .i64⟩
  | 99 => ⟨S_, .i64⟩
  | 100 => ⟨S24, .i64⟩
  | 101 => ⟨S24, .i64⟩
  | 102 => ⟨S_, .i64⟩
  | 103 => ⟨S24, .i64⟩
  | 104 => ⟨S24, .i64⟩
  | 105 => ⟨S24, .i32⟩
  | 106 => ⟨S24, .i32⟩
  | 107 => ⟨S_, .i32⟩
  | 108 => ⟨S_, .i32⟩
  | 109 => ⟨S_, .i32⟩
  | 110 => ⟨S24, .i32⟩
  | 111 => ⟨S24, .i32⟩
  | 112 => ⟨S24, .i32⟩
  | 113 => ⟨S24, .i32⟩
  | 114 => ⟨S24, .i32⟩
  | 115 => ⟨S_, .i32⟩
  | 116 => ⟨S24, .i32⟩
  | 117 => ⟨S24, .i32⟩
  | 118 => ⟨S_, .i32⟩
  | 119 => ⟨S24, .i32⟩
  | 120 => ⟨S24, .i32⟩
  | 121 => ⟨S24, .i32⟩
  | 122 => ⟨S24, .i32⟩
  | 123 => ⟨S24, .i32⟩
  | 124 => ⟨S_, .i32⟩
  | 125 => ⟨S24, .i32⟩
  | 126 => ⟨S24, .i32⟩
  | 127 => ⟨S_, .i32⟩
  | _ => ⟨S8x32x16x16x16, .f32⟩

abbrev hbmTy0_4 (i : Nat) : BufTy := match i % 128 with
  | 0 => ⟨S24, .i32⟩
  | 1 => ⟨S24, .i32⟩
  | 2 => ⟨S24, .i32⟩
  | 3 => ⟨S24, .i32⟩
  | 4 => ⟨S24, .i32⟩
  | 5 => ⟨S_, .i32⟩
  | 6 => ⟨S24, .i32⟩
  | 7 => ⟨S24, .i32⟩
  | 8 => ⟨S_, .i32⟩
  | 9 => ⟨S24, .i32⟩
  | 10 => ⟨S24, .i32⟩
  | 11 => ⟨S24, .i32⟩
  | 12 => ⟨S24, .i32⟩
  | 13 => ⟨S24, .i32⟩
  | 14 => ⟨S_, .i32⟩
  | 15 => ⟨S24, .i32⟩
  | 16 => ⟨S24, .i32⟩
  | 17 => ⟨S_, .i32⟩
  | 18 => ⟨S24, .i32⟩
  | 19 => ⟨S24, .i32⟩
  | 20 => ⟨S24, .i32⟩
  | 21 => ⟨S24, .i32⟩
  | 22 => ⟨S24, .i32⟩
  | 23 => ⟨S24, .i32⟩
  | 24 => ⟨S24, .i32⟩
  | 25 => ⟨S24, .i32⟩
  | 26 => ⟨S_, .i32⟩
  | 27 => ⟨S24, .i32⟩
  | 28 => ⟨S24, .i32⟩
  | 29 => ⟨S24, .i32⟩
  | 30 => ⟨S_, .i32⟩
  | 31 => ⟨S24, .i32⟩
  | 32 => ⟨S24, .i32⟩
  | 33 => ⟨S_, .i32⟩
  | 34 => ⟨S24, .i32⟩
  | 35 => ⟨S24, .i32⟩
  | 36 => ⟨S24, .i32⟩
  | 37 => ⟨S24, .i32⟩
  | 38 => ⟨S24, .i32⟩
  | 39 => ⟨S_, .i32⟩
  | 40 => ⟨S24, .i32⟩
  | 41 => ⟨S24, .i32⟩
  | 42 => ⟨S_, .i32⟩
  | 43 => ⟨S24, .i32⟩
  | 44 => ⟨S24, .i32⟩
  | 45 => ⟨S24, .i32⟩
  | 46 => ⟨S24, .i32⟩
  | 47 => ⟨S24, .i32⟩
  | 48 => ⟨S_, .i32⟩
  | 49 => ⟨S24, .i32⟩
  | 50 => ⟨S24, .i32⟩
  | 51 => ⟨S_, .i32⟩
  | 52 => ⟨S24, .i32⟩
  | 53 => ⟨S24, .i32⟩
  | 54 => ⟨S24, .i32⟩
  | 55 => ⟨S24, .i32⟩
  | 56 => ⟨S24, .i32⟩
  | 57 => ⟨S_, .i32⟩
  | 58 => ⟨S24, .i32⟩
  | 59 => ⟨S24, .i32⟩
  | 60 => ⟨S_, .i32⟩
  | 61 => ⟨S24, .i32⟩
  | 62 => ⟨S24, .i32⟩
  | 63 => ⟨S24, .i32⟩
  | 64 => ⟨S24, .i32⟩
  | 65 => ⟨S24, .i32⟩
  | 66 => ⟨S24, .i32⟩
  | 67 => ⟨S24, .i32⟩
  | 68 => ⟨S24, .i32⟩
  | 69 => ⟨S_, .i32⟩
  | 70 => ⟨S24, .i32⟩
  | 71 => ⟨S24, .i32⟩
  | 72 => ⟨S24, .i32⟩
  | 73 => ⟨S_, .i32⟩
  | 74 => ⟨S24, .i32⟩
  | 75 => ⟨S24, .i32⟩
  | 76 => ⟨S_, .i32⟩
  | 77 => ⟨S24, .i32⟩
  | 78 => ⟨S24, .i32⟩
  | 79 => ⟨S24, .i32⟩
  | 80 => ⟨S24, .i32⟩
  | 81 => ⟨S24, .i32⟩
  | 82 => ⟨S_, .i32⟩
  | 83 => ⟨S24, .i32⟩
  | 84 => ⟨S24, .i32⟩
  | 85 => ⟨S_, .i32⟩
  | 86 => ⟨S24, .i32⟩
  | 87 => ⟨S24, .i32⟩
  | 88 => ⟨S24, .i32⟩
  | 89 => ⟨S24, .i32⟩
  | 90 => ⟨S24, .i32⟩
  | 91 => ⟨S_, .i32⟩
  | 92 => ⟨S24, .i32⟩
  | 93 => ⟨S24, .i32⟩
  | 94 => ⟨S_, .i32⟩
  | 95 => ⟨S24, .i32⟩
  | 96 => ⟨S24, .i32⟩
  | 97 => ⟨S24, .i32⟩
  | 98 => ⟨S24, .i32⟩
  | 99 => ⟨S24, .i32⟩
  | 100 => ⟨S_, .i32⟩
  | 101 => ⟨S24, .i32⟩
  | 102 => ⟨S24, .i32⟩
  | 103 => ⟨S_, .i32⟩
  | 104 => ⟨S24, .i32⟩
  | 105 => ⟨S24, .i32⟩
  | 106 => ⟨S24, .i32⟩
  | 107 => ⟨S24, .i32⟩
  | 108 => ⟨S24, .i32⟩
  | 109 => ⟨S24, .i32⟩
  | 110 => ⟨S24, .i32⟩
  | 111 => ⟨S24, .i32⟩
  | 112 => ⟨S_, .i32⟩
  | 113 => ⟨S24, .i32⟩
  | 114 => ⟨S24, .i32⟩
  | 115 => ⟨S24, .i32⟩
  | 116 => ⟨S_, .i32⟩
  | 117 => ⟨S24, .i32⟩
  | 118 => ⟨S24, .i32⟩
  | 119 => ⟨S_, .i32⟩
  | 120 => ⟨S24, .i32⟩
  | 121 => ⟨S24, .i32⟩
  | 122 => ⟨S24, .i32⟩
  | 123 => ⟨S24, .i32⟩
  | 124 => ⟨S24, .i32⟩
  | 125 => ⟨S_, .i32⟩
  | 126 => ⟨S24, .i32⟩
  | 127 => ⟨S24, .i32⟩
  | _ => ⟨S8x32x16x16x16, .f32⟩

abbrev hbmTy0_5 (i : Nat) : BufTy := match i % 128 with
  | 0 => ⟨S_, .i32⟩
  | 1 => ⟨S24, .i32⟩
  | 2 => ⟨S24, .i32⟩
  | 3 => ⟨S24, .i32⟩
  | 4 => ⟨S24, .i32⟩
  | 5 => ⟨S24, .i32⟩
  | 6 => ⟨S_, .i32⟩
  | 7 => ⟨S24, .i32⟩
  | 8 => ⟨S24, .i32⟩
  | 9 => ⟨S_, .i32⟩
  | 10 => ⟨S24, .i32⟩
  | 11 => ⟨S24, .i32⟩
  | 12 => ⟨S24, .i32⟩
  | 13 => ⟨S24, .i32⟩
  | 14 => ⟨S24, .i32⟩
  | 15 => ⟨S_, .i32⟩
  | 16 => ⟨S24, .i32⟩
  | 17 => ⟨S24, .i32⟩
  | 18 => ⟨S_, .i32⟩
  | 19 => ⟨S24, .i32⟩
  | 20 => ⟨S24, .i32⟩
  | 21 => ⟨S24, .i32⟩
  | 22 => ⟨S24, .i32⟩
  | 23 => ⟨S24, .i32⟩
  | 24 => ⟨S24, .i32⟩
  | 25 => ⟨S24, .i32⟩
  | 26 => ⟨S24, .i32⟩
  | 27 => ⟨S_, .i32⟩
  | 28 => ⟨S24, .i32⟩
  | 29 => ⟨S24, .i32⟩
  | 30 => ⟨S24, .i32⟩
  | 31 => ⟨S_, .i32⟩
  | 32 => ⟨S24, .i32⟩
  | 33 => ⟨S24, .i32⟩
  | 34 => ⟨S_, .i32⟩
  | 35 => ⟨S24, .i32⟩
  | 36 => ⟨S24, .i32⟩
  | 37 => ⟨S24, .i32⟩
  | 38 => ⟨S24, .i32⟩
  | 39 => ⟨S24, .i32⟩
  | 40 => ⟨S_, .i32⟩
  | 41 => ⟨S24, .i32⟩
  | 42 => ⟨S24, .i32⟩
  | 43 => ⟨S_, .i32⟩
  | 44 => ⟨S24, .i32⟩
  | 45 => ⟨S24, .i32⟩
  | 46 => ⟨S24, .i32⟩
  | 47 => ⟨S24, .i32⟩
  | 48 => ⟨S24, .i32⟩
  | 49 => ⟨S_, .i32⟩
  | 50 => ⟨S24, .i32⟩
  | 51 => ⟨S24, .i32⟩
  | 52 => ⟨S_, .i32⟩
  | 53 => ⟨S24, .i32⟩
  | 54 => ⟨S24, .i32⟩
  | 55 => ⟨S24, .i32⟩
  | 56 => ⟨S24, .i32⟩
  | 57 => ⟨S24, .i32⟩
  | 58 => ⟨S_, .i32⟩
  | 59 => ⟨S24, .i32⟩
  | 60 => ⟨S24, .i32⟩
  | 61 => ⟨S_, .i32⟩
  | 62 => ⟨S24, .i32⟩
  | 63 => ⟨S24, .i32⟩
  | 64 => ⟨S24, .i32⟩
  | 65 => ⟨S24, .i32⟩
  | 66 => ⟨S24, .i32⟩
  | 67 => ⟨S24, .i32⟩
  | 68 => ⟨S24, .i32⟩
  | 69 => ⟨S24, .i32⟩
  | 70 => ⟨S_, .i32⟩
  | 71 => ⟨S24, .i32⟩
  | 72 => ⟨S24, .i32⟩
  | 73 => ⟨S24, .i32⟩
  | 74 => ⟨S24, .i32⟩
  | 75 => ⟨S24, .i32⟩
  | 76 => ⟨S_, .i32⟩
  | 77 => ⟨S24, .i32⟩
  | 78 => ⟨S24, .i1⟩
  | 79 => ⟨S_, .i32⟩
  | 80 => ⟨S24, .i32⟩
  | 81 => ⟨S24, .i32⟩
  | 82 => ⟨S24, .i32⟩
  | 83 => ⟨S24x1, .i32⟩
  | 84 => ⟨S8x32x32x24, .i32⟩
  | 85 => ⟨S8x32x32x1x24, .i32⟩
  | 86 => ⟨S8x32x32x16x24, .i32⟩
  | 87 => ⟨S8x32x32x16x256, .f32⟩
  | 88 => ⟨S_, .i32⟩
  | 89 => ⟨S8x32x32x16x24, .i32⟩
  | 90 => ⟨S8x32x32x16x24, .i1⟩
  | 91 => ⟨S_, .i32⟩
  | 92 => ⟨S8x32x32x16x24, .i32⟩
  | 93 => ⟨S8x32x32x16x24, .i32⟩
  | 94 => ⟨S8x32x32x16x24, .i32⟩
  | 95 => ⟨S8x32x32x16x24x1, .i32⟩
  | 96 => ⟨S1, .i32⟩
  | 97 => ⟨S_, .i32⟩
  | 98 => ⟨S8x32x32x16x24x1, .i32⟩
  | 99 => ⟨S8x32x32x16x24x1, .i1⟩
  | 100 => ⟨S1x1x1x1x1x1, .i32⟩
  | 101 => ⟨S8x32x32x16x24x1, .i32⟩
  | 102 => ⟨S8x32x32x16x24x1, .i1⟩
  | 103 => ⟨S8x32x32x16x24x1, .i1⟩
  | 104 => ⟨S_, .i1⟩
  | 105 => ⟨S8x32x32x16x24, .i1⟩
  | 106 => ⟨S8x32x32x16x24, .f32⟩
  | 107 => ⟨S_, .f32⟩
  | 108 => ⟨S8x32x32x16x24, .f32⟩
  | 109 => ⟨S8x32x32x16x24, .f32⟩
  | 110 => ⟨S8x32x32x16x24x1, .f32⟩
  | _ => ⟨S8x32x16x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x32x16x16x16, .f32⟩

abbrev bufTy : (tb : Table) → Fin (tcTables nBuf tb) → BufTy
  | .hbm, ⟨i, _⟩ => hbmTy i
  | _, _ => ⟨S8x32x16x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_c : Ref sig .tc := ⟨.hbm, 12, rfl⟩
abbrev main_call0_v1_0 : Ref sig .tc := ⟨.hbm, 13, rfl⟩
abbrev main_v6 : Ref sig .tc := ⟨.hbm, 14, rfl⟩
abbrev main_c : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v7 : Ref sig .tc := ⟨.hbm, 32, rfl⟩
abbrev main_c_0 : Ref sig .tc := ⟨.hbm, 33, rfl⟩
abbrev main_call2_v0 : Ref sig .tc := ⟨.hbm, 34, rfl⟩
abbrev main_call2_c : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_c_1 : Ref sig .tc := ⟨.hbm, 41, rfl⟩
abbrev main_call2_v5 : Ref sig .tc := ⟨.hbm, 42, rfl⟩
abbrev main_call2_v6 : Ref sig .tc := ⟨.hbm, 43, rfl⟩
abbrev main_call2_c_2 : Ref sig .tc := ⟨.hbm, 44, rfl⟩
abbrev main_call2_v7 : Ref sig .tc := ⟨.hbm, 45, rfl⟩
abbrev main_call2_v8 : Ref sig .tc := ⟨.hbm, 46, rfl⟩
abbrev main_call2_c_3 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_v8 : Ref sig .tc := ⟨.hbm, 54, rfl⟩
abbrev main_v9 : Ref sig .tc := ⟨.hbm, 55, rfl⟩
abbrev main_c_1 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_c_2 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_c_3 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_call3_v0 : Ref sig .tc := ⟨.hbm, 76, rfl⟩
abbrev main_call3_v1_0 : Ref sig .tc := ⟨.hbm, 77, rfl⟩
abbrev main_v27 : Ref sig .tc := ⟨.hbm, 78, rfl⟩
abbrev main_v28 : Ref sig .tc := ⟨.hbm, 79, rfl⟩
abbrev main_call4_c : Ref sig .tc := ⟨.hbm, 80, rfl⟩
abbrev main_call4_v0 : Ref sig .tc := ⟨.hbm, 81, rfl⟩
abbrev main_call4_v1 : Ref sig .tc := ⟨.hbm, 82, rfl⟩
abbrev main_call4_c_0 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_c_1 : Ref sig .tc := ⟨.hbm, 88, rfl⟩
abbrev main_call4_c_2 : Ref sig .tc := ⟨.hbm, 89, rfl⟩
abbrev main_call4_v6 : Ref sig .tc := ⟨.hbm, 90, rfl⟩
abbrev main_call4_v7 : Ref sig .tc := ⟨.hbm, 91, rfl⟩
abbrev main_call4_v8 : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_c_3 : Ref sig .tc := ⟨.hbm, 96, rfl⟩
abbrev main_call4_v12 : Ref sig .tc := ⟨.hbm, 97, rfl⟩
abbrev main_call4_v13 : Ref sig .tc := ⟨.hbm, 98, rfl⟩
abbrev main_call4_c_4 : Ref sig .tc := ⟨.hbm, 99, rfl⟩
abbrev main_call4_v14 : Ref sig .tc := ⟨.hbm, 100, rfl⟩
abbrev main_v29 : Ref sig .tc := ⟨.hbm, 101, rfl⟩
abbrev main_v30 : Ref sig .tc := ⟨.hbm, 102, rfl⟩
abbrev main_c_4 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_cst_5 : Ref sig .tc := ⟨.hbm, 109, rfl⟩
abbrev main_v36 : Ref sig .tc := ⟨.hbm, 110, rfl⟩
abbrev main_v37 : Ref sig .tc := ⟨.hbm, 111, rfl⟩
abbrev main_c_6 : Ref sig .tc := ⟨.hbm, 112, rfl⟩
abbrev main_v38 : Ref sig .tc := ⟨.hbm, 113, rfl⟩
abbrev main_v39 : Ref sig .tc := ⟨.hbm, 114, rfl⟩
abbrev main_c_7 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_cst_8 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_cst_9 : Ref sig .tc := ⟨.hbm, 131, rfl⟩
abbrev main_v54 : Ref sig .tc := ⟨.hbm, 132, rfl⟩
abbrev main_call5_v0 : Ref sig .tc := ⟨.hbm, 133, rfl⟩
abbrev main_call5_cst : Ref sig .tc := ⟨.hbm, 134, rfl⟩
abbrev main_call5_c : Ref sig .tc := ⟨.hbm, 135, rfl⟩
abbrev main_call5_v1_0 : Ref sig .tc := ⟨.hbm, 136, rfl⟩
abbrev main_v55 : Ref sig .tc := ⟨.hbm, 137, rfl⟩
abbrev main_c_10 : Ref sig .tc := ⟨.hbm, 138, rfl⟩
abbrev main_call6_v0 : Ref sig .tc := ⟨.hbm, 139, rfl⟩
abbrev main_call6_v1 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_call6_v5 : Ref sig .tc := ⟨.hbm, 144, rfl⟩
abbrev main_call6_v6 : Ref sig .tc := ⟨.hbm, 145, rfl⟩
abbrev main_call6_v7 : Ref sig .tc := ⟨.hbm, 146, rfl⟩
abbrev main_call6_v8 : Ref sig .tc := ⟨.hbm, 147, rfl⟩
abbrev main_call6_c : Ref sig .tc := ⟨.hbm, 148, rfl⟩
abbrev main_call6_v9 : Ref sig .tc := ⟨.hbm, 149, rfl⟩
abbrev main_call6_v10 : Ref sig .tc := ⟨.hbm, 150, rfl⟩
abbrev main_call6_v11 : Ref sig .tc := ⟨.hbm, 151, rfl⟩
abbrev main_call6_c_0 : Ref sig .tc := ⟨.hbm, 152, rfl⟩
abbrev main_call6_v12 : Ref sig .tc := ⟨.hbm, 153, rfl⟩
abbrev main_call6_v13 : Ref sig .tc := ⟨.hbm, 154, rfl⟩
abbrev main_v56 : Ref sig .tc := ⟨.hbm, 155, rfl⟩
abbrev main_c_11 : Ref sig .tc := ⟨.hbm, 156, rfl⟩
abbrev main_call7_v0 : Ref sig .tc := ⟨.hbm, 157, rfl⟩
abbrev main_call7_c : Ref sig .tc := ⟨.hbm, 158, rfl⟩
abbrev main_call7_v1 : Ref sig .tc := ⟨.hbm, 159, rfl⟩
abbrev main_call7_c_0 : Ref sig .tc := ⟨.hbm, 160, rfl⟩
abbrev main_call7_v2 : Ref sig .tc := ⟨.hbm, 161, rfl⟩
abbrev main_call7_v3 : Ref sig .tc := ⟨.hbm, 162, rfl⟩
abbrev main_call7_v4 : Ref sig .tc := ⟨.hbm, 163, rfl⟩
abbrev main_call7_c_1 : Ref sig .tc := ⟨.hbm, 164, rfl⟩
abbrev main_call7_v5 : Ref sig .tc := ⟨.hbm, 165, rfl⟩
abbrev main_call7_v6 : Ref sig .tc := ⟨.hbm, 166, rfl⟩
abbrev main_call7_c_2 : Ref sig .tc := ⟨.hbm, 167, rfl⟩
abbrev main_call7_v7 : Ref sig .tc := ⟨.hbm, 168, rfl⟩
abbrev main_call7_v8 : Ref sig .tc := ⟨.hbm, 169, rfl⟩
abbrev main_call7_c_3 : Ref sig .tc := ⟨.hbm, 170, rfl⟩
abbrev main_call7_v9 : Ref sig .tc := ⟨.hbm, 171, rfl⟩
abbrev main_call7_v10 : Ref sig .tc := ⟨.hbm, 172, rfl⟩
abbrev main_call7_v11 : Ref sig .tc := ⟨.hbm, 173, rfl⟩
abbrev main_call7_v12 : Ref sig .tc := ⟨.hbm, 174, rfl⟩
abbrev main_call7_v13 : Ref sig .tc := ⟨.hbm, 175, rfl⟩
abbrev main_call7_v14 : Ref sig .tc := ⟨.hbm, 176, rfl⟩
abbrev main_v57 : Ref sig .tc := ⟨.hbm, 177, rfl⟩
abbrev main_v58 : Ref sig .tc := ⟨.hbm, 178, rfl⟩
abbrev main_c_12 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_c_13 : Ref sig .tc := ⟨.hbm, 184, rfl⟩
abbrev main_v63 : Ref sig .tc := ⟨.hbm, 185, rfl⟩
abbrev main_v64 : Ref sig .tc := ⟨.hbm, 186, rfl⟩
abbrev main_v65 : Ref sig .tc := ⟨.hbm, 187, rfl⟩
abbrev main_v66 : Ref sig .tc := ⟨.hbm, 188, rfl⟩
abbrev main_v67 : Ref sig .tc := ⟨.hbm, 189, rfl⟩
abbrev main_c_14 : Ref sig .tc := ⟨.hbm, 190, rfl⟩
abbrev main_v68 : Ref sig .tc := ⟨.hbm, 191, rfl⟩
abbrev main_v69 : Ref sig .tc := ⟨.hbm, 192, rfl⟩
abbrev main_v70 : Ref sig .tc := ⟨.hbm, 193, rfl⟩
abbrev main_v71 : Ref sig .tc := ⟨.hbm, 194, rfl⟩
abbrev main_v72 : Ref sig .tc := ⟨.hbm, 195, rfl⟩
abbrev main_v73 : Ref sig .tc := ⟨.hbm, 196, rfl⟩
abbrev main_v74 : Ref sig .tc := ⟨.hbm, 197, rfl⟩
abbrev main_v75 : Ref sig .tc := ⟨.hbm, 198, rfl⟩
abbrev main_call8_v0 : Ref sig .tc := ⟨.hbm, 199, rfl⟩
abbrev main_call8_v1_0 : Ref sig .tc := ⟨.hbm, 200, rfl⟩
abbrev main_v76 : Ref sig .tc := ⟨.hbm, 201, rfl⟩
abbrev main_v77 : Ref sig .tc := ⟨.hbm, 202, rfl⟩
abbrev main_call9_c : Ref sig .tc := ⟨.hbm, 203, rfl⟩
abbrev main_call9_v0 : Ref sig .tc := ⟨.hbm, 204, rfl⟩
abbrev main_call9_v1 : Ref sig .tc := ⟨.hbm, 205, rfl⟩
abbrev main_call9_c_0 : Ref sig .tc := ⟨.hbm, 206, rfl⟩
abbrev main_call9_v2 : Ref sig .tc := ⟨.hbm, 207, rfl⟩
abbrev main_call9_v3 : Ref sig .tc := ⟨.hbm, 208, rfl⟩
abbrev main_call9_v4 : Ref sig .tc := ⟨.hbm, 209, rfl⟩
abbrev main_call9_v5 : Ref sig .tc := ⟨.hbm, 210, rfl⟩
abbrev main_call9_c_1 : Ref sig .tc := ⟨.hbm, 211, rfl⟩
abbrev main_call9_c_2 : Ref sig .tc := ⟨.hbm, 212, rfl⟩
abbrev main_call9_v6 : Ref sig .tc := ⟨.hbm, 213, rfl⟩
abbrev main_call9_v7 : Ref sig .tc := ⟨.hbm, 214, rfl⟩
abbrev main_call9_v8 : Ref sig .tc := ⟨.hbm, 215, rfl⟩
abbrev main_call9_v9 : Ref sig .tc := ⟨.hbm, 216, rfl⟩
abbrev main_call9_v10 : Ref sig .tc := ⟨.hbm, 217, rfl⟩
abbrev main_call9_v11 : Ref sig .tc := ⟨.hbm, 218, rfl⟩
abbrev main_call9_c_3 : Ref sig .tc := ⟨.hbm, 219, rfl⟩
abbrev main_call9_v12 : Ref sig .tc := ⟨.hbm, 220, rfl⟩
abbrev main_call9_v13 : Ref sig .tc := ⟨.hbm, 221, rfl⟩
abbrev main_call9_c_4 : Ref sig .tc := ⟨.hbm, 222, rfl⟩
abbrev main_call9_v14 : Ref sig .tc := ⟨.hbm, 223, rfl⟩
abbrev main_v78 : Ref sig .tc := ⟨.hbm, 224, rfl⟩
abbrev main_c_15 : Ref sig .tc := ⟨.hbm, 225, rfl⟩
abbrev main_c_16 : Ref sig .tc := ⟨.hbm, 226, rfl⟩
abbrev main_v79 : Ref sig .tc := ⟨.hbm, 227, rfl⟩
abbrev main_v80 : Ref sig .tc := ⟨.hbm, 228, rfl⟩
abbrev main_v81 : Ref sig .tc := ⟨.hbm, 229, rfl⟩
abbrev main_c_17 : Ref sig .tc := ⟨.hbm, 230, rfl⟩
abbrev main_v82 : Ref sig .tc := ⟨.hbm, 231, rfl⟩
abbrev main_v83 : Ref sig .tc := ⟨.hbm, 232, rfl⟩
abbrev main_v84 : Ref sig .tc := ⟨.hbm, 233, rfl⟩
abbrev main_v85 : Ref sig .tc := ⟨.hbm, 234, rfl⟩
abbrev main_v86 : Ref sig .tc := ⟨.hbm, 235, rfl⟩
abbrev main_call10_call0_v0 : Ref sig .tc := ⟨.hbm, 236, rfl⟩
abbrev main_call10_call0_v1 : Ref sig .tc := ⟨.hbm, 237, rfl⟩
abbrev main_call10_call0_v2 : Ref sig .tc := ⟨.hbm, 238, rfl⟩
abbrev main_call10_call0_v3 : Ref sig .tc := ⟨.hbm, 239, rfl⟩
abbrev main_call10_call0_v4 : Ref sig .tc := ⟨.hbm, 240, rfl⟩
abbrev main_call10_call0_c : Ref sig .tc := ⟨.hbm, 241, rfl⟩
abbrev main_call10_call0_v5 : Ref sig .tc := ⟨.hbm, 242, rfl⟩
abbrev main_call10_call0_v6 : Ref sig .tc := ⟨.hbm, 243, rfl⟩
abbrev main_call10_call0_c_0 : Ref sig .tc := ⟨.hbm, 244, rfl⟩
abbrev main_call10_call0_v7 : Ref sig .tc := ⟨.hbm, 245, rfl⟩
abbrev main_call10_call0_v8 : Ref sig .tc := ⟨.hbm, 246, rfl⟩
abbrev main_call10_call0_v9 : Ref sig .tc := ⟨.hbm, 247, rfl⟩
abbrev main_call10_call0_v10 : Ref sig .tc := ⟨.hbm, 248, rfl⟩
abbrev main_call10_call0_call0_v0 : Ref sig .tc := ⟨.hbm, 249, rfl⟩
abbrev main_call10_call0_call0_c : Ref sig .tc := ⟨.hbm, 250, rfl⟩
abbrev main_call10_call0_call0_v1 : Ref sig .tc := ⟨.hbm, 251, rfl⟩
abbrev main_call10_call0_call0_v2 : Ref sig .tc := ⟨.hbm, 252, rfl⟩
abbrev main_call10_call0_call0_v3 : Ref sig .tc := ⟨.hbm, 253, rfl⟩
abbrev main_call10_call0_call0_v4 : Ref sig .tc := ⟨.hbm, 254, rfl⟩
abbrev main_call10_call0_call0_v5 : Ref sig .tc := ⟨.hbm, 255, rfl⟩
abbrev main_call10_call0_call0_v6 : Ref sig .tc := ⟨.hbm, 256, rfl⟩
abbrev main_call10_call0_call0_c_0 : Ref sig .tc := ⟨.hbm, 257, rfl⟩
abbrev main_call10_call0_call0_v7 : Ref sig .tc := ⟨.hbm, 258, rfl⟩
abbrev main_call10_call0_call0_v8 : Ref sig .tc := ⟨.hbm, 259, rfl⟩
abbrev main_call10_call0_call0_c_1 : Ref sig .tc := ⟨.hbm, 260, rfl⟩
abbrev main_call10_call0_call0_v9 : Ref sig .tc := ⟨.hbm, 261, rfl⟩
abbrev main_call10_call0_call0_v10 : Ref sig .tc := ⟨.hbm, 262, rfl⟩
abbrev main_call10_call0_call0_v11 : Ref sig .tc := ⟨.hbm, 263, rfl⟩
abbrev main_call10_call0_call0_v12 : Ref sig .tc := ⟨.hbm, 264, rfl⟩
abbrev main_call10_call0_call0_v13 : Ref sig .tc := ⟨.hbm, 265, rfl⟩
abbrev main_call10_call0_call0_c_2 : Ref sig .tc := ⟨.hbm, 266, rfl⟩
abbrev main_call10_call0_call0_v14 : Ref sig .tc := ⟨.hbm, 267, rfl⟩
abbrev main_call10_call0_call0_v15 : Ref sig .tc := ⟨.hbm, 268, rfl⟩
abbrev main_call10_call0_call0_c_3 : Ref sig .tc := ⟨.hbm, 269, rfl⟩
abbrev main_call10_call0_call0_v16 : Ref sig .tc := ⟨.hbm, 270, rfl⟩
abbrev main_call10_call0_call0_v17 : Ref sig .tc := ⟨.hbm, 271, rfl⟩
abbrev main_call10_call0_call0_v18 : Ref sig .tc := ⟨.hbm, 272, rfl⟩
abbrev main_call10_call0_call0_v19 : Ref sig .tc := ⟨.hbm, 273, rfl⟩
abbrev main_call10_call0_call0_v20 : Ref sig .tc := ⟨.hbm, 274, rfl⟩
abbrev main_call10_call0_call0_c_4 : Ref sig .tc := ⟨.hbm, 275, rfl⟩
abbrev main_call10_call0_call0_v21 : Ref sig .tc := ⟨.hbm, 276, rfl⟩
abbrev main_call10_call0_call0_v22 : Ref sig .tc := ⟨.hbm, 277, rfl⟩
abbrev main_call10_call0_call0_c_5 : Ref sig .tc := ⟨.hbm, 278, rfl⟩
abbrev main_call10_call0_call0_v23 : Ref sig .tc := ⟨.hbm, 279, rfl⟩
abbrev main_call10_call0_call0_v24 : Ref sig .tc := ⟨.hbm, 280, rfl⟩
abbrev main_call10_call0_call0_v25 : Ref sig .tc := ⟨.hbm, 281, rfl⟩
abbrev main_call10_call0_call0_v26 : Ref sig .tc := ⟨.hbm, 282, rfl⟩
abbrev main_call10_call0_call0_v27 : Ref sig .tc := ⟨.hbm, 283, rfl⟩
abbrev main_call10_call0_call0_c_6 : Ref sig .tc := ⟨.hbm, 284, rfl⟩
abbrev main_call10_call0_call0_v28 : Ref sig .tc := ⟨.hbm, 285, rfl⟩
abbrev main_call10_call0_call0_v29 : Ref sig .tc := ⟨.hbm, 286, rfl⟩
abbrev main_call10_call0_call0_c_7 : Ref sig .tc := ⟨.hbm, 287, rfl⟩
abbrev main_call10_call0_call0_v30 : Ref sig .tc := ⟨.hbm, 288, rfl⟩
abbrev main_call10_call0_call0_v31 : Ref sig .tc := ⟨.hbm, 289, rfl⟩
abbrev main_call10_call0_call0_v32 : Ref sig .tc := ⟨.hbm, 290, rfl⟩
abbrev main_call10_call0_call0_v33 : Ref sig .tc := ⟨.hbm, 291, rfl⟩
abbrev main_call10_call0_call0_v34 : Ref sig .tc := ⟨.hbm, 292, rfl⟩
abbrev main_call10_call0_call0_v35 : Ref sig .tc := ⟨.hbm, 293, rfl⟩
abbrev main_call10_call0_call0_v36 : Ref sig .tc := ⟨.hbm, 294, rfl⟩
abbrev main_call10_call0_call0_v37 : Ref sig .tc := ⟨.hbm, 295, rfl⟩
abbrev main_call10_call0_call0_c_8 : Ref sig .tc := ⟨.hbm, 296, rfl⟩
abbrev main_call10_call0_call0_v38 : Ref sig .tc := ⟨.hbm, 297, rfl⟩
abbrev main_call10_call0_call0_v39 : Ref sig .tc := ⟨.hbm, 298, rfl⟩
abbrev main_call10_call0_call0_v40 : Ref sig .tc := ⟨.hbm, 299, rfl⟩
abbrev main_call10_call0_call0_c_9 : Ref sig .tc := ⟨.hbm, 300, rfl⟩
abbrev main_call10_call0_call0_v41 : Ref sig .tc := ⟨.hbm, 301, rfl⟩
abbrev main_call10_call0_call0_v42 : Ref sig .tc := ⟨.hbm, 302, rfl⟩
abbrev main_call10_call0_call0_c_10 : Ref sig .tc := ⟨.hbm, 303, rfl⟩
abbrev main_call10_call0_call0_v43 : Ref sig .tc := ⟨.hbm, 304, rfl⟩
abbrev main_call10_call0_call0_v44 : Ref sig .tc := ⟨.hbm, 305, rfl⟩
abbrev main_call10_call0_call0_v45 : Ref sig .tc := ⟨.hbm, 306, rfl⟩
abbrev main_call10_call0_call0_v46 : Ref sig .tc := ⟨.hbm, 307, rfl⟩
abbrev main_call10_call0_call0_v47 : Ref sig .tc := ⟨.hbm, 308, rfl⟩
abbrev main_call10_call0_call0_c_11 : Ref sig .tc := ⟨.hbm, 309, rfl⟩
abbrev main_call10_call0_call0_v48 : Ref sig .tc := ⟨.hbm, 310, rfl⟩
abbrev main_call10_call0_call0_v49 : Ref sig .tc := ⟨.hbm, 311, rfl⟩
abbrev main_call10_call0_call0_c_12 : Ref sig .tc := ⟨.hbm, 312, rfl⟩
abbrev main_call10_call0_call0_v50 : Ref sig .tc := ⟨.hbm, 313, rfl⟩
abbrev main_call10_call0_call0_v51 : Ref sig .tc := ⟨.hbm, 314, rfl⟩
abbrev main_call10_call0_call0_v52 : Ref sig .tc := ⟨.hbm, 315, rfl⟩
abbrev main_call10_call0_call0_v53 : Ref sig .tc := ⟨.hbm, 316, rfl⟩
abbrev main_call10_call0_call0_v54 : Ref sig .tc := ⟨.hbm, 317, rfl⟩
abbrev main_call10_call0_call0_c_13 : Ref sig .tc := ⟨.hbm, 318, rfl⟩
abbrev main_call10_call0_call0_v55 : Ref sig .tc := ⟨.hbm, 319, rfl⟩
abbrev main_call10_call0_call0_v56 : Ref sig .tc := ⟨.hbm, 320, rfl⟩
abbrev main_call10_call0_call0_c_14 : Ref sig .tc := ⟨.hbm, 321, rfl⟩
abbrev main_call10_call0_call0_v57 : Ref sig .tc := ⟨.hbm, 322, rfl⟩
abbrev main_call10_call0_call0_v58 : Ref sig .tc := ⟨.hbm, 323, rfl⟩
abbrev main_call10_call0_call0_v59 : Ref sig .tc := ⟨.hbm, 324, rfl⟩
abbrev main_call10_call0_call0_v60 : Ref sig .tc := ⟨.hbm, 325, rfl⟩
abbrev main_call10_call0_call0_v61 : Ref sig .tc := ⟨.hbm, 326, rfl⟩
abbrev main_call10_call0_call0_c_15 : Ref sig .tc := ⟨.hbm, 327, rfl⟩
abbrev main_call10_call0_call0_v62 : Ref sig .tc := ⟨.hbm, 328, rfl⟩
abbrev main_call10_call0_call0_v63 : Ref sig .tc := ⟨.hbm, 329, rfl⟩
abbrev main_call10_call0_call0_c_16 : Ref sig .tc := ⟨.hbm, 330, rfl⟩
abbrev main_call10_call0_call0_v64 : Ref sig .tc := ⟨.hbm, 331, rfl⟩
abbrev main_call10_call0_call0_v65 : Ref sig .tc := ⟨.hbm, 332, rfl⟩
abbrev main_call10_call0_call0_v66 : Ref sig .tc := ⟨.hbm, 333, rfl⟩
abbrev main_call10_call0_call0_v67 : Ref sig .tc := ⟨.hbm, 334, rfl⟩
abbrev main_call10_call0_call0_v68 : Ref sig .tc := ⟨.hbm, 335, rfl⟩
abbrev main_call10_call0_call0_v69 : Ref sig .tc := ⟨.hbm, 336, rfl⟩
abbrev main_call10_call0_call0_v70 : Ref sig .tc := ⟨.hbm, 337, rfl⟩
abbrev main_call10_call0_call0_v71 : Ref sig .tc := ⟨.hbm, 338, rfl⟩
abbrev main_call10_call0_call0_c_17 : Ref sig .tc := ⟨.hbm, 339, rfl⟩
abbrev main_call10_call0_call0_v72 : Ref sig .tc := ⟨.hbm, 340, rfl⟩
abbrev main_call10_call0_call0_v73 : Ref sig .tc := ⟨.hbm, 341, rfl⟩
abbrev main_call10_call0_call0_v74 : Ref sig .tc := ⟨.hbm, 342, rfl⟩
abbrev main_call10_call0_call0_c_18 : Ref sig .tc := ⟨.hbm, 343, rfl⟩
abbrev main_call10_call0_call0_v75 : Ref sig .tc := ⟨.hbm, 344, rfl⟩
abbrev main_call10_call0_call0_v76 : Ref sig .tc := ⟨.hbm, 345, rfl⟩
abbrev main_call10_call0_call0_c_19 : Ref sig .tc := ⟨.hbm, 346, rfl⟩
abbrev main_call10_call0_call0_v77 : Ref sig .tc := ⟨.hbm, 347, rfl⟩
abbrev main_call10_call0_call0_v78 : Ref sig .tc := ⟨.hbm, 348, rfl⟩
abbrev main_call10_call0_call0_v79 : Ref sig .tc := ⟨.hbm, 349, rfl⟩
abbrev main_call10_call0_call0_v80 : Ref sig .tc := ⟨.hbm, 350, rfl⟩
abbrev main_call10_call0_call0_v81 : Ref sig .tc := ⟨.hbm, 351, rfl⟩
abbrev main_call10_call0_call0_c_20 : Ref sig .tc := ⟨.hbm, 352, rfl⟩
abbrev main_call10_call0_call0_v82 : Ref sig .tc := ⟨.hbm, 353, rfl⟩
abbrev main_call10_call0_call0_v83 : Ref sig .tc := ⟨.hbm, 354, rfl⟩
abbrev main_call10_call0_call0_c_21 : Ref sig .tc := ⟨.hbm, 355, rfl⟩
abbrev main_call10_call0_call0_v84 : Ref sig .tc := ⟨.hbm, 356, rfl⟩
abbrev main_call10_call0_call0_v85 : Ref sig .tc := ⟨.hbm, 357, rfl⟩
abbrev main_call10_call0_call0_v86 : Ref sig .tc := ⟨.hbm, 358, rfl⟩
abbrev main_call10_call0_call0_v87 : Ref sig .tc := ⟨.hbm, 359, rfl⟩
abbrev main_call10_call0_call0_v88 : Ref sig .tc := ⟨.hbm, 360, rfl⟩
abbrev main_call10_call0_call0_c_22 : Ref sig .tc := ⟨.hbm, 361, rfl⟩
abbrev main_call10_call0_call0_v89 : Ref sig .tc := ⟨.hbm, 362, rfl⟩
abbrev main_call10_call0_call0_v90 : Ref sig .tc := ⟨.hbm, 363, rfl⟩
abbrev main_call10_call0_call0_c_23 : Ref sig .tc := ⟨.hbm, 364, rfl⟩
abbrev main_call10_call0_call0_v91 : Ref sig .tc := ⟨.hbm, 365, rfl⟩
abbrev main_call10_call0_call0_v92 : Ref sig .tc := ⟨.hbm, 366, rfl⟩
abbrev main_call10_call0_call0_v93 : Ref sig .tc := ⟨.hbm, 367, rfl⟩
abbrev main_call10_call0_call0_v94 : Ref sig .tc := ⟨.hbm, 368, rfl⟩
abbrev main_call10_call0_call0_v95 : Ref sig .tc := ⟨.hbm, 369, rfl⟩
abbrev main_call10_call0_call0_c_24 : Ref sig .tc := ⟨.hbm, 370, rfl⟩
abbrev main_call10_call0_call0_v96 : Ref sig .tc := ⟨.hbm, 371, rfl⟩
abbrev main_call10_call0_call0_v97 : Ref sig .tc := ⟨.hbm, 372, rfl⟩
abbrev main_call10_call0_call0_c_25 : Ref sig .tc := ⟨.hbm, 373, rfl⟩
abbrev main_call10_call0_call0_v98 : Ref sig .tc := ⟨.hbm, 374, rfl⟩
abbrev main_call10_call0_call0_v99 : Ref sig .tc := ⟨.hbm, 375, rfl⟩
abbrev main_call10_call0_call0_v100 : Ref sig .tc := ⟨.hbm, 376, rfl⟩
abbrev main_call10_call0_call0_v101 : Ref sig .tc := ⟨.hbm, 377, rfl⟩
abbrev main_call10_call0_call0_v102 : Ref sig .tc := ⟨.hbm, 378, rfl⟩
abbrev main_call10_call0_call0_v103 : Ref sig .tc := ⟨.hbm, 379, rfl⟩
abbrev main_call10_call0_call0_v104 : Ref sig .tc := ⟨.hbm, 380, rfl⟩
abbrev main_call10_call0_call0_v105 : Ref sig .tc := ⟨.hbm, 381, rfl⟩
abbrev main_call10_call0_call0_c_26 : Ref sig .tc := ⟨.hbm, 382, rfl⟩
abbrev main_call10_call0_call0_v106 : Ref sig .tc := ⟨.hbm, 383, rfl⟩
abbrev main_call10_call0_call0_v107 : Ref sig .tc := ⟨.hbm, 384, rfl⟩
abbrev main_call10_call0_call0_v108 : Ref sig .tc := ⟨.hbm, 385, rfl⟩
abbrev main_call10_call0_call0_c_27 : Ref sig .tc := ⟨.hbm, 386, rfl⟩
abbrev main_call10_call0_call0_v109 : Ref sig .tc := ⟨.hbm, 387, rfl⟩
abbrev main_call10_call0_call0_v110 : Ref sig .tc := ⟨.hbm, 388, rfl⟩
abbrev main_call10_call0_call0_c_28 : Ref sig .tc := ⟨.hbm, 389, rfl⟩
abbrev main_call10_call0_call0_v111 : Ref sig .tc := ⟨.hbm, 390, rfl⟩
abbrev main_call10_call0_call0_v112 : Ref sig .tc := ⟨.hbm, 391, rfl⟩
abbrev main_call10_call0_call0_v113 : Ref sig .tc := ⟨.hbm, 392, rfl⟩
abbrev main_call10_call0_call0_v114 : Ref sig .tc := ⟨.hbm, 393, rfl⟩
abbrev main_call10_call0_call0_v115 : Ref sig .tc := ⟨.hbm, 394, rfl⟩
abbrev main_call10_call0_call0_c_29 : Ref sig .tc := ⟨.hbm, 395, rfl⟩
abbrev main_call10_call0_call0_v116 : Ref sig .tc := ⟨.hbm, 396, rfl⟩
abbrev main_call10_call0_call0_v117 : Ref sig .tc := ⟨.hbm, 397, rfl⟩
abbrev main_call10_call0_call0_c_30 : Ref sig .tc := ⟨.hbm, 398, rfl⟩
abbrev main_call10_call0_call0_v118 : Ref sig .tc := ⟨.hbm, 399, rfl⟩
abbrev main_call10_call0_call0_v119 : Ref sig .tc := ⟨.hbm, 400, rfl⟩
abbrev main_call10_call0_call0_v120 : Ref sig .tc := ⟨.hbm, 401, rfl⟩
abbrev main_call10_call0_call0_v121 : Ref sig .tc := ⟨.hbm, 402, rfl⟩
abbrev main_call10_call0_call0_v122 : Ref sig .tc := ⟨.hbm, 403, rfl⟩
abbrev main_call10_call0_call0_c_31 : Ref sig .tc := ⟨.hbm, 404, rfl⟩
abbrev main_call10_call0_call0_v123 : Ref sig .tc := ⟨.hbm, 405, rfl⟩
abbrev main_call10_call0_call0_v124 : Ref sig .tc := ⟨.hbm, 406, rfl⟩
abbrev main_call10_call0_call0_c_32 : Ref sig .tc := ⟨.hbm, 407, rfl⟩
abbrev main_call10_call0_call0_v125 : Ref sig .tc := ⟨.hbm, 408, rfl⟩
abbrev main_call10_call0_call0_v126 : Ref sig .tc := ⟨.hbm, 409, rfl⟩
abbrev main_call10_call0_call0_v127 : Ref sig .tc := ⟨.hbm, 410, rfl⟩
abbrev main_call10_call0_call0_v128 : Ref sig .tc := ⟨.hbm, 411, rfl⟩
abbrev main_call10_call0_call0_v129 : Ref sig .tc := ⟨.hbm, 412, rfl⟩
abbrev main_call10_call0_call0_c_33 : Ref sig .tc := ⟨.hbm, 413, rfl⟩
abbrev main_call10_call0_call0_v130 : Ref sig .tc := ⟨.hbm, 414, rfl⟩
abbrev main_call10_call0_call0_v131 : Ref sig .tc := ⟨.hbm, 415, rfl⟩
abbrev main_call10_call0_call0_c_34 : Ref sig .tc := ⟨.hbm, 416, rfl⟩
abbrev main_call10_call0_call0_v132 : Ref sig .tc := ⟨.hbm, 417, rfl⟩
abbrev main_call10_call0_call0_v133 : Ref sig .tc := ⟨.hbm, 418, rfl⟩
abbrev main_call10_call0_call0_v134 : Ref sig .tc := ⟨.hbm, 419, rfl⟩
abbrev main_call10_call0_call0_v135 : Ref sig .tc := ⟨.hbm, 420, rfl⟩
abbrev main_call10_call0_call0_v136 : Ref sig .tc := ⟨.hbm, 421, rfl⟩
abbrev main_call10_call0_call0_v137 : Ref sig .tc := ⟨.hbm, 422, rfl⟩
abbrev main_call10_call0_call0_v138 : Ref sig .tc := ⟨.hbm, 423, rfl⟩
abbrev main_call10_call0_call0_v139 : Ref sig .tc := ⟨.hbm, 424, rfl⟩
abbrev main_call10_call0_call0_c_35 : Ref sig .tc := ⟨.hbm, 425, rfl⟩
abbrev main_call10_call0_call0_v140 : Ref sig .tc := ⟨.hbm, 426, rfl⟩
abbrev main_call10_call0_call0_v141 : Ref sig .tc := ⟨.hbm, 427, rfl⟩
abbrev main_call10_call0_call0_v142 : Ref sig .tc := ⟨.hbm, 428, rfl⟩
abbrev main_call10_call0_call0_c_36 : Ref sig .tc := ⟨.hbm, 429, rfl⟩
abbrev main_call10_call0_call0_v143 : Ref sig .tc := ⟨.hbm, 430, rfl⟩
abbrev main_call10_call0_call0_v144 : Ref sig .tc := ⟨.hbm, 431, rfl⟩
abbrev main_call10_call0_call0_c_37 : Ref sig .tc := ⟨.hbm, 432, rfl⟩
abbrev main_call10_call0_call0_v145 : Ref sig .tc := ⟨.hbm, 433, rfl⟩
abbrev main_call10_call0_call0_v146 : Ref sig .tc := ⟨.hbm, 434, rfl⟩
abbrev main_call10_call0_call0_v147 : Ref sig .tc := ⟨.hbm, 435, rfl⟩
abbrev main_call10_call0_call0_v148 : Ref sig .tc := ⟨.hbm, 436, rfl⟩
abbrev main_call10_call0_call0_v149 : Ref sig .tc := ⟨.hbm, 437, rfl⟩
abbrev main_call10_call0_call0_c_38 : Ref sig .tc := ⟨.hbm, 438, rfl⟩
abbrev main_call10_call0_call0_v150 : Ref sig .tc := ⟨.hbm, 439, rfl⟩
abbrev main_call10_call0_call0_v151 : Ref sig .tc := ⟨.hbm, 440, rfl⟩
abbrev main_call10_call0_call0_c_39 : Ref sig .tc := ⟨.hbm, 441, rfl⟩
abbrev main_call10_call0_call0_v152 : Ref sig .tc := ⟨.hbm, 442, rfl⟩
abbrev main_call10_call0_call0_v153 : Ref sig .tc := ⟨.hbm, 443, rfl⟩
abbrev main_call10_call0_call0_v154 : Ref sig .tc := ⟨.hbm, 444, rfl⟩
abbrev main_call10_call0_call0_v155 : Ref sig .tc := ⟨.hbm, 445, rfl⟩
abbrev main_call10_call0_call0_v156 : Ref sig .tc := ⟨.hbm, 446, rfl⟩
abbrev main_call10_call0_call0_c_40 : Ref sig .tc := ⟨.hbm, 447, rfl⟩
abbrev main_call10_call0_call0_v157 : Ref sig .tc := ⟨.hbm, 448, rfl⟩
abbrev main_call10_call0_call0_v158 : Ref sig .tc := ⟨.hbm, 449, rfl⟩
abbrev main_call10_call0_call0_c_41 : Ref sig .tc := ⟨.hbm, 450, rfl⟩
abbrev main_call10_call0_call0_v159 : Ref sig .tc := ⟨.hbm, 451, rfl⟩
abbrev main_call10_call0_call0_v160 : Ref sig .tc := ⟨.hbm, 452, rfl⟩
abbrev main_call10_call0_call0_v161 : Ref sig .tc := ⟨.hbm, 453, rfl⟩
abbrev main_call10_call0_call0_v162 : Ref sig .tc := ⟨.hbm, 454, rfl⟩
abbrev main_call10_call0_call0_v163 : Ref sig .tc := ⟨.hbm, 455, rfl⟩
abbrev main_call10_call0_call0_c_42 : Ref sig .tc := ⟨.hbm, 456, rfl⟩
abbrev main_call10_call0_call0_v164 : Ref sig .tc := ⟨.hbm, 457, rfl⟩
abbrev main_call10_call0_call0_v165 : Ref sig .tc := ⟨.hbm, 458, rfl⟩
abbrev main_call10_call0_call0_c_43 : Ref sig .tc := ⟨.hbm, 459, rfl⟩
abbrev main_call10_call0_call0_v166 : Ref sig .tc := ⟨.hbm, 460, rfl⟩
abbrev main_call10_call0_call0_v167 : Ref sig .tc := ⟨.hbm, 461, rfl⟩
abbrev main_call10_call0_call0_v168 : Ref sig .tc := ⟨.hbm, 462, rfl⟩
abbrev main_call10_call0_call0_v169 : Ref sig .tc := ⟨.hbm, 463, rfl⟩
abbrev main_call10_call0_call0_v170 : Ref sig .tc := ⟨.hbm, 464, rfl⟩
abbrev main_call10_call0_v11_0 : Ref sig .tc := ⟨.hbm, 465, rfl⟩
abbrev main_call10_call0_call0_v172 : Ref sig .tc := ⟨.hbm, 466, rfl⟩
abbrev main_call10_call0_call0_v173 : Ref sig .tc := ⟨.hbm, 467, rfl⟩
abbrev main_call10_call0_call0_c_44 : Ref sig .tc := ⟨.hbm, 468, rfl⟩
abbrev main_call10_call0_call0_v174 : Ref sig .tc := ⟨.hbm, 469, rfl⟩
abbrev main_call10_call0_v11_1 : Ref sig .tc := ⟨.hbm, 470, rfl⟩
abbrev main_call10_call0_v12 : Ref sig .tc := ⟨.hbm, 471, rfl⟩
abbrev main_call10_call0_v13 : Ref sig .tc := ⟨.hbm, 472, rfl⟩
abbrev main_call10_v0 : Ref sig .tc := ⟨.hbm, 473, rfl⟩
abbrev main_call10_v1 : Ref sig .tc := ⟨.hbm, 474, rfl⟩
abbrev main_call10_v2 : Ref sig .tc := ⟨.hbm, 475, rfl⟩
abbrev main_call10_v3 : Ref sig .tc := ⟨.hbm, 476, rfl⟩
abbrev main_call10_v4 : Ref sig .tc := ⟨.hbm, 477, rfl⟩
abbrev main_call10_v5 : Ref sig .tc := ⟨.hbm, 478, rfl⟩
abbrev main_call10_v6 : Ref sig .tc := ⟨.hbm, 479, rfl⟩
abbrev main_call10_v7 : Ref sig .tc := ⟨.hbm, 480, rfl⟩
abbrev main_call10_v8 : Ref sig .tc := ⟨.hbm, 481, rfl⟩
abbrev main_call10_v9 : Ref sig .tc := ⟨.hbm, 482, rfl⟩
abbrev main_call10_c : Ref sig .tc := ⟨.hbm, 483, rfl⟩
abbrev main_call10_v10 : Ref sig .tc := ⟨.hbm, 484, rfl⟩
abbrev main_call10_v11 : Ref sig .tc := ⟨.hbm, 485, rfl⟩
abbrev main_call10_c_0 : Ref sig .tc := ⟨.hbm, 486, rfl⟩
abbrev main_call10_v12 : Ref sig .tc := ⟨.hbm, 487, rfl⟩
abbrev main_call10_v13 : Ref sig .tc := ⟨.hbm, 488, rfl⟩
abbrev main_call10_v14 : Ref sig .tc := ⟨.hbm, 489, rfl⟩
abbrev main_call10_v15 : Ref sig .tc := ⟨.hbm, 490, rfl⟩
abbrev main_call10_call1_v0 : Ref sig .tc := ⟨.hbm, 491, rfl⟩
abbrev main_call10_call1_c : Ref sig .tc := ⟨.hbm, 492, rfl⟩
abbrev main_call10_call1_v1 : Ref sig .tc := ⟨.hbm, 493, rfl⟩
abbrev main_call10_call1_v2 : Ref sig .tc := ⟨.hbm, 494, rfl⟩
abbrev main_call10_call1_v3 : Ref sig .tc := ⟨.hbm, 495, rfl⟩
abbrev main_call10_call1_v4 : Ref sig .tc := ⟨.hbm, 496, rfl⟩
abbrev main_call10_call1_v5 : Ref sig .tc := ⟨.hbm, 497, rfl⟩
abbrev main_call10_call1_v6 : Ref sig .tc := ⟨.hbm, 498, rfl⟩
abbrev main_call10_call1_c_0 : Ref sig .tc := ⟨.hbm, 499, rfl⟩
abbrev main_call10_call1_v7 : Ref sig .tc := ⟨.hbm, 500, rfl⟩
abbrev main_call10_call1_v8 : Ref sig .tc := ⟨.hbm, 501, rfl⟩
abbrev main_call10_call1_c_1 : Ref sig .tc := ⟨.hbm, 502, rfl⟩
abbrev main_call10_call1_v9 : Ref sig .tc := ⟨.hbm, 503, rfl⟩
abbrev main_call10_call1_v10 : Ref sig .tc := ⟨.hbm, 504, rfl⟩
abbrev main_call10_call1_v11 : Ref sig .tc := ⟨.hbm, 505, rfl⟩
abbrev main_call10_call1_v12 : Ref sig .tc := ⟨.hbm, 506, rfl⟩
abbrev main_call10_call1_v13 : Ref sig .tc := ⟨.hbm, 507, rfl⟩
abbrev main_call10_call1_c_2 : Ref sig .tc := ⟨.hbm, 508, rfl⟩
abbrev main_call10_call1_v14 : Ref sig .tc := ⟨.hbm, 509, rfl⟩
abbrev main_call10_call1_v15 : Ref sig .tc := ⟨.hbm, 510, rfl⟩
abbrev main_call10_call1_c_3 : Ref sig .tc := ⟨.hbm, 511, rfl⟩
abbrev main_call10_call1_v16 : Ref sig .tc := ⟨.hbm, 512, rfl⟩
abbrev main_call10_call1_v17 : Ref sig .tc := ⟨.hbm, 513, rfl⟩
abbrev main_call10_call1_v18 : Ref sig .tc := ⟨.hbm, 514, rfl⟩
abbrev main_call10_call1_v19 : Ref sig .tc := ⟨.hbm, 515, rfl⟩
abbrev main_call10_call1_v20 : Ref sig .tc := ⟨.hbm, 516, rfl⟩
abbrev main_call10_call1_c_4 : Ref sig .tc := ⟨.hbm, 517, rfl⟩
abbrev main_call10_call1_v21 : Ref sig .tc := ⟨.hbm, 518, rfl⟩
abbrev main_call10_call1_v22 : Ref sig .tc := ⟨.hbm, 519, rfl⟩
abbrev main_call10_call1_c_5 : Ref sig .tc := ⟨.hbm, 520, rfl⟩
abbrev main_call10_call1_v23 : Ref sig .tc := ⟨.hbm, 521, rfl⟩
abbrev main_call10_call1_v24 : Ref sig .tc := ⟨.hbm, 522, rfl⟩
abbrev main_call10_call1_v25 : Ref sig .tc := ⟨.hbm, 523, rfl⟩
abbrev main_call10_call1_v26 : Ref sig .tc := ⟨.hbm, 524, rfl⟩
abbrev main_call10_call1_v27 : Ref sig .tc := ⟨.hbm, 525, rfl⟩
abbrev main_call10_call1_c_6 : Ref sig .tc := ⟨.hbm, 526, rfl⟩
abbrev main_call10_call1_v28 : Ref sig .tc := ⟨.hbm, 527, rfl⟩
abbrev main_call10_call1_v29 : Ref sig .tc := ⟨.hbm, 528, rfl⟩
abbrev main_call10_call1_c_7 : Ref sig .tc := ⟨.hbm, 529, rfl⟩
abbrev main_call10_call1_v30 : Ref sig .tc := ⟨.hbm, 530, rfl⟩
abbrev main_call10_call1_v31 : Ref sig .tc := ⟨.hbm, 531, rfl⟩
abbrev main_call10_call1_v32 : Ref sig .tc := ⟨.hbm, 532, rfl⟩
abbrev main_call10_call1_v33 : Ref sig .tc := ⟨.hbm, 533, rfl⟩
abbrev main_call10_call1_v34 : Ref sig .tc := ⟨.hbm, 534, rfl⟩
abbrev main_call10_call1_v35 : Ref sig .tc := ⟨.hbm, 535, rfl⟩
abbrev main_call10_call1_v36 : Ref sig .tc := ⟨.hbm, 536, rfl⟩
abbrev main_call10_call1_v37 : Ref sig .tc := ⟨.hbm, 537, rfl⟩
abbrev main_call10_call1_c_8 : Ref sig .tc := ⟨.hbm, 538, rfl⟩
abbrev main_call10_call1_v38 : Ref sig .tc := ⟨.hbm, 539, rfl⟩
abbrev main_call10_call1_v39 : Ref sig .tc := ⟨.hbm, 540, rfl⟩
abbrev main_call10_call1_v40 : Ref sig .tc := ⟨.hbm, 541, rfl⟩
abbrev main_call10_call1_c_9 : Ref sig .tc := ⟨.hbm, 542, rfl⟩
abbrev main_call10_call1_v41 : Ref sig .tc := ⟨.hbm, 543, rfl⟩
abbrev main_call10_call1_v42 : Ref sig .tc := ⟨.hbm, 544, rfl⟩
abbrev main_call10_call1_c_10 : Ref sig .tc := ⟨.hbm, 545, rfl⟩
abbrev main_call10_call1_v43 : Ref sig .tc := ⟨.hbm, 546, rfl⟩
abbrev main_call10_call1_v44 : Ref sig .tc := ⟨.hbm, 547, rfl⟩
abbrev main_call10_call1_v45 : Ref sig .tc := ⟨.hbm, 548, rfl⟩
abbrev main_call10_call1_v46 : Ref sig .tc := ⟨.hbm, 549, rfl⟩
abbrev main_call10_call1_v47 : Ref sig .tc := ⟨.hbm, 550, rfl⟩
abbrev main_call10_call1_c_11 : Ref sig .tc := ⟨.hbm, 551, rfl⟩
abbrev main_call10_call1_v48 : Ref sig .tc := ⟨.hbm, 552, rfl⟩
abbrev main_call10_call1_v49 : Ref sig .tc := ⟨.hbm, 553, rfl⟩
abbrev main_call10_call1_c_12 : Ref sig .tc := ⟨.hbm, 554, rfl⟩
abbrev main_call10_call1_v50 : Ref sig .tc := ⟨.hbm, 555, rfl⟩
abbrev main_call10_call1_v51 : Ref sig .tc := ⟨.hbm, 556, rfl⟩
abbrev main_call10_call1_v52 : Ref sig .tc := ⟨.hbm, 557, rfl⟩
abbrev main_call10_call1_v53 : Ref sig .tc := ⟨.hbm, 558, rfl⟩
abbrev main_call10_call1_v54 : Ref sig .tc := ⟨.hbm, 559, rfl⟩
abbrev main_call10_call1_c_13 : Ref sig .tc := ⟨.hbm, 560, rfl⟩
abbrev main_call10_call1_v55 : Ref sig .tc := ⟨.hbm, 561, rfl⟩
abbrev main_call10_call1_v56 : Ref sig .tc := ⟨.hbm, 562, rfl⟩
abbrev main_call10_call1_c_14 : Ref sig .tc := ⟨.hbm, 563, rfl⟩
abbrev main_call10_call1_v57 : Ref sig .tc := ⟨.hbm, 564, rfl⟩
abbrev main_call10_call1_v58 : Ref sig .tc := ⟨.hbm, 565, rfl⟩
abbrev main_call10_call1_v59 : Ref sig .tc := ⟨.hbm, 566, rfl⟩
abbrev main_call10_call1_v60 : Ref sig .tc := ⟨.hbm, 567, rfl⟩
abbrev main_call10_call1_v61 : Ref sig .tc := ⟨.hbm, 568, rfl⟩
abbrev main_call10_call1_c_15 : Ref sig .tc := ⟨.hbm, 569, rfl⟩
abbrev main_call10_call1_v62 : Ref sig .tc := ⟨.hbm, 570, rfl⟩
abbrev main_call10_call1_v63 : Ref sig .tc := ⟨.hbm, 571, rfl⟩
abbrev main_call10_call1_c_16 : Ref sig .tc := ⟨.hbm, 572, rfl⟩
abbrev main_call10_call1_v64 : Ref sig .tc := ⟨.hbm, 573, rfl⟩
abbrev main_call10_call1_v65 : Ref sig .tc := ⟨.hbm, 574, rfl⟩
abbrev main_call10_call1_v66 : Ref sig .tc := ⟨.hbm, 575, rfl⟩
abbrev main_call10_call1_v67 : Ref sig .tc := ⟨.hbm, 576, rfl⟩
abbrev main_call10_call1_v68 : Ref sig .tc := ⟨.hbm, 577, rfl⟩
abbrev main_call10_call1_v69 : Ref sig .tc := ⟨.hbm, 578, rfl⟩
abbrev main_call10_call1_v70 : Ref sig .tc := ⟨.hbm, 579, rfl⟩
abbrev main_call10_call1_v71 : Ref sig .tc := ⟨.hbm, 580, rfl⟩
abbrev main_call10_call1_c_17 : Ref sig .tc := ⟨.hbm, 581, rfl⟩
abbrev main_call10_call1_v72 : Ref sig .tc := ⟨.hbm, 582, rfl⟩
abbrev main_call10_call1_v73 : Ref sig .tc := ⟨.hbm, 583, rfl⟩
abbrev main_call10_call1_v74 : Ref sig .tc := ⟨.hbm, 584, rfl⟩
abbrev main_call10_call1_c_18 : Ref sig .tc := ⟨.hbm, 585, rfl⟩
abbrev main_call10_call1_v75 : Ref sig .tc := ⟨.hbm, 586, rfl⟩
abbrev main_call10_call1_v76 : Ref sig .tc := ⟨.hbm, 587, rfl⟩
abbrev main_call10_call1_c_19 : Ref sig .tc := ⟨.hbm, 588, rfl⟩
abbrev main_call10_call1_v77 : Ref sig .tc := ⟨.hbm, 589, rfl⟩
abbrev main_call10_call1_v78 : Ref sig .tc := ⟨.hbm, 590, rfl⟩
abbrev main_call10_call1_v79 : Ref sig .tc := ⟨.hbm, 591, rfl⟩
abbrev main_call10_call1_v80 : Ref sig .tc := ⟨.hbm, 592, rfl⟩
abbrev main_call10_call1_v81 : Ref sig .tc := ⟨.hbm, 593, rfl⟩
abbrev main_call10_call1_c_20 : Ref sig .tc := ⟨.hbm, 594, rfl⟩
abbrev main_call10_call1_v82 : Ref sig .tc := ⟨.hbm, 595, rfl⟩
abbrev main_call10_call1_v83 : Ref sig .tc := ⟨.hbm, 596, rfl⟩
abbrev main_call10_call1_c_21 : Ref sig .tc := ⟨.hbm, 597, rfl⟩
abbrev main_call10_call1_v84 : Ref sig .tc := ⟨.hbm, 598, rfl⟩
abbrev main_call10_call1_v85 : Ref sig .tc := ⟨.hbm, 599, rfl⟩
abbrev main_call10_call1_v86 : Ref sig .tc := ⟨.hbm, 600, rfl⟩
abbrev main_call10_call1_v87 : Ref sig .tc := ⟨.hbm, 601, rfl⟩
abbrev main_call10_call1_v88 : Ref sig .tc := ⟨.hbm, 602, rfl⟩
abbrev main_call10_call1_c_22 : Ref sig .tc := ⟨.hbm, 603, rfl⟩
abbrev main_call10_call1_v89 : Ref sig .tc := ⟨.hbm, 604, rfl⟩
abbrev main_call10_call1_v90 : Ref sig .tc := ⟨.hbm, 605, rfl⟩
abbrev main_call10_call1_c_23 : Ref sig .tc := ⟨.hbm, 606, rfl⟩
abbrev main_call10_call1_v91 : Ref sig .tc := ⟨.hbm, 607, rfl⟩
abbrev main_call10_call1_v92 : Ref sig .tc := ⟨.hbm, 608, rfl⟩
abbrev main_call10_call1_v93 : Ref sig .tc := ⟨.hbm, 609, rfl⟩
abbrev main_call10_call1_v94 : Ref sig .tc := ⟨.hbm, 610, rfl⟩
abbrev main_call10_call1_v95 : Ref sig .tc := ⟨.hbm, 611, rfl⟩
abbrev main_call10_call1_c_24 : Ref sig .tc := ⟨.hbm, 612, rfl⟩
abbrev main_call10_call1_v96 : Ref sig .tc := ⟨.hbm, 613, rfl⟩
abbrev main_call10_call1_v97 : Ref sig .tc := ⟨.hbm, 614, rfl⟩
abbrev main_call10_call1_c_25 : Ref sig .tc := ⟨.hbm, 615, rfl⟩
abbrev main_call10_call1_v98 : Ref sig .tc := ⟨.hbm, 616, rfl⟩
abbrev main_call10_call1_v99 : Ref sig .tc := ⟨.hbm, 617, rfl⟩
abbrev main_call10_call1_v100 : Ref sig .tc := ⟨.hbm, 618, rfl⟩
abbrev main_call10_call1_v101 : Ref sig .tc := ⟨.hbm, 619, rfl⟩
abbrev main_call10_call1_v102 : Ref sig .tc := ⟨.hbm, 620, rfl⟩
abbrev main_call10_call1_v103 : Ref sig .tc := ⟨.hbm, 621, rfl⟩
abbrev main_call10_call1_v104 : Ref sig .tc := ⟨.hbm, 622, rfl⟩
abbrev main_call10_call1_v105 : Ref sig .tc := ⟨.hbm, 623, rfl⟩
abbrev main_call10_call1_c_26 : Ref sig .tc := ⟨.hbm, 624, rfl⟩
abbrev main_call10_call1_v106 : Ref sig .tc := ⟨.hbm, 625, rfl⟩
abbrev main_call10_call1_v107 : Ref sig .tc := ⟨.hbm, 626, rfl⟩
abbrev main_call10_call1_v108 : Ref sig .tc := ⟨.hbm, 627, rfl⟩
abbrev main_call10_call1_c_27 : Ref sig .tc := ⟨.hbm, 628, rfl⟩
abbrev main_call10_call1_v109 : Ref sig .tc := ⟨.hbm, 629, rfl⟩
abbrev main_call10_call1_v110 : Ref sig .tc := ⟨.hbm, 630, rfl⟩
abbrev main_call10_call1_c_28 : Ref sig .tc := ⟨.hbm, 631, rfl⟩
abbrev main_call10_call1_v111 : Ref sig .tc := ⟨.hbm, 632, rfl⟩
abbrev main_call10_call1_v112 : Ref sig .tc := ⟨.hbm, 633, rfl⟩
abbrev main_call10_call1_v113 : Ref sig .tc := ⟨.hbm, 634, rfl⟩
abbrev main_call10_call1_v114 : Ref sig .tc := ⟨.hbm, 635, rfl⟩
abbrev main_call10_call1_v115 : Ref sig .tc := ⟨.hbm, 636, rfl⟩
abbrev main_call10_call1_c_29 : Ref sig .tc := ⟨.hbm, 637, rfl⟩
abbrev main_call10_call1_v116 : Ref sig .tc := ⟨.hbm, 638, rfl⟩
abbrev main_call10_call1_v117 : Ref sig .tc := ⟨.hbm, 639, rfl⟩
abbrev main_call10_call1_c_30 : Ref sig .tc := ⟨.hbm, 640, rfl⟩
abbrev main_call10_call1_v118 : Ref sig .tc := ⟨.hbm, 641, rfl⟩
abbrev main_call10_call1_v119 : Ref sig .tc := ⟨.hbm, 642, rfl⟩
abbrev main_call10_call1_v120 : Ref sig .tc := ⟨.hbm, 643, rfl⟩
abbrev main_call10_call1_v121 : Ref sig .tc := ⟨.hbm, 644, rfl⟩
abbrev main_call10_call1_v122 : Ref sig .tc := ⟨.hbm, 645, rfl⟩
abbrev main_call10_call1_c_31 : Ref sig .tc := ⟨.hbm, 646, rfl⟩
abbrev main_call10_call1_v123 : Ref sig .tc := ⟨.hbm, 647, rfl⟩
abbrev main_call10_call1_v124 : Ref sig .tc := ⟨.hbm, 648, rfl⟩
abbrev main_call10_call1_c_32 : Ref sig .tc := ⟨.hbm, 649, rfl⟩
abbrev main_call10_call1_v125 : Ref sig .tc := ⟨.hbm, 650, rfl⟩
abbrev main_call10_call1_v126 : Ref sig .tc := ⟨.hbm, 651, rfl⟩
abbrev main_call10_call1_v127 : Ref sig .tc := ⟨.hbm, 652, rfl⟩
abbrev main_call10_call1_v128 : Ref sig .tc := ⟨.hbm, 653, rfl⟩
abbrev main_call10_call1_v129 : Ref sig .tc := ⟨.hbm, 654, rfl⟩
abbrev main_call10_call1_c_33 : Ref sig .tc := ⟨.hbm, 655, rfl⟩
abbrev main_call10_call1_v130 : Ref sig .tc := ⟨.hbm, 656, rfl⟩
abbrev main_call10_call1_v131 : Ref sig .tc := ⟨.hbm, 657, rfl⟩
abbrev main_call10_call1_c_34 : Ref sig .tc := ⟨.hbm, 658, rfl⟩
abbrev main_call10_call1_v132 : Ref sig .tc := ⟨.hbm, 659, rfl⟩
abbrev main_call10_call1_v133 : Ref sig .tc := ⟨.hbm, 660, rfl⟩
abbrev main_call10_call1_v134 : Ref sig .tc := ⟨.hbm, 661, rfl⟩
abbrev main_call10_call1_v135 : Ref sig .tc := ⟨.hbm, 662, rfl⟩
abbrev main_call10_call1_v136 : Ref sig .tc := ⟨.hbm, 663, rfl⟩
abbrev main_call10_call1_v137 : Ref sig .tc := ⟨.hbm, 664, rfl⟩
abbrev main_call10_call1_v138 : Ref sig .tc := ⟨.hbm, 665, rfl⟩
abbrev main_call10_call1_v139 : Ref sig .tc := ⟨.hbm, 666, rfl⟩
abbrev main_call10_call1_c_35 : Ref sig .tc := ⟨.hbm, 667, rfl⟩
abbrev main_call10_call1_v140 : Ref sig .tc := ⟨.hbm, 668, rfl⟩
abbrev main_call10_call1_v141 : Ref sig .tc := ⟨.hbm, 669, rfl⟩
abbrev main_call10_call1_v142 : Ref sig .tc := ⟨.hbm, 670, rfl⟩
abbrev main_call10_call1_c_36 : Ref sig .tc := ⟨.hbm, 671, rfl⟩
abbrev main_call10_call1_v143 : Ref sig .tc := ⟨.hbm, 672, rfl⟩
abbrev main_call10_call1_v144 : Ref sig .tc := ⟨.hbm, 673, rfl⟩
abbrev main_call10_call1_c_37 : Ref sig .tc := ⟨.hbm, 674, rfl⟩
abbrev main_call10_call1_v145 : Ref sig .tc := ⟨.hbm, 675, rfl⟩
abbrev main_call10_call1_v146 : Ref sig .tc := ⟨.hbm, 676, rfl⟩
abbrev main_call10_call1_v147 : Ref sig .tc := ⟨.hbm, 677, rfl⟩
abbrev main_call10_call1_v148 : Ref sig .tc := ⟨.hbm, 678, rfl⟩
abbrev main_call10_call1_v149 : Ref sig .tc := ⟨.hbm, 679, rfl⟩
abbrev main_call10_call1_c_38 : Ref sig .tc := ⟨.hbm, 680, rfl⟩
abbrev main_call10_call1_v150 : Ref sig .tc := ⟨.hbm, 681, rfl⟩
abbrev main_call10_call1_v151 : Ref sig .tc := ⟨.hbm, 682, rfl⟩
abbrev main_call10_call1_c_39 : Ref sig .tc := ⟨.hbm, 683, rfl⟩
abbrev main_call10_call1_v152 : Ref sig .tc := ⟨.hbm, 684, rfl⟩
abbrev main_call10_call1_v153 : Ref sig .tc := ⟨.hbm, 685, rfl⟩
abbrev main_call10_call1_v154 : Ref sig .tc := ⟨.hbm, 686, rfl⟩
abbrev main_call10_call1_v155 : Ref sig .tc := ⟨.hbm, 687, rfl⟩
abbrev main_call10_call1_v156 : Ref sig .tc := ⟨.hbm, 688, rfl⟩
abbrev main_call10_call1_c_40 : Ref sig .tc := ⟨.hbm, 689, rfl⟩
abbrev main_call10_call1_v157 : Ref sig .tc := ⟨.hbm, 690, rfl⟩
abbrev main_call10_call1_v158 : Ref sig .tc := ⟨.hbm, 691, rfl⟩
abbrev main_call10_call1_c_41 : Ref sig .tc := ⟨.hbm, 692, rfl⟩
abbrev main_call10_call1_v159 : Ref sig .tc := ⟨.hbm, 693, rfl⟩
abbrev main_call10_call1_v160 : Ref sig .tc := ⟨.hbm, 694, rfl⟩
abbrev main_call10_call1_v161 : Ref sig .tc := ⟨.hbm, 695, rfl⟩
abbrev main_call10_call1_v162 : Ref sig .tc := ⟨.hbm, 696, rfl⟩
abbrev main_call10_call1_v163 : Ref sig .tc := ⟨.hbm, 697, rfl⟩
abbrev main_call10_call1_c_42 : Ref sig .tc := ⟨.hbm, 698, rfl⟩
abbrev main_call10_call1_v164 : Ref sig .tc := ⟨.hbm, 699, rfl⟩
abbrev main_call10_call1_v165 : Ref sig .tc := ⟨.hbm, 700, rfl⟩
abbrev main_call10_call1_c_43 : Ref sig .tc := ⟨.hbm, 701, rfl⟩
abbrev main_call10_call1_v166 : Ref sig .tc := ⟨.hbm, 702, rfl⟩
abbrev main_call10_call1_v167 : Ref sig .tc := ⟨.hbm, 703, rfl⟩
abbrev main_call10_call1_v168 : Ref sig .tc := ⟨.hbm, 704, rfl⟩
abbrev main_call10_call1_v169 : Ref sig .tc := ⟨.hbm, 705, rfl⟩
abbrev main_call10_call1_v170 : Ref sig .tc := ⟨.hbm, 706, rfl⟩
abbrev main_call10_v16_0 : Ref sig .tc := ⟨.hbm, 707, rfl⟩
abbrev main_call10_call1_v172 : Ref sig .tc := ⟨.hbm, 708, rfl⟩
abbrev main_call10_call1_v173 : Ref sig .tc := ⟨.hbm, 709, rfl⟩
abbrev main_call10_call1_c_44 : Ref sig .tc := ⟨.hbm, 710, rfl⟩
abbrev main_call10_call1_v174 : Ref sig .tc := ⟨.hbm, 711, rfl⟩
abbrev main_call10_v16_1 : Ref sig .tc := ⟨.hbm, 712, rfl⟩
abbrev main_call10_v17 : Ref sig .tc := ⟨.hbm, 713, rfl⟩
abbrev main_call10_v18_0 : Ref sig .tc := ⟨.hbm, 714, rfl⟩
abbrev main_v87 : Ref sig .tc := ⟨.hbm, 715, rfl⟩
abbrev main_c_18 : Ref sig .tc := ⟨.hbm, 716, rfl⟩
abbrev main_v88 : Ref sig .tc := ⟨.hbm, 717, rfl⟩
abbrev main_v89 : Ref sig .tc := ⟨.hbm, 718, rfl⟩
abbrev main_c_19 : Ref sig .tc := ⟨.hbm, 719, rfl⟩
abbrev main_v90 : Ref sig .tc := ⟨.hbm, 720, rfl⟩
abbrev main_v91 : Ref sig .tc := ⟨.hbm, 721, rfl⟩
abbrev main_v92 : Ref sig .tc := ⟨.hbm, 722, rfl⟩
abbrev main_v93 : Ref sig .tc := ⟨.hbm, 723, rfl⟩
abbrev main_v94 : Ref sig .tc := ⟨.hbm, 724, rfl⟩
abbrev main_v95 : Ref sig .tc := ⟨.hbm, 725, rfl⟩
abbrev main_v96 : Ref sig .tc := ⟨.hbm, 726, rfl⟩
abbrev main_v97 : Ref sig .tc := ⟨.hbm, 727, rfl⟩
abbrev main_call11_c : Ref sig .tc := ⟨.hbm, 728, rfl⟩
abbrev main_call11_v0 : Ref sig .tc := ⟨.hbm, 729, rfl⟩
abbrev main_call11_v1 : Ref sig .tc := ⟨.hbm, 730, rfl⟩
abbrev main_call11_c_0 : Ref sig .tc := ⟨.hbm, 731, rfl⟩
abbrev main_call11_v2 : Ref sig .tc := ⟨.hbm, 732, rfl⟩
abbrev main_call11_v3 : Ref sig .tc := ⟨.hbm, 733, rfl⟩
abbrev main_call11_v4 : Ref sig .tc := ⟨.hbm, 734, rfl⟩
abbrev main_call11_v5 : Ref sig .tc := ⟨.hbm, 735, rfl⟩
abbrev main_call11_c_1 : Ref sig .tc := ⟨.hbm, 736, rfl⟩
abbrev main_call11_c_2 : Ref sig .tc := ⟨.hbm, 737, rfl⟩
abbrev main_call11_v6 : Ref sig .tc := ⟨.hbm, 738, rfl⟩
abbrev main_call11_v7 : Ref sig .tc := ⟨.hbm, 739, rfl⟩
abbrev main_call11_v8 : Ref sig .tc := ⟨.hbm, 740, rfl⟩
abbrev main_call11_v9 : Ref sig .tc := ⟨.hbm, 741, rfl⟩
abbrev main_call11_v10 : Ref sig .tc := ⟨.hbm, 742, rfl⟩
abbrev main_call11_v11 : Ref sig .tc := ⟨.hbm, 743, rfl⟩
abbrev main_call11_c_3 : Ref sig .tc := ⟨.hbm, 744, rfl⟩
abbrev main_call11_v12 : Ref sig .tc := ⟨.hbm, 745, rfl⟩
abbrev main_call11_v13 : Ref sig .tc := ⟨.hbm, 746, rfl⟩
abbrev main_call11_cst : Ref sig .tc := ⟨.hbm, 747, rfl⟩
abbrev main_call11_v14 : Ref sig .tc := ⟨.hbm, 748, rfl⟩
abbrev main_v98 : Ref sig .tc := ⟨.hbm, 749, rfl⟩
abbrev main_v99 : Ref sig .tc := ⟨.hbm, 750, rfl⟩

abbrev nD : Nat := 1
abbrev τ : Topo := Topo.v7x

variable {F : FTy → Type} [FloatOps F]
-- ==== Proof.RefOps.lean ====
/-
The reference's operations as lists. The reference's program is a straight line of host operations with calls of
module-local functions; here each function's operations are a list over the call's buffers, and `main` is the
straight line of all of them (`main_seq`).
-/
module

public import proofs.«01_k».proof.Proof.Gen.ReferenceIdeal
public import Idealize.ShloMosaic.Lib.StableHlo.RunRead
public import Idealize.ShloMosaic.Lib.StableHlo.RunHlo
public import Idealize.ShloMosaic.Lib.Pipeline.Regions

@[expose] public section

set_option maxRecDepth 8000
set_option maxHeartbeats 4000000

noncomputable section

namespace Cert.ReferenceIdeal.Ops

open Idealize.ShloMosaic Idealize.ShloMosaic.TcCoe Idealize.SL.Sem
open Cert.ReferenceIdeal Cert.ReferenceIdeal.Facts₀

variable {F : FTy → Type} [FloatOps F]

/-- The operations of @argmax over the windows of the activations over its arguments and one call's buffers. -/
def argmaxOps (arg0 : StableHlo.TRef sig ⟨S8x32x8x8x4, .f32⟩) (φ : fn_argmax.Bufs) : List (HloOp τ sig (Elt F)) :=
  [StableHlo.TRef.nullary φ.v0 (iotaInDim S8x32x8x8x4 32 4),
    StableHlo.TRef.nullary φ.cst (constant S_ .f32 0xFF800000#32),
    StableHlo.TRef.nullary φ.c (constantI S_ 32 0#32),
    StableHlo.TRef.quaternary arg0 φ.v0 φ.cst φ.c φ.v1_0 (fun x y u v j => (Host.argReduce reducer_argmax_f32_i32 x y u v reducesTo_S8x32x8x8x4_S8x32x8x8_d4 h_S_ j).1),
    StableHlo.TRef.quaternary arg0 φ.v0 φ.cst φ.c φ.v1_1 (fun x y u v j => (Host.argReduce reducer_argmax_f32_i32 x y u v reducesTo_S8x32x8x8x4_S8x32x8x8_d4 h_S_ j).2)]

/-- The operations of @_where over its arguments and one call's buffers. -/
def whereOps (arg0 : StableHlo.TRef sig ⟨S8x32x8x8, .i1⟩) (arg1 : StableHlo.TRef sig ⟨S8x32x8x8, .i32⟩) (arg2 : StableHlo.TRef sig ⟨S8x32x8x8, .i32⟩) (φ : fn_where.Bufs) : List (HloOp τ sig (Elt F)) :=
  [StableHlo.TRef.ternary arg0 arg1 arg2 φ.v0 select]

/-- The operations of @floor_divide over its arguments and one call's buffers. -/
def floor_divideOps (arg0 : StableHlo.TRef sig ⟨S8x32x8x8, .i32⟩) (arg1 : StableHlo.TRef sig ⟨S_, .i32⟩) (φ : fn_floor_divide.Bufs) : List (HloOp τ sig (Elt F)) :=
  [StableHlo.TRef.unary arg1 φ.v0 id,
    StableHlo.TRef.unary φ.v0 φ.v1 (broadcastInDim S8x32x8x8 ![] bcast_S_S8x32x8x8),
    StableHlo.TRef.binary arg0 φ.v1 φ.v2 Host.divsi,
    StableHlo.TRef.unary arg0 φ.v3 signi,
    StableHlo.TRef.unary φ.v0 φ.v4 signi,
    StableHlo.TRef.unary φ.v4 φ.v5 (broadcastInDim S8x32x8x8 ![] bcast_S_S8x32x8x8),
    StableHlo.TRef.binary φ.v3 φ.v5 φ.v6 (cmpi .ne),
    StableHlo.TRef.unary φ.v0 φ.v7 (broadcastInDim S8x32x8x8 ![] bcast_S_S8x32x8x8),
    StableHlo.TRef.binary arg0 φ.v7 φ.v8 Host.remsi,
    StableHlo.TRef.nullary φ.c (constantI S_ 32 0#32),
    StableHlo.TRef.unary φ.c φ.v9 (broadcastInDim S8x32x8x8 ![] bcast_S_S8x32x8x8),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S8x32x8x8 ![] bcast_S_S8x32x8x8),
    StableHlo.TRef.binary φ.v2 φ.v12 φ.v13 subi]
  ++ whereOps φ.v11 φ.v13 φ.v2 φ.call0

/-- The operations of @_where_0 over its arguments and one call's buffers. -/
def where_0Ops (arg0 : StableHlo.TRef sig ⟨S_, .i1⟩) (arg1 : StableHlo.TRef sig ⟨S_, .i32⟩) (arg2 : StableHlo.TRef sig ⟨S_, .i32⟩) (φ : fn_where_0.Bufs) : List (HloOp τ sig (Elt F)) :=
  [StableHlo.TRef.ternary arg0 arg1 arg2 φ.v0 select]

/-- The operations of @remainder over its arguments and one call's buffers. -/
def remainderOps (arg0 : StableHlo.TRef sig ⟨S8x32x8x8, .i32⟩) (arg1 : StableHlo.TRef sig ⟨S_, .i32⟩) (φ : fn_remainder.Bufs) : List (HloOp τ sig (Elt F)) :=
  [StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32)]
  ++ where_0Ops φ.v1 φ.c_0 φ.v0 φ.call0
  ++ [StableHlo.TRef.unary φ.call0.v0 φ.v3 (broadcastInDim S8x32x8x8 ![] bcast_S_S8x32x8x8),
    StableHlo.TRef.binary arg0 φ.v3 φ.v4 Host.remsi,
    StableHlo.TRef.nullary φ.c_1 (constantI S_ 32 0#32),
    StableHlo.TRef.unary φ.c_1 φ.v5 (broadcastInDim S8x32x8x8 ![] bcast_S_S8x32x8x8),
    StableHlo.TRef.binary φ.v4 φ.v5 φ.v6 (cmpi .ne),
    StableHlo.TRef.nullary φ.c_2 (constantI S_ 32 0#32),
    StableHlo.TRef.unary φ.c_2 φ.v7 (broadcastInDim S8x32x8x8 ![] bcast_S_S8x32x8x8),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S8x32x8x8 ![] bcast_S_S8x32x8x8),
    StableHlo.TRef.binary φ.v8 φ.v10 φ.v11 (cmpi .ne),
    StableHlo.TRef.binary φ.v11 φ.v6 φ.v12 andi,
    StableHlo.TRef.unary φ.call0.v0 φ.v13 (broadcastInDim S8x32x8x8 ![] bcast_S_S8x32x8x8),
    StableHlo.TRef.binary φ.v4 φ.v13 φ.v14 addi,
    StableHlo.TRef.ternary φ.v12 φ.v14 φ.v4 φ.v15 select]

/-- The operations of @argsort over its arguments and one call's buffers. -/
def argsortOps (arg0 : StableHlo.TRef sig ⟨S8x32x64, .f32⟩) (φ : fn_argsort.Bufs) : List (HloOp τ sig (Elt F)) :=
  [StableHlo.TRef.nullary φ.v0 (iotaInDim S8x32x64 32 2),
    StableHlo.TRef.binary arg0 φ.v0 φ.v1_0 (fun x y => (Host.sort2 S8x32x64 2 comparator_f32_i32_d2 x y).1),
    StableHlo.TRef.binary arg0 φ.v0 φ.v1_1 (fun x y => (Host.sort2 S8x32x64 2 comparator_f32_i32_d2 x y).2)]

/-- The operations of @take_along_axis over its arguments and one call's buffers. -/
def take_along_axisOps (arg0 : StableHlo.TRef sig ⟨S8x32x64, .i32⟩) (arg1 : StableHlo.TRef sig ⟨S8x32x16, .i32⟩) (φ : fn_take_along_axis.Bufs) : List (HloOp τ sig (Elt F)) :=
  [StableHlo.TRef.nullary φ.c (constantI S_ 32 0#32),
    StableHlo.TRef.unary φ.c φ.v0 (broadcastInDim S8x32x16 ![] bcast_S_S8x32x16),
    StableHlo.TRef.binary arg1 φ.v0 φ.v1 (cmpi .slt),
    StableHlo.TRef.nullary φ.c_0 (constantI S_ 32 64#32),
    StableHlo.TRef.unary φ.c_0 φ.v2 (broadcastInDim S8x32x16 ![] bcast_S_S8x32x16),
    StableHlo.TRef.binary arg1 φ.v2 φ.v3 addi,
    StableHlo.TRef.ternary φ.v1 φ.v3 arg1 φ.v4 select,
    StableHlo.TRef.reshape φ.v4 φ.v5 (rfl : (.i32 : EltTy) = .i32) shapeCasts_S8x32x16_S8x32x16x1,
    StableHlo.TRef.nullary φ.c_1 (constantI S1 32 63#32),
    StableHlo.TRef.nullary φ.c_2 (constantI S_ 32 0#32),
    StableHlo.TRef.unary φ.c_2 φ.v6 (broadcastInDim S8x32x16x1 ![] bcast_S_S8x32x16x1),
    StableHlo.TRef.binary φ.v5 φ.v6 φ.v7 (cmpi .sge),
    StableHlo.TRef.unary φ.c_1 φ.v8 (broadcastInDim S1x1x1x1 ![3] bcast_S1_S1x1x1x1_3),
    StableHlo.TRef.unary φ.v8 φ.v9 (broadcastInDim S8x32x16x1 ![0, 1, 2, 3] bcast_S1x1x1x1_S8x32x16x1_0_1_2_3),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S8x32x16x1_S8x32x16_d3 h_S_),
    StableHlo.TRef.binary arg0 φ.v5 φ.v13 (fun x i => Host.gather gather_S8x32x64_S8x32x16x1_S8x32x16_n_2_01_01_2_3_111 x i),
    StableHlo.TRef.nullary φ.c_4 (constantI S_ 32 2147483648#32),
    StableHlo.TRef.unary φ.c_4 φ.v14 (broadcastInDim S8x32x16 ![] bcast_S_S8x32x16),
    StableHlo.TRef.ternary φ.v12 φ.v13 φ.v14 φ.v15 select]

/-- The operations of @argmax_1 over its arguments and one call's buffers. -/
def argmax_1Ops (arg0 : StableHlo.TRef sig ⟨S8x1024x8x8x4, .f32⟩) (φ : fn_argmax_1.Bufs) : List (HloOp τ sig (Elt F)) :=
  [StableHlo.TRef.nullary φ.v0 (iotaInDim S8x1024x8x8x4 32 4),
    StableHlo.TRef.nullary φ.cst (constant S_ .f32 0xFF800000#32),
    StableHlo.TRef.nullary φ.c (constantI S_ 32 0#32),
    StableHlo.TRef.quaternary arg0 φ.v0 φ.cst φ.c φ.v1_0 (fun x y u v j => (Host.argReduce reducer_argmax_f32_i32 x y u v reducesTo_S8x1024x8x8x4_S8x1024x8x8_d4 h_S_ j).1),
    StableHlo.TRef.quaternary arg0 φ.v0 φ.cst φ.c φ.v1_1 (fun x y u v j => (Host.argReduce reducer_argmax_f32_i32 x y u v reducesTo_S8x1024x8x8x4_S8x1024x8x8_d4 h_S_ j).2)]

/-- The operations of @_where_3 over its arguments and one call's buffers. -/
def where_3Ops (arg0 : StableHlo.TRef sig ⟨S8x1024x8x8, .i1⟩) (arg1 : StableHlo.TRef sig ⟨S8x1024x8x8, .i32⟩) (arg2 : StableHlo.TRef sig ⟨S8x1024x8x8, .i32⟩) (φ : fn_where_3.Bufs) : List (HloOp τ sig (Elt F)) :=
  [StableHlo.TRef.ternary arg0 arg1 arg2 φ.v0 select]

/-- The operations of @floor_divide_2 over its arguments and one call's buffers. -/
def floor_divide_2Ops (arg0 : StableHlo.TRef sig ⟨S8x1024x8x8, .i32⟩) (arg1 : StableHlo.TRef sig ⟨S_, .i32⟩) (φ : fn_floor_divide_2.Bufs) : List (HloOp τ sig (Elt F)) :=
  [StableHlo.TRef.unary arg1 φ.v0 id,
    StableHlo.TRef.unary φ.v0 φ.v1 (broadcastInDim S8x1024x8x8 ![] bcast_S_S8x1024x8x8),
    StableHlo.TRef.binary arg0 φ.v1 φ.v2 Host.divsi,
    StableHlo.TRef.unary arg0 φ.v3 signi,
    StableHlo.TRef.unary φ.v0 φ.v4 signi,
    StableHlo.TRef.unary φ.v4 φ.v5 (broadcastInDim S8x1024x8x8 ![] bcast_S_S8x1024x8x8),
    StableHlo.TRef.binary φ.v3 φ.v5 φ.v6 (cmpi .ne),
    StableHlo.TRef.unary φ.v0 φ.v7 (broadcastInDim S8x1024x8x8 ![] bcast_S_S8x1024x8x8),
    StableHlo.TRef.binary arg0 φ.v7 φ.v8 Host.remsi,
    StableHlo.TRef.nullary φ.c (constantI S_ 32 0#32),
    StableHlo.TRef.unary φ.c φ.v9 (broadcastInDim S8x1024x8x8 ![] bcast_S_S8x1024x8x8),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S8x1024x8x8 ![] bcast_S_S8x1024x8x8),
    StableHlo.TRef.binary φ.v2 φ.v12 φ.v13 subi]
  ++ where_3Ops φ.v11 φ.v13 φ.v2 φ.call0

/-- The operations of @remainder_4 over its arguments and one call's buffers. -/
def remainder_4Ops (arg0 : StableHlo.TRef sig ⟨S8x1024x8x8, .i32⟩) (arg1 : StableHlo.TRef sig ⟨S_, .i32⟩) (φ : fn_remainder_4.Bufs) : List (HloOp τ sig (Elt F)) :=
  [StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32)]
  ++ where_0Ops φ.v1 φ.c_0 φ.v0 φ.call0
  ++ [StableHlo.TRef.unary φ.call0.v0 φ.v3 (broadcastInDim S8x1024x8x8 ![] bcast_S_S8x1024x8x8),
    StableHlo.TRef.binary arg0 φ.v3 φ.v4 Host.remsi,
    StableHlo.TRef.nullary φ.c_1 (constantI S_ 32 0#32),
    StableHlo.TRef.unary φ.c_1 φ.v5 (broadcastInDim S8x1024x8x8 ![] bcast_S_S8x1024x8x8),
    StableHlo.TRef.binary φ.v4 φ.v5 φ.v6 (cmpi .ne),
    StableHlo.TRef.nullary φ.c_2 (constantI S_ 32 0#32),
    StableHlo.TRef.unary φ.c_2 φ.v7 (broadcastInDim S8x1024x8x8 ![] bcast_S_S8x1024x8x8),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S8x1024x8x8 ![] bcast_S_S8x1024x8x8),
    StableHlo.TRef.binary φ.v8 φ.v10 φ.v11 (cmpi .ne),
    StableHlo.TRef.binary φ.v11 φ.v6 φ.v12 andi,
    StableHlo.TRef.unary φ.call0.v0 φ.v13 (broadcastInDim S8x1024x8x8 ![] bcast_S_S8x1024x8x8),
    StableHlo.TRef.binary φ.v4 φ.v13 φ.v14 addi,
    StableHlo.TRef.ternary φ.v12 φ.v14 φ.v4 φ.v15 select]

/-- The operations of @argsort_5 over its arguments and one call's buffers. -/
def argsort_5Ops (arg0 : StableHlo.TRef sig ⟨S8x32x32x64, .f32⟩) (φ : fn_argsort_5.Bufs) : List (HloOp τ sig (Elt F)) :=
  [StableHlo.TRef.nullary φ.v0 (iotaInDim S8x32x32x64 32 3),
    StableHlo.TRef.binary arg0 φ.v0 φ.v1_0 (fun x y => (Host.sort2 S8x32x32x64 3 comparator_f32_i32_d3 x y).1),
    StableHlo.TRef.binary arg0 φ.v0 φ.v1_1 (fun x y => (Host.sort2 S8x32x32x64 3 comparator_f32_i32_d3 x y).2)]

/-- The operations of @take_along_axis_6 over its arguments and one call's buffers. -/
def take_along_axis_6Ops (arg0 : StableHlo.TRef sig ⟨S8x32x32x64, .i32⟩) (arg1 : StableHlo.TRef sig ⟨S8x32x32x24, .i32⟩) (φ : fn_take_along_axis_6.Bufs) : List (HloOp τ sig (Elt F)) :=
  [StableHlo.TRef.nullary φ.c (constantI S_ 32 0#32),
    StableHlo.TRef.unary φ.c φ.v0 (broadcastInDim S8x32x32x24 ![] bcast_S_S8x32x32x24),
    StableHlo.TRef.binary arg1 φ.v0 φ.v1 (cmpi .slt),
    StableHlo.TRef.nullary φ.c_0 (constantI S_ 32 64#32),
    StableHlo.TRef.unary φ.c_0 φ.v2 (broadcastInDim S8x32x32x24 ![] bcast_S_S8x32x32x24),
    StableHlo.TRef.binary arg1 φ.v2 φ.v3 addi,
    StableHlo.TRef.ternary φ.v1 φ.v3 arg1 φ.v4 select,
    StableHlo.TRef.reshape φ.v4 φ.v5 (rfl : (.i32 : EltTy) = .i32) shapeCasts_S8x32x32x24_S8x32x32x24x1,
    StableHlo.TRef.nullary φ.c_1 (constantI S1 32 63#32),
    StableHlo.TRef.nullary φ.c_2 (constantI S_ 32 0#32),
    StableHlo.TRef.unary φ.c_2 φ.v6 (broadcastInDim S8x32x32x24x1 ![] bcast_S_S8x32x32x24x1),
    StableHlo.TRef.binary φ.v5 φ.v6 φ.v7 (cmpi .sge),
    StableHlo.TRef.unary φ.c_1 φ.v8 (broadcastInDim S1x1x1x1x1 ![4] bcast_S1_S1x1x1x1x1_4),
    StableHlo.TRef.unary φ.v8 φ.v9 (broadcastInDim S8x32x32x24x1 ![0, 1, 2, 3, 4] bcast_S1x1x1x1x1_S8x32x32x24x1_0_1_2_3_4),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S8x32x32x24x1_S8x32x32x24_d4 h_S_),
    StableHlo.TRef.binary arg0 φ.v5 φ.v13 (fun x i => Host.gather gather_S8x32x32x64_S8x32x32x24x1_S8x32x32x24_n_3_012_012_3_4_1111 x i),
    StableHlo.TRef.nullary φ.c_4 (constantI S_ 32 2147483648#32),
    StableHlo.TRef.unary φ.c_4 φ.v14 (broadcastInDim S8x32x32x24 ![] bcast_S_S8x32x32x24),
    StableHlo.TRef.ternary φ.v12 φ.v13 φ.v14 φ.v15 select]

/-- The operations of @threefry2x32, part 0 over its arguments and one call's buffers. -/
def threefry2x32Ops0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S2 ![] bcast_S_S2),
    StableHlo.TRef.binary arg2 φ.v2 φ.v3 addi,
    StableHlo.TRef.unary arg1 φ.v4 (broadcastInDim S2 ![] bcast_S_S2),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S2 ![] bcast_S_S2),
    StableHlo.TRef.binary φ.v5 φ.v7 φ.v8 Host.shli,
    StableHlo.TRef.nullary φ.c_1 (constantI S_ 32 19#32),
    StableHlo.TRef.unary φ.c_1 φ.v9 (broadcastInDim S2 ![] bcast_S_S2),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S2 ![] bcast_S_S2),
    StableHlo.TRef.binary φ.v12 φ.v14 φ.v15 Host.shli,
    StableHlo.TRef.nullary φ.c_3 (constantI S_ 32 17#32),
    StableHlo.TRef.unary φ.c_3 φ.v16 (broadcastInDim S2 ![] bcast_S_S2),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S2 ![] bcast_S_S2),
    StableHlo.TRef.binary φ.v19 φ.v21 φ.v22 Host.shli,
    StableHlo.TRef.nullary φ.c_5 (constantI S_ 32 6#32),
    StableHlo.TRef.unary φ.c_5 φ.v23 (broadcastInDim S2 ![] bcast_S_S2),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S2 ![] bcast_S_S2),
    StableHlo.TRef.binary φ.v26 φ.v28 φ.v29 Host.shli,
    StableHlo.TRef.nullary φ.c_7 (constantI S_ 32 26#32),
    StableHlo.TRef.unary φ.c_7 φ.v30 (broadcastInDim S2 ![] bcast_S_S2),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S2 ![] bcast_S_S2),
    StableHlo.TRef.binary φ.v27 φ.v34 φ.v35 addi,
    StableHlo.TRef.unary φ.v1 φ.v36 (broadcastInDim S2 ![] bcast_S_S2),
    StableHlo.TRef.binary φ.v33 φ.v36 φ.v37 addi,
    StableHlo.TRef.nullary φ.c_8 (constantI S_ 32 1#32),
    StableHlo.TRef.unary φ.c_8 φ.v38 (broadcastInDim S2 ![] bcast_S_S2),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S2 ![] bcast_S_S2),
    StableHlo.TRef.binary φ.v39 φ.v41 φ.v42 Host.shli,
    StableHlo.TRef.nullary φ.c_10 (constantI S_ 32 15#32),
    StableHlo.TRef.unary φ.c_10 φ.v43 (broadcastInDim S2 ![] bcast_S_S2),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi]

/-- The operations of @threefry2x32, part 1 over its arguments and one call's buffers. -/
def threefry2x32Ops1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [StableHlo.TRef.nullary φ.c_11 (constantI S_ 32 29#32),
    StableHlo.TRef.unary φ.c_11 φ.v48 (broadcastInDim S2 ![] bcast_S_S2),
    StableHlo.TRef.binary φ.v46 φ.v48 φ.v49 Host.shli,
    StableHlo.TRef.nullary φ.c_12 (constantI S_ 32 3#32),
    StableHlo.TRef.unary φ.c_12 φ.v50 (broadcastInDim S2 ![] bcast_S_S2),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S2 ![] bcast_S_S2),
    StableHlo.TRef.binary φ.v53 φ.v55 φ.v56 Host.shli,
    StableHlo.TRef.nullary φ.c_14 (constantI S_ 32 16#32),
    StableHlo.TRef.unary φ.c_14 φ.v57 (broadcastInDim S2 ![] bcast_S_S2),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S2 ![] bcast_S_S2),
    StableHlo.TRef.binary φ.v60 φ.v62 φ.v63 Host.shli,
    StableHlo.TRef.nullary φ.c_16 (constantI S_ 32 8#32),
    StableHlo.TRef.unary φ.c_16 φ.v64 (broadcastInDim S2 ![] bcast_S_S2),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S2 ![] bcast_S_S2),
    StableHlo.TRef.binary φ.v61 φ.v68 φ.v69 addi,
    StableHlo.TRef.unary arg0 φ.v70 (broadcastInDim S2 ![] bcast_S_S2),
    StableHlo.TRef.binary φ.v67 φ.v70 φ.v71 addi,
    StableHlo.TRef.nullary φ.c_17 (constantI S_ 32 2#32),
    StableHlo.TRef.unary φ.c_17 φ.v72 (broadcastInDim S2 ![] bcast_S_S2),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S2 ![] bcast_S_S2),
    StableHlo.TRef.binary φ.v73 φ.v75 φ.v76 Host.shli,
    StableHlo.TRef.nullary φ.c_19 (constantI S_ 32 19#32),
    StableHlo.TRef.unary φ.c_19 φ.v77 (broadcastInDim S2 ![] bcast_S_S2),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S2 ![] bcast_S_S2),
    StableHlo.TRef.binary φ.v80 φ.v82 φ.v83 Host.shli,
    StableHlo.TRef.nullary φ.c_21 (constantI S_ 32 17#32),
    StableHlo.TRef.unary φ.c_21 φ.v84 (broadcastInDim S2 ![] bcast_S_S2),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S2 ![] bcast_S_S2),
    StableHlo.TRef.binary φ.v87 φ.v89 φ.v90 Host.shli,
    StableHlo.TRef.nullary φ.c_23 (constantI S_ 32 6#32),
    StableHlo.TRef.unary φ.c_23 φ.v91 (broadcastInDim S2 ![] bcast_S_S2),
    StableHlo.TRef.binary φ.v87 φ.v91 φ.v92 Host.shrui,
    StableHlo.TRef.binary φ.v90 φ.v92 φ.v93 ori,
    StableHlo.TRef.binary φ.v88 φ.v93 φ.v94 xori]

/-- The operations of @threefry2x32, part 2 over its arguments and one call's buffers. -/
def threefry2x32Ops2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [StableHlo.TRef.binary φ.v88 φ.v94 φ.v95 addi,
    StableHlo.TRef.nullary φ.c_24 (constantI S_ 32 6#32),
    StableHlo.TRef.unary φ.c_24 φ.v96 (broadcastInDim S2 ![] bcast_S_S2),
    StableHlo.TRef.binary φ.v94 φ.v96 φ.v97 Host.shli,
    StableHlo.TRef.nullary φ.c_25 (constantI S_ 32 26#32),
    StableHlo.TRef.unary φ.c_25 φ.v98 (broadcastInDim S2 ![] bcast_S_S2),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S2 ![] bcast_S_S2),
    StableHlo.TRef.binary φ.v95 φ.v102 φ.v103 addi,
    StableHlo.TRef.unary arg1 φ.v104 (broadcastInDim S2 ![] bcast_S_S2),
    StableHlo.TRef.binary φ.v101 φ.v104 φ.v105 addi,
    StableHlo.TRef.nullary φ.c_26 (constantI S_ 32 3#32),
    StableHlo.TRef.unary φ.c_26 φ.v106 (broadcastInDim S2 ![] bcast_S_S2),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S2 ![] bcast_S_S2),
    StableHlo.TRef.binary φ.v107 φ.v109 φ.v110 Host.shli,
    StableHlo.TRef.nullary φ.c_28 (constantI S_ 32 15#32),
    StableHlo.TRef.unary φ.c_28 φ.v111 (broadcastInDim S2 ![] bcast_S_S2),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S2 ![] bcast_S_S2),
    StableHlo.TRef.binary φ.v114 φ.v116 φ.v117 Host.shli,
    StableHlo.TRef.nullary φ.c_30 (constantI S_ 32 3#32),
    StableHlo.TRef.unary φ.c_30 φ.v118 (broadcastInDim S2 ![] bcast_S_S2),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S2 ![] bcast_S_S2),
    StableHlo.TRef.binary φ.v121 φ.v123 φ.v124 Host.shli,
    StableHlo.TRef.nullary φ.c_32 (constantI S_ 32 16#32),
    StableHlo.TRef.unary φ.c_32 φ.v125 (broadcastInDim S2 ![] bcast_S_S2),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S2 ![] bcast_S_S2),
    StableHlo.TRef.binary φ.v128 φ.v130 φ.v131 Host.shli,
    StableHlo.TRef.nullary φ.c_34 (constantI S_ 32 8#32),
    StableHlo.TRef.unary φ.c_34 φ.v132 (broadcastInDim S2 ![] bcast_S_S2),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S2 ![] bcast_S_S2),
    StableHlo.TRef.binary φ.v129 φ.v136 φ.v137 addi,
    StableHlo.TRef.unary φ.v1 φ.v138 (broadcastInDim S2 ![] bcast_S_S2),
    StableHlo.TRef.binary φ.v135 φ.v138 φ.v139 addi,
    StableHlo.TRef.nullary φ.c_35 (constantI S_ 32 4#32),
    StableHlo.TRef.unary φ.c_35 φ.v140 (broadcastInDim S2 ![] bcast_S_S2),
    StableHlo.TRef.binary φ.v139 φ.v140 φ.v141 addi,
    StableHlo.TRef.binary φ.v137 φ.v141 φ.v142 addi]

/-- The operations of @threefry2x32, part 3 over its arguments and one call's buffers. -/
def threefry2x32Ops3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [StableHlo.TRef.nullary φ.c_36 (constantI S_ 32 13#32),
    StableHlo.TRef.unary φ.c_36 φ.v143 (broadcastInDim S2 ![] bcast_S_S2),
    StableHlo.TRef.binary φ.v141 φ.v143 φ.v144 Host.shli,
    StableHlo.TRef.nullary φ.c_37 (constantI S_ 32 19#32),
    StableHlo.TRef.unary φ.c_37 φ.v145 (broadcastInDim S2 ![] bcast_S_S2),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S2 ![] bcast_S_S2),
    StableHlo.TRef.binary φ.v148 φ.v150 φ.v151 Host.shli,
    StableHlo.TRef.nullary φ.c_39 (constantI S_ 32 17#32),
    StableHlo.TRef.unary φ.c_39 φ.v152 (broadcastInDim S2 ![] bcast_S_S2),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S2 ![] bcast_S_S2),
    StableHlo.TRef.binary φ.v155 φ.v157 φ.v158 Host.shli,
    StableHlo.TRef.nullary φ.c_41 (constantI S_ 32 6#32),
    StableHlo.TRef.unary φ.c_41 φ.v159 (broadcastInDim S2 ![] bcast_S_S2),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S2 ![] bcast_S_S2),
    StableHlo.TRef.binary φ.v162 φ.v164 φ.v165 Host.shli,
    StableHlo.TRef.nullary φ.c_43 (constantI S_ 32 26#32),
    StableHlo.TRef.unary φ.c_43 φ.v166 (broadcastInDim S2 ![] bcast_S_S2),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S2 ![] bcast_S_S2),
    StableHlo.TRef.binary φ.v163 φ.v170 φ.v171 addi,
    StableHlo.TRef.unary arg0 φ.v172 (broadcastInDim S2 ![] bcast_S_S2),
    StableHlo.TRef.binary φ.v169 φ.v172 φ.v173 addi,
    StableHlo.TRef.nullary φ.c_44 (constantI S_ 32 5#32),
    StableHlo.TRef.unary φ.c_44 φ.v174 (broadcastInDim S2 ![] bcast_S_S2),
    StableHlo.TRef.binary φ.v173 φ.v174 φ.v175 addi]

/-- The operations of @threefry2x32 over its arguments and one call's buffers. -/
def threefry2x32Ops (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  threefry2x32Ops0 arg0 arg1 arg2 arg3 φ
  ++ threefry2x32Ops1 arg0 arg1 arg2 arg3 φ
  ++ threefry2x32Ops2 arg0 arg1 arg2 arg3 φ
  ++ threefry2x32Ops3 arg0 arg1 arg2 arg3 φ

/-- The operations of @threefry_split over its arguments and one call's buffers. -/
def threefry_splitOps (arg0 : StableHlo.TRef sig ⟨S2, .i32⟩) (φ : fn_threefry_split.Bufs) : List (HloOp τ sig (Elt F)) :=
  [StableHlo.TRef.unary arg0 φ.v0 (extractStridedSlice S1 ![0] · slices_S2_S1_0),
    StableHlo.TRef.reshape φ.v0 φ.v1 (rfl : (.i32 : EltTy) = .i32) shapeCasts_S1_S_,
    StableHlo.TRef.unary arg0 φ.v2 (extractStridedSlice S1 ![1] · slices_S2_S1_1),
    StableHlo.TRef.reshape φ.v2 φ.v3 (rfl : (.i32 : EltTy) = .i32) shapeCasts_S1_S_,
    StableHlo.TRef.nullary φ.v4 (iotaInDim S2 64 0),
    StableHlo.TRef.nullary φ.c (constantI S_ 64 1#64),
    StableHlo.TRef.unary φ.c φ.v5 (broadcastInDim S2 ![] bcast_S_S2),
    StableHlo.TRef.binary φ.v5 φ.v4 φ.v6 muli,
    StableHlo.TRef.nullary φ.c_0 (constantI S_ 64 32#64),
    StableHlo.TRef.unary φ.c_0 φ.v7 (broadcastInDim S2 ![] bcast_S_S2),
    StableHlo.TRef.binary φ.v6 φ.v7 φ.v8 Host.shrui,
    StableHlo.TRef.unary φ.v6 φ.v9 (trunci 32 · natLt_32_64),
    StableHlo.TRef.unary φ.v8 φ.v10 (trunci 32 · natLt_32_64)]
  ++ threefry2x32Ops φ.v1 φ.v3 φ.v10 φ.v9 φ.call0
  ++ [StableHlo.TRef.unary φ.call0.v171 φ.v12 (broadcastInDim S2x1 ![0] bcast_S2_S2x1_0),
    StableHlo.TRef.unary φ.call0.v175 φ.v13 (broadcastInDim S2x1 ![0] bcast_S2_S2x1_0),
    StableHlo.TRef.binary φ.v12 φ.v13 φ.v14 (fun a b => concatenate S2x2 1 [⟨S2x1, a⟩, ⟨S2x1, b⟩] concatenates_S2x1_S2x1_S2x2_d1)]

/-- The operations of @threefry2x32_7, part 0 over its arguments and one call's buffers. -/
def threefry2x32_7Ops0 (arg0 : StableHlo.TRef sig ⟨S_, .i32⟩) (arg1 : StableHlo.TRef sig ⟨S_, .i32⟩) (arg2 : StableHlo.TRef sig ⟨S24, .i32⟩) (arg3 : StableHlo.TRef sig ⟨S24, .i32⟩) (φ : fn_threefry2x32_7.Bufs) : List (HloOp τ sig (Elt F)) :=
  [StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S24 ![] bcast_S_S24),
    StableHlo.TRef.binary arg2 φ.v2 φ.v3 addi,
    StableHlo.TRef.unary arg1 φ.v4 (broadcastInDim S24 ![] bcast_S_S24),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S24 ![] bcast_S_S24),
    StableHlo.TRef.binary φ.v5 φ.v7 φ.v8 Host.shli,
    StableHlo.TRef.nullary φ.c_1 (constantI S_ 32 19#32),
    StableHlo.TRef.unary φ.c_1 φ.v9 (broadcastInDim S24 ![] bcast_S_S24),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S24 ![] bcast_S_S24),
    StableHlo.TRef.binary φ.v12 φ.v14 φ.v15 Host.shli,
    StableHlo.TRef.nullary φ.c_3 (constantI S_ 32 17#32),
    StableHlo.TRef.unary φ.c_3 φ.v16 (broadcastInDim S24 ![] bcast_S_S24),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S24 ![] bcast_S_S24),
    StableHlo.TRef.binary φ.v19 φ.v21 φ.v22 Host.shli,
    StableHlo.TRef.nullary φ.c_5 (constantI S_ 32 6#32),
    StableHlo.TRef.unary φ.c_5 φ.v23 (broadcastInDim S24 ![] bcast_S_S24),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S24 ![] bcast_S_S24),
    StableHlo.TRef.binary φ.v26 φ.v28 φ.v29 Host.shli,
    StableHlo.TRef.nullary φ.c_7 (constantI S_ 32 26#32),
    StableHlo.TRef.unary φ.c_7 φ.v30 (broadcastInDim S24 ![] bcast_S_S24),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S24 ![] bcast_S_S24),
    StableHlo.TRef.binary φ.v27 φ.v34 φ.v35 addi,
    StableHlo.TRef.unary φ.v1 φ.v36 (broadcastInDim S24 ![] bcast_S_S24),
    StableHlo.TRef.binary φ.v33 φ.v36 φ.v37 addi,
    StableHlo.TRef.nullary φ.c_8 (constantI S_ 32 1#32),
    StableHlo.TRef.unary φ.c_8 φ.v38 (broadcastInDim S24 ![] bcast_S_S24),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S24 ![] bcast_S_S24),
    StableHlo.TRef.binary φ.v39 φ.v41 φ.v42 Host.shli,
    StableHlo.TRef.nullary φ.c_10 (constantI S_ 32 15#32),
    StableHlo.TRef.unary φ.c_10 φ.v43 (broadcastInDim S24 ![] bcast_S_S24),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi]

/-- The operations of @threefry2x32_7, part 1 over its arguments and one call's buffers. -/
def threefry2x32_7Ops1 (arg0 : StableHlo.TRef sig ⟨S_, .i32⟩) (arg1 : StableHlo.TRef sig ⟨S_, .i32⟩) (arg2 : StableHlo.TRef sig ⟨S24, .i32⟩) (arg3 : StableHlo.TRef sig ⟨S24, .i32⟩) (φ : fn_threefry2x32_7.Bufs) : List (HloOp τ sig (Elt F)) :=
  [StableHlo.TRef.nullary φ.c_11 (constantI S_ 32 29#32),
    StableHlo.TRef.unary φ.c_11 φ.v48 (broadcastInDim S24 ![] bcast_S_S24),
    StableHlo.TRef.binary φ.v46 φ.v48 φ.v49 Host.shli,
    StableHlo.TRef.nullary φ.c_12 (constantI S_ 32 3#32),
    StableHlo.TRef.unary φ.c_12 φ.v50 (broadcastInDim S24 ![] bcast_S_S24),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S24 ![] bcast_S_S24),
    StableHlo.TRef.binary φ.v53 φ.v55 φ.v56 Host.shli,
    StableHlo.TRef.nullary φ.c_14 (constantI S_ 32 16#32),
    StableHlo.TRef.unary φ.c_14 φ.v57 (broadcastInDim S24 ![] bcast_S_S24),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S24 ![] bcast_S_S24),
    StableHlo.TRef.binary φ.v60 φ.v62 φ.v63 Host.shli,
    StableHlo.TRef.nullary φ.c_16 (constantI S_ 32 8#32),
    StableHlo.TRef.unary φ.c_16 φ.v64 (broadcastInDim S24 ![] bcast_S_S24),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S24 ![] bcast_S_S24),
    StableHlo.TRef.binary φ.v61 φ.v68 φ.v69 addi,
    StableHlo.TRef.unary arg0 φ.v70 (broadcastInDim S24 ![] bcast_S_S24),
    StableHlo.TRef.binary φ.v67 φ.v70 φ.v71 addi,
    StableHlo.TRef.nullary φ.c_17 (constantI S_ 32 2#32),
    StableHlo.TRef.unary φ.c_17 φ.v72 (broadcastInDim S24 ![] bcast_S_S24),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S24 ![] bcast_S_S24),
    StableHlo.TRef.binary φ.v73 φ.v75 φ.v76 Host.shli,
    StableHlo.TRef.nullary φ.c_19 (constantI S_ 32 19#32),
    StableHlo.TRef.unary φ.c_19 φ.v77 (broadcastInDim S24 ![] bcast_S_S24),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S24 ![] bcast_S_S24),
    StableHlo.TRef.binary φ.v80 φ.v82 φ.v83 Host.shli,
    StableHlo.TRef.nullary φ.c_21 (constantI S_ 32 17#32),
    StableHlo.TRef.unary φ.c_21 φ.v84 (broadcastInDim S24 ![] bcast_S_S24),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S24 ![] bcast_S_S24),
    StableHlo.TRef.binary φ.v87 φ.v89 φ.v90 Host.shli,
    StableHlo.TRef.nullary φ.c_23 (constantI S_ 32 6#32),
    StableHlo.TRef.unary φ.c_23 φ.v91 (broadcastInDim S24 ![] bcast_S_S24),
    StableHlo.TRef.binary φ.v87 φ.v91 φ.v92 Host.shrui,
    StableHlo.TRef.binary φ.v90 φ.v92 φ.v93 ori,
    StableHlo.TRef.binary φ.v88 φ.v93 φ.v94 xori]

/-- The operations of @threefry2x32_7, part 2 over its arguments and one call's buffers. -/
def threefry2x32_7Ops2 (arg0 : StableHlo.TRef sig ⟨S_, .i32⟩) (arg1 : StableHlo.TRef sig ⟨S_, .i32⟩) (arg2 : StableHlo.TRef sig ⟨S24, .i32⟩) (arg3 : StableHlo.TRef sig ⟨S24, .i32⟩) (φ : fn_threefry2x32_7.Bufs) : List (HloOp τ sig (Elt F)) :=
  [StableHlo.TRef.binary φ.v88 φ.v94 φ.v95 addi,
    StableHlo.TRef.nullary φ.c_24 (constantI S_ 32 6#32),
    StableHlo.TRef.unary φ.c_24 φ.v96 (broadcastInDim S24 ![] bcast_S_S24),
    StableHlo.TRef.binary φ.v94 φ.v96 φ.v97 Host.shli,
    StableHlo.TRef.nullary φ.c_25 (constantI S_ 32 26#32),
    StableHlo.TRef.unary φ.c_25 φ.v98 (broadcastInDim S24 ![] bcast_S_S24),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S24 ![] bcast_S_S24),
    StableHlo.TRef.binary φ.v95 φ.v102 φ.v103 addi,
    StableHlo.TRef.unary arg1 φ.v104 (broadcastInDim S24 ![] bcast_S_S24),
    StableHlo.TRef.binary φ.v101 φ.v104 φ.v105 addi,
    StableHlo.TRef.nullary φ.c_26 (constantI S_ 32 3#32),
    StableHlo.TRef.unary φ.c_26 φ.v106 (broadcastInDim S24 ![] bcast_S_S24),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S24 ![] bcast_S_S24),
    StableHlo.TRef.binary φ.v107 φ.v109 φ.v110 Host.shli,
    StableHlo.TRef.nullary φ.c_28 (constantI S_ 32 15#32),
    StableHlo.TRef.unary φ.c_28 φ.v111 (broadcastInDim S24 ![] bcast_S_S24),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S24 ![] bcast_S_S24),
    StableHlo.TRef.binary φ.v114 φ.v116 φ.v117 Host.shli,
    StableHlo.TRef.nullary φ.c_30 (constantI S_ 32 3#32),
    StableHlo.TRef.unary φ.c_30 φ.v118 (broadcastInDim S24 ![] bcast_S_S24),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S24 ![] bcast_S_S24),
    StableHlo.TRef.binary φ.v121 φ.v123 φ.v124 Host.shli,
    StableHlo.TRef.nullary φ.c_32 (constantI S_ 32 16#32),
    StableHlo.TRef.unary φ.c_32 φ.v125 (broadcastInDim S24 ![] bcast_S_S24),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S24 ![] bcast_S_S24),
    StableHlo.TRef.binary φ.v128 φ.v130 φ.v131 Host.shli,
    StableHlo.TRef.nullary φ.c_34 (constantI S_ 32 8#32),
    StableHlo.TRef.unary φ.c_34 φ.v132 (broadcastInDim S24 ![] bcast_S_S24),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S24 ![] bcast_S_S24),
    StableHlo.TRef.binary φ.v129 φ.v136 φ.v137 addi,
    StableHlo.TRef.unary φ.v1 φ.v138 (broadcastInDim S24 ![] bcast_S_S24),
    StableHlo.TRef.binary φ.v135 φ.v138 φ.v139 addi,
    StableHlo.TRef.nullary φ.c_35 (constantI S_ 32 4#32),
    StableHlo.TRef.unary φ.c_35 φ.v140 (broadcastInDim S24 ![] bcast_S_S24),
    StableHlo.TRef.binary φ.v139 φ.v140 φ.v141 addi,
    StableHlo.TRef.binary φ.v137 φ.v141 φ.v142 addi]

/-- The operations of @threefry2x32_7, part 3 over its arguments and one call's buffers. -/
def threefry2x32_7Ops3 (arg0 : StableHlo.TRef sig ⟨S_, .i32⟩) (arg1 : StableHlo.TRef sig ⟨S_, .i32⟩) (arg2 : StableHlo.TRef sig ⟨S24, .i32⟩) (arg3 : StableHlo.TRef sig ⟨S24, .i32⟩) (φ : fn_threefry2x32_7.Bufs) : List (HloOp τ sig (Elt F)) :=
  [StableHlo.TRef.nullary φ.c_36 (constantI S_ 32 13#32),
    StableHlo.TRef.unary φ.c_36 φ.v143 (broadcastInDim S24 ![] bcast_S_S24),
    StableHlo.TRef.binary φ.v141 φ.v143 φ.v144 Host.shli,
    StableHlo.TRef.nullary φ.c_37 (constantI S_ 32 19#32),
    StableHlo.TRef.unary φ.c_37 φ.v145 (broadcastInDim S24 ![] bcast_S_S24),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S24 ![] bcast_S_S24),
    StableHlo.TRef.binary φ.v148 φ.v150 φ.v151 Host.shli,
    StableHlo.TRef.nullary φ.c_39 (constantI S_ 32 17#32),
    StableHlo.TRef.unary φ.c_39 φ.v152 (broadcastInDim S24 ![] bcast_S_S24),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S24 ![] bcast_S_S24),
    StableHlo.TRef.binary φ.v155 φ.v157 φ.v158 Host.shli,
    StableHlo.TRef.nullary φ.c_41 (constantI S_ 32 6#32),
    StableHlo.TRef.unary φ.c_41 φ.v159 (broadcastInDim S24 ![] bcast_S_S24),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S24 ![] bcast_S_S24),
    StableHlo.TRef.binary φ.v162 φ.v164 φ.v165 Host.shli,
    StableHlo.TRef.nullary φ.c_43 (constantI S_ 32 26#32),
    StableHlo.TRef.unary φ.c_43 φ.v166 (broadcastInDim S24 ![] bcast_S_S24),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S24 ![] bcast_S_S24),
    StableHlo.TRef.binary φ.v163 φ.v170 φ.v171 addi,
    StableHlo.TRef.unary arg0 φ.v172 (broadcastInDim S24 ![] bcast_S_S24),
    StableHlo.TRef.binary φ.v169 φ.v172 φ.v173 addi,
    StableHlo.TRef.nullary φ.c_44 (constantI S_ 32 5#32),
    StableHlo.TRef.unary φ.c_44 φ.v174 (broadcastInDim S24 ![] bcast_S_S24),
    StableHlo.TRef.binary φ.v173 φ.v174 φ.v175 addi]

/-- The operations of @threefry2x32_7 over its arguments and one call's buffers. -/
def threefry2x32_7Ops (arg0 : StableHlo.TRef sig ⟨S_, .i32⟩) (arg1 : StableHlo.TRef sig ⟨S_, .i32⟩) (arg2 : StableHlo.TRef sig ⟨S24, .i32⟩) (arg3 : StableHlo.TRef sig ⟨S24, .i32⟩) (φ : fn_threefry2x32_7.Bufs) : List (HloOp τ sig (Elt F)) :=
  threefry2x32_7Ops0 arg0 arg1 arg2 arg3 φ
  ++ threefry2x32_7Ops1 arg0 arg1 arg2 arg3 φ
  ++ threefry2x32_7Ops2 arg0 arg1 arg2 arg3 φ
  ++ threefry2x32_7Ops3 arg0 arg1 arg2 arg3 φ

/-- The operations of @_shuffle over its arguments and one call's buffers. -/
def shuffleOps (arg0 : StableHlo.TRef sig ⟨S2, .i32⟩) (arg1 : StableHlo.TRef sig ⟨S24, .i32⟩) (φ : fn_shuffle.Bufs) : List (HloOp τ sig (Elt F)) :=
  threefry_splitOps arg0 φ.call0
  ++ [StableHlo.TRef.unary φ.call0.v14 φ.v1 (extractStridedSlice S1x2 ![0, 0] · slices_S2x2_S1x2_0_0),
    StableHlo.TRef.reshape φ.v1 φ.v2 (rfl : (.i32 : EltTy) = .i32) shapeCasts_S1x2_S2,
    StableHlo.TRef.unary φ.call0.v14 φ.v3 (extractStridedSlice S1x2 ![1, 0] · slices_S2x2_S1x2_1_0),
    StableHlo.TRef.reshape φ.v3 φ.v4 (rfl : (.i32 : EltTy) = .i32) shapeCasts_S1x2_S2,
    StableHlo.TRef.unary φ.v4 φ.v5 (extractStridedSlice S1 ![0] · slices_S2_S1_0),
    StableHlo.TRef.reshape φ.v5 φ.v6 (rfl : (.i32 : EltTy) = .i32) shapeCasts_S1_S_,
    StableHlo.TRef.unary φ.v4 φ.v7 (extractStridedSlice S1 ![1] · slices_S2_S1_1),
    StableHlo.TRef.reshape φ.v7 φ.v8 (rfl : (.i32 : EltTy) = .i32) shapeCasts_S1_S_,
    StableHlo.TRef.nullary φ.v9 (iotaInDim S24 64 0),
    StableHlo.TRef.nullary φ.c (constantI S_ 64 1#64),
    StableHlo.TRef.unary φ.c φ.v10 (broadcastInDim S24 ![] bcast_S_S24),
    StableHlo.TRef.binary φ.v10 φ.v9 φ.v11 muli,
    StableHlo.TRef.nullary φ.c_0 (constantI S_ 64 32#64),
    StableHlo.TRef.unary φ.c_0 φ.v12 (broadcastInDim S24 ![] bcast_S_S24),
    StableHlo.TRef.binary φ.v11 φ.v12 φ.v13 Host.shrui,
    StableHlo.TRef.unary φ.v11 φ.v14 (trunci 32 · natLt_32_64),
    StableHlo.TRef.unary φ.v13 φ.v15 (trunci 32 · natLt_32_64)]
  ++ threefry2x32_7Ops φ.v6 φ.v8 φ.v15 φ.v14 φ.call1
  ++ [StableHlo.TRef.binary φ.call1.v171 φ.call1.v175 φ.v17 xori,
    StableHlo.TRef.binary φ.v17 arg1 φ.v18_0 (fun x y => (Host.sort2 S24 0 comparator_i32_i32_d0 x y).1),
    StableHlo.TRef.binary φ.v17 arg1 φ.v18_1 (fun x y => (Host.sort2 S24 0 comparator_i32_i32_d0 x y).2)]

/-- The operations of @take_along_axis_8 over its arguments and one call's buffers. -/
def take_along_axis_8Ops (arg0 : StableHlo.TRef sig ⟨S8x32x32x16x256, .f32⟩) (arg1 : StableHlo.TRef sig ⟨S8x32x32x16x24, .i32⟩) (φ : fn_take_along_axis_8.Bufs) : List (HloOp τ sig (Elt F)) :=
  [StableHlo.TRef.nullary φ.c (constantI S_ 32 0#32),
    StableHlo.TRef.unary φ.c φ.v0 (broadcastInDim S8x32x32x16x24 ![] bcast_S_S8x32x32x16x24),
    StableHlo.TRef.binary arg1 φ.v0 φ.v1 (cmpi .slt),
    StableHlo.TRef.nullary φ.c_0 (constantI S_ 32 256#32),
    StableHlo.TRef.unary φ.c_0 φ.v2 (broadcastInDim S8x32x32x16x24 ![] bcast_S_S8x32x32x16x24),
    StableHlo.TRef.binary arg1 φ.v2 φ.v3 addi,
    StableHlo.TRef.ternary φ.v1 φ.v3 arg1 φ.v4 select,
    StableHlo.TRef.reshape φ.v4 φ.v5 (rfl : (.i32 : EltTy) = .i32) shapeCasts_S8x32x32x16x24_S8x32x32x16x24x1,
    StableHlo.TRef.nullary φ.c_1 (constantI S1 32 255#32),
    StableHlo.TRef.nullary φ.c_2 (constantI S_ 32 0#32),
    StableHlo.TRef.unary φ.c_2 φ.v6 (broadcastInDim S8x32x32x16x24x1 ![] bcast_S_S8x32x32x16x24x1),
    StableHlo.TRef.binary φ.v5 φ.v6 φ.v7 (cmpi .sge),
    StableHlo.TRef.unary φ.c_1 φ.v8 (broadcastInDim S1x1x1x1x1x1 ![5] bcast_S1_S1x1x1x1x1x1_5),
    StableHlo.TRef.unary φ.v8 φ.v9 (broadcastInDim S8x32x32x16x24x1 ![0, 1, 2, 3, 4, 5] bcast_S1x1x1x1x1x1_S8x32x32x16x24x1_0_1_2_3_4_5),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S8x32x32x16x24x1_S8x32x32x16x24_d5 h_S_),
    StableHlo.TRef.binary arg0 φ.v5 φ.v13 (fun x i => Host.gather gather_S8x32x32x16x256_S8x32x32x16x24x1_S8x32x32x16x24_n_4_0123_0123_4_5_11111 x i),
    StableHlo.TRef.nullary φ.cst (constant S_ .f32 0x7FC00000#32),
    StableHlo.TRef.unary φ.cst φ.v14 (broadcastInDim S8x32x32x16x24 ![] bcast_S_S8x32x32x16x24),
    StableHlo.TRef.ternary φ.v12 φ.v13 φ.v14 φ.v15 select]

/-- Stretch 0 of @main's own operations. -/
def ops0 : List (HloOp τ sig (Elt F)) :=
  [StableHlo.unary main_arg0 main_v0 ((extractStridedSlice S8x32x16x16x1 ![0, 0, 0, 0, 15] · slices_S8x32x16x16x16_S8x32x16x16x1_0_0_0_0_15) : (⟨S8x32x16x16x16, .f32⟩ : BufTy).Contents (Elt F) → (⟨S8x32x16x16x1, .f32⟩ : BufTy).Contents (Elt F)),
    StableHlo.reshape main_v0 main_v1 (rfl : (.f32 : EltTy) = .f32) shapeCasts_S8x32x16x16x1_S8x32x16x16,
    StableHlo.reshape main_v1 main_v2 (rfl : (.f32 : EltTy) = .f32) shapeCasts_S8x32x16x16_S8x32x8x2x8x2,
    StableHlo.unary main_v2 main_v3 ((transpose S8x32x8x8x2x2 [0, 1, 2, 4, 3, 5] · transposes_S8x32x8x2x8x2_S8x32x8x8x2x2_0_1_2_4_3_5) : (⟨S8x32x8x2x8x2, .f32⟩ : BufTy).Contents (Elt F) → (⟨S8x32x8x8x2x2, .f32⟩ : BufTy).Contents (Elt F)),
    StableHlo.reshape main_v3 main_v4 (rfl : (.f32 : EltTy) = .f32) shapeCasts_S8x32x8x8x2x2_S8x32x8x8x4,
    StableHlo.nullary main_cst (constant S_ .f32 0xFF800000#32),
    StableHlo.binary main_v4 main_cst main_v5 ((fun x v => Host.reduce FloatOps.maximumf x v reducesTo_S8x32x8x8x4_S8x32x8x8_d4 h_S_) : (⟨S8x32x8x8x4, .f32⟩ : BufTy).Contents (Elt F) → (⟨S_, .f32⟩ : BufTy).Contents (Elt F) → (⟨S8x32x8x8, .f32⟩ : BufTy).Contents (Elt F))]

/-- Stretch 1 of @main: a call. -/
def ops1 : List (HloOp τ sig (Elt F)) :=
  argmaxOps (.of main_v4) main_call0

/-- Stretch 2 of @main's own operations. -/
def ops2 : List (HloOp τ sig (Elt F)) :=
  [StableHlo.nullary main_c (constantI S_ 32 2#32)]

/-- Stretch 3 of @main: a call. -/
def ops3 : List (HloOp τ sig (Elt F)) :=
  floor_divideOps (.of main_v6) (.of main_c) main_call1

/-- Stretch 4 of @main's own operations. -/
def ops4 : List (HloOp τ sig (Elt F)) :=
  [StableHlo.nullary main_c_0 (constantI S_ 32 2#32)]

/-- Stretch 5 of @main: a call. -/
def ops5 : List (HloOp τ sig (Elt F)) :=
  remainderOps (.of main_v6) (.of main_c_0) main_call2

/-- Stretch 6 of @main's own operations. -/
def ops6 : List (HloOp τ sig (Elt F)) :=
  [StableHlo.nullary main_v9 (iotaInDim S8 32 0),
    StableHlo.nullary main_c_1 (constantI S_ 32 2#32),
    StableHlo.unary main_c_1 main_v10 (broadcastInDim S8 ![] bcast_S_S8 : (⟨S_, .i32⟩ : BufTy).Contents (Elt F) → (⟨S8, .i32⟩ : BufTy).Contents (Elt F)),
    StableHlo.binary main_v9 main_v10 main_v11 (muli : (⟨S8, .i32⟩ : BufTy).Contents (Elt F) → (⟨S8, .i32⟩ : BufTy).Contents (Elt F) → (⟨S8, .i32⟩ : BufTy).Contents (Elt F)),
    StableHlo.unary main_v11 main_v12 (broadcastInDim S1x1x8x1 ![2] bcast_S8_S1x1x8x1_2 : (⟨S8, .i32⟩ : BufTy).Contents (Elt F) → (⟨S1x1x8x1, .i32⟩ : BufTy).Contents (Elt F)),
    StableHlo.nullary main_v13 (iotaInDim S8 32 0),
    StableHlo.nullary main_c_2 (constantI S_ 32 2#32),
    StableHlo.unary main_c_2 main_v14 (broadcastInDim S8 ![] bcast_S_S8 : (⟨S_, .i32⟩ : BufTy).Contents (Elt F) → (⟨S8, .i32⟩ : BufTy).Contents (Elt F)),
    StableHlo.binary main_v13 main_v14 main_v15 (muli : (⟨S8, .i32⟩ : BufTy).Contents (Elt F) → (⟨S8, .i32⟩ : BufTy).Contents (Elt F) → (⟨S8, .i32⟩ : BufTy).Contents (Elt F)),
    StableHlo.unary main_v15 main_v16 (broadcastInDim S1x1x1x8 ![3] bcast_S8_S1x1x1x8_3 : (⟨S8, .i32⟩ : BufTy).Contents (Elt F) → (⟨S1x1x1x8, .i32⟩ : BufTy).Contents (Elt F)),
    StableHlo.unary main_v12 main_v17 (broadcastInDim S8x32x8x8 ![0, 1, 2, 3] bcast_S1x1x8x1_S8x32x8x8_0_1_2_3 : (⟨S1x1x8x1, .i32⟩ : BufTy).Contents (Elt F) → (⟨S8x32x8x8, .i32⟩ : BufTy).Contents (Elt F)),
    StableHlo.binary main_v17 main_v7 main_v18 (addi : (⟨S8x32x8x8, .i32⟩ : BufTy).Contents (Elt F) → (⟨S8x32x8x8, .i32⟩ : BufTy).Contents (Elt F) → (⟨S8x32x8x8, .i32⟩ : BufTy).Contents (Elt F)),
    StableHlo.nullary main_c_3 (constantI S_ 32 16#32),
    StableHlo.unary main_c_3 main_v19 (broadcastInDim S8x32x8x8 ![] bcast_S_S8x32x8x8 : (⟨S_, .i32⟩ : BufTy).Contents (Elt F) → (⟨S8x32x8x8, .i32⟩ : BufTy).Contents (Elt F)),
    StableHlo.binary main_v18 main_v19 main_v20 (muli : (⟨S8x32x8x8, .i32⟩ : BufTy).Contents (Elt F) → (⟨S8x32x8x8, .i32⟩ : BufTy).Contents (Elt F) → (⟨S8x32x8x8, .i32⟩ : BufTy).Contents (Elt F)),
    StableHlo.unary main_v16 main_v21 (broadcastInDim S8x32x8x8 ![0, 1, 2, 3] bcast_S1x1x1x8_S8x32x8x8_0_1_2_3 : (⟨S1x1x1x8, .i32⟩ : BufTy).Contents (Elt F) → (⟨S8x32x8x8, .i32⟩ : BufTy).Contents (Elt F)),
    StableHlo.binary main_v21 main_v8 main_v22 (addi : (⟨S8x32x8x8, .i32⟩ : BufTy).Contents (Elt F) → (⟨S8x32x8x8, .i32⟩ : BufTy).Contents (Elt F) → (⟨S8x32x8x8, .i32⟩ : BufTy).Contents (Elt F)),
    StableHlo.binary main_v20 main_v22 main_v23 (addi : (⟨S8x32x8x8, .i32⟩ : BufTy).Contents (Elt F) → (⟨S8x32x8x8, .i32⟩ : BufTy).Contents (Elt F) → (⟨S8x32x8x8, .i32⟩ : BufTy).Contents (Elt F)),
    StableHlo.reshape main_v23 main_v24 (rfl : (.i32 : EltTy) = .i32) shapeCasts_S8x32x8x8_S8x32x64,
    StableHlo.reshape main_v5 main_v25 (rfl : (.f32 : EltTy) = .f32) shapeCasts_S8x32x8x8_S8x32x64,
    StableHlo.unary main_v25 main_v26 (Host.negf : (⟨S8x32x64, .f32⟩ : BufTy).Contents (Elt F) → (⟨S8x32x64, .f32⟩ : BufTy).Contents (Elt F))]

/-- Stretch 7 of @main: a call. -/
def ops7 : List (HloOp τ sig (Elt F)) :=
  argsortOps (.of main_v26) main_call3

/-- Stretch 8 of @main's own operations. -/
def ops8 : List (HloOp τ sig (Elt F)) :=
  [StableHlo.unary main_v27 main_v28 ((extractStridedSlice S8x32x16 ![0, 0, 0] · slices_S8x32x64_S8x32x16_0_0_0) : (⟨S8x32x64, .i32⟩ : BufTy).Contents (Elt F) → (⟨S8x32x16, .i32⟩ : BufTy).Contents (Elt F))]

/-- Stretch 9 of @main: a call. -/
def ops9 : List (HloOp τ sig (Elt F)) :=
  take_along_axisOps (.of main_v24) (.of main_v28) main_call4

/-- Stretch 10 of @main's own operations. -/
def ops10 : List (HloOp τ sig (Elt F)) :=
  [StableHlo.nullary main_v30 (iotaInDim S256 32 0),
    StableHlo.nullary main_c_4 (constantI S_ 32 256#32),
    StableHlo.unary main_c_4 main_v31 (broadcastInDim S256 ![] bcast_S_S256 : (⟨S_, .i32⟩ : BufTy).Contents (Elt F) → (⟨S256, .i32⟩ : BufTy).Contents (Elt F)),
    StableHlo.binary main_v30 main_v31 main_v32 (muli : (⟨S256, .i32⟩ : BufTy).Contents (Elt F) → (⟨S256, .i32⟩ : BufTy).Contents (Elt F) → (⟨S256, .i32⟩ : BufTy).Contents (Elt F)),
    StableHlo.reshape main_v32 main_v33 (rfl : (.i32 : EltTy) = .i32) shapeCasts_S256_S8x32x1,
    StableHlo.unary main_v33 main_v34 (broadcastInDim S8x32x16 ![0, 1, 2] bcast_S8x32x1_S8x32x16_0_1_2 : (⟨S8x32x1, .i32⟩ : BufTy).Contents (Elt F) → (⟨S8x32x16, .i32⟩ : BufTy).Contents (Elt F)),
    StableHlo.binary main_v29 main_v34 main_v35 (addi : (⟨S8x32x16, .i32⟩ : BufTy).Contents (Elt F) → (⟨S8x32x16, .i32⟩ : BufTy).Contents (Elt F) → (⟨S8x32x16, .i32⟩ : BufTy).Contents (Elt F)),
    StableHlo.nullary main_cst_5 (constant S_ .f32 0x00000000#32),
    StableHlo.unary main_cst_5 main_v36 (broadcastInDim S65536 ![] bcast_S_S65536 : (⟨S_, .f32⟩ : BufTy).Contents (Elt F) → (⟨S65536, .f32⟩ : BufTy).Contents (Elt F)),
    StableHlo.reshape main_v35 main_v37 (rfl : (.i32 : EltTy) = .i32) shapeCasts_S8x32x16_S4096,
    StableHlo.nullary main_c_6 (constantI S_ 32 0#32),
    StableHlo.unary main_c_6 main_v38 (broadcastInDim S4096 ![] bcast_S_S4096 : (⟨S_, .i32⟩ : BufTy).Contents (Elt F) → (⟨S4096, .i32⟩ : BufTy).Contents (Elt F)),
    StableHlo.binary main_v37 main_v38 main_v39 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 65536#32),
    StableHlo.unary main_c_7 main_v40 (broadcastInDim S4096 ![] bcast_S_S4096 : (⟨S_, .i32⟩ : BufTy).Contents (Elt F) → (⟨S4096, .i32⟩ : BufTy).Contents (Elt F)),
    StableHlo.binary main_v37 main_v40 main_v41 (addi : (⟨S4096, .i32⟩ : BufTy).Contents (Elt F) → (⟨S4096, .i32⟩ : BufTy).Contents (Elt F) → (⟨S4096, .i32⟩ : BufTy).Contents (Elt F)),
    StableHlo.ternary main_v39 main_v41 main_v37 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v42 main_v43 (broadcastInDim S4096x1 ![0] bcast_S4096_S4096x1_0 : (⟨S4096, .i32⟩ : BufTy).Contents (Elt F) → (⟨S4096x1, .i32⟩ : BufTy).Contents (Elt F)),
    StableHlo.nullary main_cst_8 (constant S_ .f32 0x3F800000#32),
    StableHlo.unary main_cst_8 main_v44 (broadcastInDim S4096 ![] bcast_S_S4096 : (⟨S_, .f32⟩ : BufTy).Contents (Elt F) → (⟨S4096, .f32⟩ : BufTy).Contents (Elt F)),
    StableHlo.ternary main_v36 main_v43 main_v44 main_v45 ((fun x i u => Host.scatter scatter_S65536_S4096x1_S4096_n_0_0_1 (fun _ b => b) x i u) : (⟨S65536, .f32⟩ : BufTy).Contents (Elt F) → (⟨S4096x1, .i32⟩ : BufTy).Contents (Elt F) → (⟨S4096, .f32⟩ : BufTy).Contents (Elt F) → (⟨S65536, .f32⟩ : BufTy).Contents (Elt F)),
    StableHlo.reshape main_v45 main_v46 (rfl : (.f32 : EltTy) = .f32) shapeCasts_S65536_S8x32x16x16,
    StableHlo.unary main_v46 main_v47 (broadcastInDim S8x1x32x16x16 ![0, 2, 3, 4] bcast_S8x32x16x16_S8x1x32x16x16_0_2_3_4 : (⟨S8x32x16x16, .f32⟩ : BufTy).Contents (Elt F) → (⟨S8x1x32x16x16, .f32⟩ : BufTy).Contents (Elt F)),
    StableHlo.unary main_v47 main_v48 (broadcastInDim S8x32x32x16x16 ![0, 1, 2, 3, 4] bcast_S8x1x32x16x16_S8x32x32x16x16_0_1_2_3_4 : (⟨S8x1x32x16x16, .f32⟩ : BufTy).Contents (Elt F) → (⟨S8x32x32x16x16, .f32⟩ : BufTy).Contents (Elt F)),
    StableHlo.binary main_arg1 main_v48 main_v49 (addf : (⟨S8x32x32x16x16, .f32⟩ : BufTy).Contents (Elt F) → (⟨S8x32x32x16x16, .f32⟩ : BufTy).Contents (Elt F) → (⟨S8x32x32x16x16, .f32⟩ : BufTy).Contents (Elt F)),
    StableHlo.reshape main_v49 main_v50 (rfl : (.f32 : EltTy) = .f32) shapeCasts_S8x32x32x16x16_S8x1024x16x16,
    StableHlo.reshape main_v50 main_v51 (rfl : (.f32 : EltTy) = .f32) shapeCasts_S8x1024x16x16_S8x1024x8x2x8x2,
    StableHlo.unary main_v51 main_v52 ((transpose S8x1024x8x8x2x2 [0, 1, 2, 4, 3, 5] · transposes_S8x1024x8x2x8x2_S8x1024x8x8x2x2_0_1_2_4_3_5) : (⟨S8x1024x8x2x8x2, .f32⟩ : BufTy).Contents (Elt F) → (⟨S8x1024x8x8x2x2, .f32⟩ : BufTy).Contents (Elt F)),
    StableHlo.reshape main_v52 main_v53 (rfl : (.f32 : EltTy) = .f32) shapeCasts_S8x1024x8x8x2x2_S8x1024x8x8x4,
    StableHlo.nullary main_cst_9 (constant S_ .f32 0xFF800000#32),
    StableHlo.binary main_v53 main_cst_9 main_v54 ((fun x v => Host.reduce FloatOps.maximumf x v reducesTo_S8x1024x8x8x4_S8x1024x8x8_d4 h_S_) : (⟨S8x1024x8x8x4, .f32⟩ : BufTy).Contents (Elt F) → (⟨S_, .f32⟩ : BufTy).Contents (Elt F) → (⟨S8x1024x8x8, .f32⟩ : BufTy).Contents (Elt F))]

/-- Stretch 11 of @main: a call. -/
def ops11 : List (HloOp τ sig (Elt F)) :=
  argmax_1Ops (.of main_v53) main_call5

/-- Stretch 12 of @main's own operations. -/
def ops12 : List (HloOp τ sig (Elt F)) :=
  [StableHlo.nullary main_c_10 (constantI S_ 32 2#32)]

/-- Stretch 13 of @main: a call. -/
def ops13 : List (HloOp τ sig (Elt F)) :=
  floor_divide_2Ops (.of main_v55) (.of main_c_10) main_call6

/-- Stretch 14 of @main's own operations. -/
def ops14 : List (HloOp τ sig (Elt F)) :=
  [StableHlo.nullary main_c_11 (constantI S_ 32 2#32)]

/-- Stretch 15 of @main: a call. -/
def ops15 : List (HloOp τ sig (Elt F)) :=
  remainder_4Ops (.of main_v55) (.of main_c_11) main_call7

/-- Stretch 16 of @main's own operations. -/
def ops16 : List (HloOp τ sig (Elt F)) :=
  [StableHlo.nullary main_v58 (iotaInDim S8 32 0),
    StableHlo.nullary main_c_12 (constantI S_ 32 2#32),
    StableHlo.unary main_c_12 main_v59 (broadcastInDim S8 ![] bcast_S_S8 : (⟨S_, .i32⟩ : BufTy).Contents (Elt F) → (⟨S8, .i32⟩ : BufTy).Contents (Elt F)),
    StableHlo.binary main_v58 main_v59 main_v60 (muli : (⟨S8, .i32⟩ : BufTy).Contents (Elt F) → (⟨S8, .i32⟩ : BufTy).Contents (Elt F) → (⟨S8, .i32⟩ : BufTy).Contents (Elt F)),
    StableHlo.unary main_v60 main_v61 (broadcastInDim S1x1x8x1 ![2] bcast_S8_S1x1x8x1_2 : (⟨S8, .i32⟩ : BufTy).Contents (Elt F) → (⟨S1x1x8x1, .i32⟩ : BufTy).Contents (Elt F)),
    StableHlo.nullary main_v62 (iotaInDim S8 32 0),
    StableHlo.nullary main_c_13 (constantI S_ 32 2#32),
    StableHlo.unary main_c_13 main_v63 (broadcastInDim S8 ![] bcast_S_S8 : (⟨S_, .i32⟩ : BufTy).Contents (Elt F) → (⟨S8, .i32⟩ : BufTy).Contents (Elt F)),
    StableHlo.binary main_v62 main_v63 main_v64 (muli : (⟨S8, .i32⟩ : BufTy).Contents (Elt F) → (⟨S8, .i32⟩ : BufTy).Contents (Elt F) → (⟨S8, .i32⟩ : BufTy).Contents (Elt F)),
    StableHlo.unary main_v64 main_v65 (broadcastInDim S1x1x1x8 ![3] bcast_S8_S1x1x1x8_3 : (⟨S8, .i32⟩ : BufTy).Contents (Elt F) → (⟨S1x1x1x8, .i32⟩ : BufTy).Contents (Elt F)),
    StableHlo.unary main_v61 main_v66 (broadcastInDim S8x1024x8x8 ![0, 1, 2, 3] bcast_S1x1x8x1_S8x1024x8x8_0_1_2_3 : (⟨S1x1x8x1, .i32⟩ : BufTy).Contents (Elt F) → (⟨S8x1024x8x8, .i32⟩ : BufTy).Contents (Elt F)),
    StableHlo.binary main_v66 main_v56 main_v67 (addi : (⟨S8x1024x8x8, .i32⟩ : BufTy).Contents (Elt F) → (⟨S8x1024x8x8, .i32⟩ : BufTy).Contents (Elt F) → (⟨S8x1024x8x8, .i32⟩ : BufTy).Contents (Elt F)),
    StableHlo.nullary main_c_14 (constantI S_ 32 16#32),
    StableHlo.unary main_c_14 main_v68 (broadcastInDim S8x1024x8x8 ![] bcast_S_S8x1024x8x8 : (⟨S_, .i32⟩ : BufTy).Contents (Elt F) → (⟨S8x1024x8x8, .i32⟩ : BufTy).Contents (Elt F)),
    StableHlo.binary main_v67 main_v68 main_v69 (muli : (⟨S8x1024x8x8, .i32⟩ : BufTy).Contents (Elt F) → (⟨S8x1024x8x8, .i32⟩ : BufTy).Contents (Elt F) → (⟨S8x1024x8x8, .i32⟩ : BufTy).Contents (Elt F)),
    StableHlo.unary main_v65 main_v70 (broadcastInDim S8x1024x8x8 ![0, 1, 2, 3] bcast_S1x1x1x8_S8x1024x8x8_0_1_2_3 : (⟨S1x1x1x8, .i32⟩ : BufTy).Contents (Elt F) → (⟨S8x1024x8x8, .i32⟩ : BufTy).Contents (Elt F)),
    StableHlo.binary main_v70 main_v57 main_v71 (addi : (⟨S8x1024x8x8, .i32⟩ : BufTy).Contents (Elt F) → (⟨S8x1024x8x8, .i32⟩ : BufTy).Contents (Elt F) → (⟨S8x1024x8x8, .i32⟩ : BufTy).Contents (Elt F)),
    StableHlo.binary main_v69 main_v71 main_v72 (addi : (⟨S8x1024x8x8, .i32⟩ : BufTy).Contents (Elt F) → (⟨S8x1024x8x8, .i32⟩ : BufTy).Contents (Elt F) → (⟨S8x1024x8x8, .i32⟩ : BufTy).Contents (Elt F)),
    StableHlo.reshape main_v72 main_v73 (rfl : (.i32 : EltTy) = .i32) shapeCasts_S8x1024x8x8_S8x32x32x64,
    StableHlo.reshape main_v54 main_v74 (rfl : (.f32 : EltTy) = .f32) shapeCasts_S8x1024x8x8_S8x32x32x64,
    StableHlo.unary main_v74 main_v75 (Host.negf : (⟨S8x32x32x64, .f32⟩ : BufTy).Contents (Elt F) → (⟨S8x32x32x64, .f32⟩ : BufTy).Contents (Elt F))]

/-- Stretch 17 of @main: a call. -/
def ops17 : List (HloOp τ sig (Elt F)) :=
  argsort_5Ops (.of main_v75) main_call8

/-- Stretch 18 of @main's own operations. -/
def ops18 : List (HloOp τ sig (Elt F)) :=
  [StableHlo.unary main_v76 main_v77 ((extractStridedSlice S8x32x32x24 ![0, 0, 0, 0] · slices_S8x32x32x64_S8x32x32x24_0_0_0_0) : (⟨S8x32x32x64, .i32⟩ : BufTy).Contents (Elt F) → (⟨S8x32x32x24, .i32⟩ : BufTy).Contents (Elt F))]

/-- Stretch 19 of @main: a call. -/
def ops19 : List (HloOp τ sig (Elt F)) :=
  take_along_axis_6Ops (.of main_v73) (.of main_v77) main_call9

/-- Stretch 20 of @main's own operations. -/
def ops20 : List (HloOp τ sig (Elt F)) :=
  [StableHlo.nullary main_c_15 (constantI S_ 32 42#32),
    StableHlo.nullary main_c_16 (constantI S_ 32 32#32),
    StableHlo.binary main_c_15 main_c_16 main_v79 (Host.shrui : (⟨S_, .i32⟩ : BufTy).Contents (Elt F) → (⟨S_, .i32⟩ : BufTy).Contents (Elt F) → (⟨S_, .i32⟩ : BufTy).Contents (Elt F)),
    StableHlo.unary main_v79 main_v80 (id : (⟨S_, .i32⟩ : BufTy).Contents (Elt F) → (⟨S_, .i32⟩ : BufTy).Contents (Elt F)),
    StableHlo.unary main_v80 main_v81 (broadcastInDim S1 ![] bcast_S_S1 : (⟨S_, .i32⟩ : BufTy).Contents (Elt F) → (⟨S1, .i32⟩ : BufTy).Contents (Elt F)),
    StableHlo.nullary main_c_17 (constantI S_ 32 4294967295#32),
    StableHlo.binary main_c_15 main_c_17 main_v82 (andi : (⟨S_, .i32⟩ : BufTy).Contents (Elt F) → (⟨S_, .i32⟩ : BufTy).Contents (Elt F) → (⟨S_, .i32⟩ : BufTy).Contents (Elt F)),
    StableHlo.unary main_v82 main_v83 (id : (⟨S_, .i32⟩ : BufTy).Contents (Elt F) → (⟨S_, .i32⟩ : BufTy).Contents (Elt F)),
    StableHlo.unary main_v83 main_v84 (broadcastInDim S1 ![] bcast_S_S1 : (⟨S_, .i32⟩ : BufTy).Contents (Elt F) → (⟨S1, .i32⟩ : BufTy).Contents (Elt F)),
    StableHlo.binary main_v81 main_v84 main_v85 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_v86 (iotaInDim S24 32 0)]

/-- Stretch 21 of @main: a call. -/
def ops21 : List (HloOp τ sig (Elt F)) :=
  shuffleOps (.of main_v85) (.of main_v86) main_call10

/-- Stretch 22 of @main's own operations. -/
def ops22 : List (HloOp τ sig (Elt F)) :=
  [StableHlo.nullary main_c_18 (constantI S_ 32 0#32),
    StableHlo.unary main_c_18 main_v88 (broadcastInDim S24 ![] bcast_S_S24 : (⟨S_, .i32⟩ : BufTy).Contents (Elt F) → (⟨S24, .i32⟩ : BufTy).Contents (Elt F)),
    StableHlo.binary main_v87 main_v88 main_v89 (cmpi .slt : (⟨S24, .i32⟩ : BufTy).Contents (Elt F) → (⟨S24, .i32⟩ : BufTy).Contents (Elt F) → (⟨S24, .i1⟩ : BufTy).Contents (Elt F)),
    StableHlo.nullary main_c_19 (constantI S_ 32 24#32),
    StableHlo.unary main_c_19 main_v90 (broadcastInDim S24 ![] bcast_S_S24 : (⟨S_, .i32⟩ : BufTy).Contents (Elt F) → (⟨S24, .i32⟩ : BufTy).Contents (Elt F)),
    StableHlo.binary main_v87 main_v90 main_v91 (addi : (⟨S24, .i32⟩ : BufTy).Contents (Elt F) → (⟨S24, .i32⟩ : BufTy).Contents (Elt F) → (⟨S24, .i32⟩ : BufTy).Contents (Elt F)),
    StableHlo.ternary main_v89 main_v91 main_v87 main_v92 (select : (⟨S24, .i1⟩ : BufTy).Contents (Elt F) → (⟨S24, .i32⟩ : BufTy).Contents (Elt F) → (⟨S24, .i32⟩ : BufTy).Contents (Elt F) → (⟨S24, .i32⟩ : BufTy).Contents (Elt F)),
    StableHlo.unary main_v92 main_v93 (broadcastInDim S24x1 ![0] bcast_S24_S24x1_0 : (⟨S24, .i32⟩ : BufTy).Contents (Elt F) → (⟨S24x1, .i32⟩ : BufTy).Contents (Elt F)),
    StableHlo.binary main_v78 main_v93 main_v94 ((fun x i => Host.gather gather_S8x32x32x24_S24x1_S8x32x32x24_012_3_n_n_3_1_832321 x i) : (⟨S8x32x32x24, .i32⟩ : BufTy).Contents (Elt F) → (⟨S24x1, .i32⟩ : BufTy).Contents (Elt F) → (⟨S8x32x32x24, .i32⟩ : BufTy).Contents (Elt F)),
    StableHlo.unary main_v94 main_v95 (broadcastInDim S8x32x32x1x24 ![0, 1, 2, 4] bcast_S8x32x32x24_S8x32x32x1x24_0_1_2_4 : (⟨S8x32x32x24, .i32⟩ : BufTy).Contents (Elt F) → (⟨S8x32x32x1x24, .i32⟩ : BufTy).Contents (Elt F)),
    StableHlo.unary main_v95 main_v96 (broadcastInDim S8x32x32x16x24 ![0, 1, 2, 3, 4] bcast_S8x32x32x1x24_S8x32x32x16x24_0_1_2_3_4 : (⟨S8x32x32x1x24, .i32⟩ : BufTy).Contents (Elt F) → (⟨S8x32x32x16x24, .i32⟩ : BufTy).Contents (Elt F)),
    StableHlo.reshape main_arg2 main_v97 (rfl : (.f32 : EltTy) = .f32) shapeCasts_S8x32x32x16x16x16_S8x32x32x16x256]

/-- Stretch 23 of @main: a call. -/
def ops23 : List (HloOp τ sig (Elt F)) :=
  take_along_axis_8Ops (.of main_v97) (.of main_v96) main_call11

/-- Stretch 24 of @main's own operations. -/
def ops24 : List (HloOp τ sig (Elt F)) :=
  [StableHlo.unary main_v98 main_v99 (broadcastInDim S8x32x32x16x24x1 ![0, 1, 2, 3, 4] bcast_S8x32x32x16x24_S8x32x32x16x24x1_0_1_2_3_4 : (⟨S8x32x32x16x24, .f32⟩ : BufTy).Contents (Elt F) → (⟨S8x32x32x16x24x1, .f32⟩ : BufTy).Contents (Elt F))]

/-- Part A of @main: from the activations to the keys of their first sort. -/
def grpA : List (HloOp τ sig (Elt F)) :=
  ops0 ++ ops1 ++ ops2 ++ ops3 ++ ops4 ++ ops5 ++ ops6

/-- Part B of @main: the sort of the activations. -/
def grpB : List (HloOp τ sig (Elt F)) :=
  ops7

/-- Part C of @main: the kept positions of the activations. -/
def grpC : List (HloOp τ sig (Elt F)) :=
  ops8 ++ ops9

/-- Part D of @main: the mask, the masked routing and its windows. -/
def grpD : List (HloOp τ sig (Elt F)) :=
  ops10

/-- Part E of @main: from the windows of the masked routing to the keys of its sort. -/
def grpE : List (HloOp τ sig (Elt F)) :=
  ops11 ++ ops12 ++ ops13 ++ ops14 ++ ops15 ++ ops16

/-- Part S of @main: the sort of the masked routing. -/
def grpS : List (HloOp τ sig (Elt F)) :=
  ops17

/-- Part G of @main: the kept positions of the masked routing. -/
def grpG : List (HloOp τ sig (Elt F)) :=
  ops18 ++ ops19

/-- Part H of @main: the key of the permutation. -/
def grpH : List (HloOp τ sig (Elt F)) :=
  ops20

/-- Part I of @main: the permutation. -/
def grpI : List (HloOp τ sig (Elt F)) :=
  ops21

/-- Part J of @main: the permuted positions. -/
def grpJ : List (HloOp τ sig (Elt F)) :=
  ops22

/-- Part K of @main: the votes at those positions. -/
def grpK : List (HloOp τ sig (Elt F)) :=
  ops23 ++ ops24

/-- Every operation of @main, in order. -/
def allOps : List (HloOp τ sig (Elt F)) :=
  grpA ++ (grpB ++ (grpC ++ (grpD ++ (grpE ++ (grpS ++ (grpG ++ (grpH ++ (grpI ++ (grpJ ++ (grpK))))))))))

/-- The reference is the straight line of its operations. -/
theorem main_seq (d : Dev nD) : main (F := F) d = StableHlo.seq allOps := by
  chain_rfl

end Cert.ReferenceIdeal.Ops

end
-- ==== Proof.RefRun.lean ====
/-
The reference's run: from any memory it ends with every buffer at what its straight line of operations computes, and
with every counter at zero. The frame of the reference follows, since no operation writes an argument.
-/
module

public import proofs.«01_k».proof.Defs
public import proofs.«01_k».proof.Proof.RefOps
public import Idealize.ShloMosaic.Lib.Quiescent

@[expose] public section

set_option maxRecDepth 8000
set_option maxHeartbeats 4000000

noncomputable section

namespace Cert.ReferenceIdeal.Ops

open Idealize.ShloMosaic Idealize.ShloMosaic.TcCoe Idealize.SL.Sem
open Cert.ReferenceIdeal

variable {F : FTy → Type} [FloatOps F]

/-! ## What each part writes -/

/-- The references part A writes, in order. -/
def WA : List (Ref sig .tc) := [
    main_v0, main_v1, main_v2, main_v3, main_v4, main_cst, main_v5, main_call0_v0, main_call0_cst, main_call0_c,
    main_call0_v1_0, main_v6, main_c, main_call1_v0, main_call1_v1, main_call1_v2, main_call1_v3, main_call1_v4,
    main_call1_v5, main_call1_v6, main_call1_v7, main_call1_v8, main_call1_c, main_call1_v9, main_call1_v10,
    main_call1_v11, main_call1_c_0, main_call1_v12, main_call1_v13, main_v7, main_c_0, main_call2_v0, main_call2_c,
    main_call2_v1, main_call2_c_0, main_call2_v2, main_call2_v3, main_call2_v4, main_call2_c_1, main_call2_v5,
    main_call2_v6, main_call2_c_2, main_call2_v7, main_call2_v8, main_call2_c_3, main_call2_v9, main_call2_v10,
    main_call2_v11, main_call2_v12, main_call2_v13, main_call2_v14, main_v8, main_v9, main_c_1, main_v10, main_v11,
    main_v12, main_v13, main_c_2, main_v14, main_v15, main_v16, main_v17, main_v18, main_c_3, main_v19, main_v20,
    main_v21, main_v22, main_v23, main_v24, main_v25, main_v26]
/-- Part A writes the listed references. -/
theorem WA_eq : (grpA : List (HloOp τ sig (Elt F))).map HloOp.writes = WA.map fun w => {Proc.devRef (τ := τ) .tc w} := by
  chain_rfl
/-- A reference part A does not write keeps its contents across it. -/
theorem grpA_of (V : Valuation τ sig (Elt F)) (r : Ref sig .tc) (h : r ∉ WA) :
    StableHlo.after grpA V (Proc.devRef .tc r) = V (Proc.devRef .tc r) := StableHlo.after_unwritten WA WA_eq h V
/-- Part A allocates nothing. -/
theorem grpA_fresh : (grpA : List (HloOp τ sig (Elt F))).map HloOp.fresh = (grpA : List (HloOp τ sig (Elt F))).map fun _ => (∅ : Finset (DevRef τ sig)) := by
  chain_rfl

/-- The references part B writes, in order. -/
def WB : List (Ref sig .tc) := [
    main_call3_v0, main_call3_v1_0, main_v27]
/-- Part B writes the listed references. -/
theorem WB_eq : (grpB : List (HloOp τ sig (Elt F))).map HloOp.writes = WB.map fun w => {Proc.devRef (τ := τ) .tc w} := by
  chain_rfl
/-- A reference part B does not write keeps its contents across it. -/
theorem grpB_of (V : Valuation τ sig (Elt F)) (r : Ref sig .tc) (h : r ∉ WB) :
    StableHlo.after grpB V (Proc.devRef .tc r) = V (Proc.devRef .tc r) := StableHlo.after_unwritten WB WB_eq h V
/-- Part B allocates nothing. -/
theorem grpB_fresh : (grpB : List (HloOp τ sig (Elt F))).map HloOp.fresh = (grpB : List (HloOp τ sig (Elt F))).map fun _ => (∅ : Finset (DevRef τ sig)) := by
  chain_rfl

/-- The references part C writes, in order. -/
def WC : List (Ref sig .tc) := [
    main_v28, main_call4_c, main_call4_v0, main_call4_v1, main_call4_c_0, main_call4_v2, main_call4_v3, main_call4_v4,
    main_call4_v5, main_call4_c_1, main_call4_c_2, main_call4_v6, main_call4_v7, main_call4_v8, main_call4_v9,
    main_call4_v10, main_call4_v11, main_call4_c_3, main_call4_v12, main_call4_v13, main_call4_c_4, main_call4_v14,
    main_v29]
/-- Part C writes the listed references. -/
theorem WC_eq : (grpC : List (HloOp τ sig (Elt F))).map HloOp.writes = WC.map fun w => {Proc.devRef (τ := τ) .tc w} := by
  chain_rfl
/-- A reference part C does not write keeps its contents across it. -/
theorem grpC_of (V : Valuation τ sig (Elt F)) (r : Ref sig .tc) (h : r ∉ WC) :
    StableHlo.after grpC V (Proc.devRef .tc r) = V (Proc.devRef .tc r) := StableHlo.after_unwritten WC WC_eq h V
/-- Part C allocates nothing. -/
theorem grpC_fresh : (grpC : List (HloOp τ sig (Elt F))).map HloOp.fresh = (grpC : List (HloOp τ sig (Elt F))).map fun _ => (∅ : Finset (DevRef τ sig)) := by
  chain_rfl

/-- The references part D writes, in order. -/
def WD : List (Ref sig .tc) := [
    main_v30, main_c_4, main_v31, main_v32, main_v33, main_v34, main_v35, main_cst_5, main_v36, main_v37, main_c_6,
    main_v38, main_v39, main_c_7, main_v40, main_v41, main_v42, main_v43, main_cst_8, main_v44, main_v45, main_v46,
    main_v47, main_v48, main_v49, main_v50, main_v51, main_v52, main_v53, main_cst_9, main_v54]
/-- Part D writes the listed references. -/
theorem WD_eq : (grpD : List (HloOp τ sig (Elt F))).map HloOp.writes = WD.map fun w => {Proc.devRef (τ := τ) .tc w} := by
  chain_rfl
/-- A reference part D does not write keeps its contents across it. -/
theorem grpD_of (V : Valuation τ sig (Elt F)) (r : Ref sig .tc) (h : r ∉ WD) :
    StableHlo.after grpD V (Proc.devRef .tc r) = V (Proc.devRef .tc r) := StableHlo.after_unwritten WD WD_eq h V
/-- Part D allocates nothing. -/
theorem grpD_fresh : (grpD : List (HloOp τ sig (Elt F))).map HloOp.fresh = (grpD : List (HloOp τ sig (Elt F))).map fun _ => (∅ : Finset (DevRef τ sig)) := by
  chain_rfl

/-- The references part E writes, in order. -/
def WE : List (Ref sig .tc) := [
    main_call5_v0, main_call5_cst, main_call5_c, main_call5_v1_0, main_v55, main_c_10, main_call6_v0, main_call6_v1,
    main_call6_v2, main_call6_v3, main_call6_v4, main_call6_v5, main_call6_v6, main_call6_v7, main_call6_v8,
    main_call6_c, main_call6_v9, main_call6_v10, main_call6_v11, main_call6_c_0, main_call6_v12, main_call6_v13,
    main_v56, main_c_11, main_call7_v0, main_call7_c, main_call7_v1, main_call7_c_0, main_call7_v2, main_call7_v3,
    main_call7_v4, main_call7_c_1, main_call7_v5, main_call7_v6, main_call7_c_2, main_call7_v7, main_call7_v8,
    main_call7_c_3, main_call7_v9, main_call7_v10, main_call7_v11, main_call7_v12, main_call7_v13, main_call7_v14,
    main_v57, main_v58, main_c_12, main_v59, main_v60, main_v61, main_v62, main_c_13, main_v63, main_v64, main_v65,
    main_v66, main_v67, main_c_14, main_v68, main_v69, main_v70, main_v71, main_v72, main_v73, main_v74, main_v75]
/-- Part E writes the listed references. -/
theorem WE_eq : (grpE : List (HloOp τ sig (Elt F))).map HloOp.writes = WE.map fun w => {Proc.devRef (τ := τ) .tc w} := by
  chain_rfl
/-- A reference part E does not write keeps its contents across it. -/
theorem grpE_of (V : Valuation τ sig (Elt F)) (r : Ref sig .tc) (h : r ∉ WE) :
    StableHlo.after grpE V (Proc.devRef .tc r) = V (Proc.devRef .tc r) := StableHlo.after_unwritten WE WE_eq h V
/-- Part E allocates nothing. -/
theorem grpE_fresh : (grpE : List (HloOp τ sig (Elt F))).map HloOp.fresh = (grpE : List (HloOp τ sig (Elt F))).map fun _ => (∅ : Finset (DevRef τ sig)) := by
  chain_rfl

/-- The references part S writes, in order. -/
def WS : List (Ref sig .tc) := [
    main_call8_v0, main_call8_v1_0, main_v76]
/-- Part S writes the listed references. -/
theorem WS_eq : (grpS : List (HloOp τ sig (Elt F))).map HloOp.writes = WS.map fun w => {Proc.devRef (τ := τ) .tc w} := by
  chain_rfl
/-- A reference part S does not write keeps its contents across it. -/
theorem grpS_of (V : Valuation τ sig (Elt F)) (r : Ref sig .tc) (h : r ∉ WS) :
    StableHlo.after grpS V (Proc.devRef .tc r) = V (Proc.devRef .tc r) := StableHlo.after_unwritten WS WS_eq h V
/-- Part S allocates nothing. -/
theorem grpS_fresh : (grpS : List (HloOp τ sig (Elt F))).map HloOp.fresh = (grpS : List (HloOp τ sig (Elt F))).map fun _ => (∅ : Finset (DevRef τ sig)) := by
  chain_rfl

/-- The references part G writes, in order. -/
def WG : List (Ref sig .tc) := [
    main_v77, main_call9_c, main_call9_v0, main_call9_v1, main_call9_c_0, main_call9_v2, main_call9_v3, main_call9_v4,
    main_call9_v5, main_call9_c_1, main_call9_c_2, main_call9_v6, main_call9_v7, main_call9_v8, main_call9_v9,
    main_call9_v10, main_call9_v11, main_call9_c_3, main_call9_v12, main_call9_v13, main_call9_c_4, main_call9_v14,
    main_v78]
/-- Part G writes the listed references. -/
theorem WG_eq : (grpG : List (HloOp τ sig (Elt F))).map HloOp.writes = WG.map fun w => {Proc.devRef (τ := τ) .tc w} := by
  chain_rfl
/-- A reference part G does not write keeps its contents across it. -/
theorem grpG_of (V : Valuation τ sig (Elt F)) (r : Ref sig .tc) (h : r ∉ WG) :
    StableHlo.after grpG V (Proc.devRef .tc r) = V (Proc.devRef .tc r) := StableHlo.after_unwritten WG WG_eq h V
/-- Part G allocates nothing. -/
theorem grpG_fresh : (grpG : List (HloOp τ sig (Elt F))).map HloOp.fresh = (grpG : List (HloOp τ sig (Elt F))).map fun _ => (∅ : Finset (DevRef τ sig)) := by
  chain_rfl

/-- The references part H writes, in order. -/
def WH : List (Ref sig .tc) := [
    main_c_15, main_c_16, main_v79, main_v80, main_v81, main_c_17, main_v82, main_v83, main_v84, main_v85, main_v86]
/-- Part H writes the listed references. -/
theorem WH_eq : (grpH : List (HloOp τ sig (Elt F))).map HloOp.writes = WH.map fun w => {Proc.devRef (τ := τ) .tc w} := by
  chain_rfl
/-- A reference part H does not write keeps its contents across it. -/
theorem grpH_of (V : Valuation τ sig (Elt F)) (r : Ref sig .tc) (h : r ∉ WH) :
    StableHlo.after grpH V (Proc.devRef .tc r) = V (Proc.devRef .tc r) := StableHlo.after_unwritten WH WH_eq h V
/-- Part H allocates nothing. -/
theorem grpH_fresh : (grpH : List (HloOp τ sig (Elt F))).map HloOp.fresh = (grpH : List (HloOp τ sig (Elt F))).map fun _ => (∅ : Finset (DevRef τ sig)) := by
  chain_rfl

/-- The references part I writes, in order. -/
def WI : List (Ref sig .tc) := [
    main_call10_call0_v0, main_call10_call0_v1, main_call10_call0_v2, main_call10_call0_v3, main_call10_call0_v4,
    main_call10_call0_c, main_call10_call0_v5, main_call10_call0_v6, main_call10_call0_c_0, main_call10_call0_v7,
    main_call10_call0_v8, main_call10_call0_v9, main_call10_call0_v10, main_call10_call0_call0_v0,
    main_call10_call0_call0_c, main_call10_call0_call0_v1, main_call10_call0_call0_v2, main_call10_call0_call0_v3,
    main_call10_call0_call0_v4, main_call10_call0_call0_v5, main_call10_call0_call0_v6, main_call10_call0_call0_c_0,
    main_call10_call0_call0_v7, main_call10_call0_call0_v8, main_call10_call0_call0_c_1, main_call10_call0_call0_v9,
    main_call10_call0_call0_v10, main_call10_call0_call0_v11, main_call10_call0_call0_v12, main_call10_call0_call0_v13,
    main_call10_call0_call0_c_2, main_call10_call0_call0_v14, main_call10_call0_call0_v15, main_call10_call0_call0_c_3,
    main_call10_call0_call0_v16, main_call10_call0_call0_v17, main_call10_call0_call0_v18, main_call10_call0_call0_v19,
    main_call10_call0_call0_v20, main_call10_call0_call0_c_4, main_call10_call0_call0_v21, main_call10_call0_call0_v22,
    main_call10_call0_call0_c_5, main_call10_call0_call0_v23, main_call10_call0_call0_v24, main_call10_call0_call0_v25,
    main_call10_call0_call0_v26, main_call10_call0_call0_v27, main_call10_call0_call0_c_6, main_call10_call0_call0_v28,
    main_call10_call0_call0_v29, main_call10_call0_call0_c_7, main_call10_call0_call0_v30, main_call10_call0_call0_v31,
    main_call10_call0_call0_v32, main_call10_call0_call0_v33, main_call10_call0_call0_v34, main_call10_call0_call0_v35,
    main_call10_call0_call0_v36, main_call10_call0_call0_v37, main_call10_call0_call0_c_8, main_call10_call0_call0_v38,
    main_call10_call0_call0_v39, main_call10_call0_call0_v40, main_call10_call0_call0_c_9, main_call10_call0_call0_v41,
    main_call10_call0_call0_v42, main_call10_call0_call0_c_10, main_call10_call0_call0_v43,
    main_call10_call0_call0_v44, main_call10_call0_call0_v45, main_call10_call0_call0_v46, main_call10_call0_call0_v47,
    main_call10_call0_call0_c_11, main_call10_call0_call0_v48, main_call10_call0_call0_v49,
    main_call10_call0_call0_c_12, main_call10_call0_call0_v50, main_call10_call0_call0_v51,
    main_call10_call0_call0_v52, main_call10_call0_call0_v53, main_call10_call0_call0_v54,
    main_call10_call0_call0_c_13, main_call10_call0_call0_v55, main_call10_call0_call0_v56,
    main_call10_call0_call0_c_14, main_call10_call0_call0_v57, main_call10_call0_call0_v58,
    main_call10_call0_call0_v59, main_call10_call0_call0_v60, main_call10_call0_call0_v61,
    main_call10_call0_call0_c_15, main_call10_call0_call0_v62, main_call10_call0_call0_v63,
    main_call10_call0_call0_c_16, main_call10_call0_call0_v64, main_call10_call0_call0_v65,
    main_call10_call0_call0_v66, main_call10_call0_call0_v67, main_call10_call0_call0_v68, main_call10_call0_call0_v69,
    main_call10_call0_call0_v70, main_call10_call0_call0_v71, main_call10_call0_call0_c_17,
    main_call10_call0_call0_v72, main_call10_call0_call0_v73, main_call10_call0_call0_v74,
    main_call10_call0_call0_c_18, main_call10_call0_call0_v75, main_call10_call0_call0_v76,
    main_call10_call0_call0_c_19, main_call10_call0_call0_v77, main_call10_call0_call0_v78,
    main_call10_call0_call0_v79, main_call10_call0_call0_v80, main_call10_call0_call0_v81,
    main_call10_call0_call0_c_20, main_call10_call0_call0_v82, main_call10_call0_call0_v83,
    main_call10_call0_call0_c_21, main_call10_call0_call0_v84, main_call10_call0_call0_v85,
    main_call10_call0_call0_v86, main_call10_call0_call0_v87, main_call10_call0_call0_v88,
    main_call10_call0_call0_c_22, main_call10_call0_call0_v89, main_call10_call0_call0_v90,
    main_call10_call0_call0_c_23, main_call10_call0_call0_v91, main_call10_call0_call0_v92,
    main_call10_call0_call0_v93, main_call10_call0_call0_v94, main_call10_call0_call0_v95,
    main_call10_call0_call0_c_24, main_call10_call0_call0_v96, main_call10_call0_call0_v97,
    main_call10_call0_call0_c_25, main_call10_call0_call0_v98, main_call10_call0_call0_v99,
    main_call10_call0_call0_v100, main_call10_call0_call0_v101, main_call10_call0_call0_v102,
    main_call10_call0_call0_v103, main_call10_call0_call0_v104, main_call10_call0_call0_v105,
    main_call10_call0_call0_c_26, main_call10_call0_call0_v106, main_call10_call0_call0_v107,
    main_call10_call0_call0_v108, main_call10_call0_call0_c_27, main_call10_call0_call0_v109,
    main_call10_call0_call0_v110, main_call10_call0_call0_c_28, main_call10_call0_call0_v111,
    main_call10_call0_call0_v112, main_call10_call0_call0_v113, main_call10_call0_call0_v114,
    main_call10_call0_call0_v115, main_call10_call0_call0_c_29, main_call10_call0_call0_v116,
    main_call10_call0_call0_v117, main_call10_call0_call0_c_30, main_call10_call0_call0_v118,
    main_call10_call0_call0_v119, main_call10_call0_call0_v120, main_call10_call0_call0_v121,
    main_call10_call0_call0_v122, main_call10_call0_call0_c_31, main_call10_call0_call0_v123,
    main_call10_call0_call0_v124, main_call10_call0_call0_c_32, main_call10_call0_call0_v125,
    main_call10_call0_call0_v126, main_call10_call0_call0_v127, main_call10_call0_call0_v128,
    main_call10_call0_call0_v129, main_call10_call0_call0_c_33, main_call10_call0_call0_v130,
    main_call10_call0_call0_v131, main_call10_call0_call0_c_34, main_call10_call0_call0_v132,
    main_call10_call0_call0_v133, main_call10_call0_call0_v134, main_call10_call0_call0_v135,
    main_call10_call0_call0_v136, main_call10_call0_call0_v137, main_call10_call0_call0_v138,
    main_call10_call0_call0_v139, main_call10_call0_call0_c_35, main_call10_call0_call0_v140,
    main_call10_call0_call0_v141, main_call10_call0_call0_v142, main_call10_call0_call0_c_36,
    main_call10_call0_call0_v143, main_call10_call0_call0_v144, main_call10_call0_call0_c_37,
    main_call10_call0_call0_v145, main_call10_call0_call0_v146, main_call10_call0_call0_v147,
    main_call10_call0_call0_v148, main_call10_call0_call0_v149, main_call10_call0_call0_c_38,
    main_call10_call0_call0_v150, main_call10_call0_call0_v151, main_call10_call0_call0_c_39,
    main_call10_call0_call0_v152, main_call10_call0_call0_v153, main_call10_call0_call0_v154,
    main_call10_call0_call0_v155, main_call10_call0_call0_v156, main_call10_call0_call0_c_40,
    main_call10_call0_call0_v157, main_call10_call0_call0_v158, main_call10_call0_call0_c_41,
    main_call10_call0_call0_v159, main_call10_call0_call0_v160, main_call10_call0_call0_v161,
    main_call10_call0_call0_v162, main_call10_call0_call0_v163, main_call10_call0_call0_c_42,
    main_call10_call0_call0_v164, main_call10_call0_call0_v165, main_call10_call0_call0_c_43,
    main_call10_call0_call0_v166, main_call10_call0_call0_v167, main_call10_call0_call0_v168,
    main_call10_call0_call0_v169, main_call10_call0_call0_v170, main_call10_call0_v11_0, main_call10_call0_call0_v172,
    main_call10_call0_call0_v173, main_call10_call0_call0_c_44, main_call10_call0_call0_v174, main_call10_call0_v11_1,
    main_call10_call0_v12, main_call10_call0_v13, main_call10_v0, main_call10_v1, main_call10_v2, main_call10_v3,
    main_call10_v4, main_call10_v5, main_call10_v6, main_call10_v7, main_call10_v8, main_call10_v9, main_call10_c,
    main_call10_v10, main_call10_v11, main_call10_c_0, main_call10_v12, main_call10_v13, main_call10_v14,
    main_call10_v15, main_call10_call1_v0, main_call10_call1_c, main_call10_call1_v1, main_call10_call1_v2,
    main_call10_call1_v3, main_call10_call1_v4, main_call10_call1_v5, main_call10_call1_v6, main_call10_call1_c_0,
    main_call10_call1_v7, main_call10_call1_v8, main_call10_call1_c_1, main_call10_call1_v9, main_call10_call1_v10,
    main_call10_call1_v11, main_call10_call1_v12, main_call10_call1_v13, main_call10_call1_c_2, main_call10_call1_v14,
    main_call10_call1_v15, main_call10_call1_c_3, main_call10_call1_v16, main_call10_call1_v17, main_call10_call1_v18,
    main_call10_call1_v19, main_call10_call1_v20, main_call10_call1_c_4, main_call10_call1_v21, main_call10_call1_v22,
    main_call10_call1_c_5, main_call10_call1_v23, main_call10_call1_v24, main_call10_call1_v25, main_call10_call1_v26,
    main_call10_call1_v27, main_call10_call1_c_6, main_call10_call1_v28, main_call10_call1_v29, main_call10_call1_c_7,
    main_call10_call1_v30, main_call10_call1_v31, main_call10_call1_v32, main_call10_call1_v33, main_call10_call1_v34,
    main_call10_call1_v35, main_call10_call1_v36, main_call10_call1_v37, main_call10_call1_c_8, main_call10_call1_v38,
    main_call10_call1_v39, main_call10_call1_v40, main_call10_call1_c_9, main_call10_call1_v41, main_call10_call1_v42,
    main_call10_call1_c_10, main_call10_call1_v43, main_call10_call1_v44, main_call10_call1_v45, main_call10_call1_v46,
    main_call10_call1_v47, main_call10_call1_c_11, main_call10_call1_v48, main_call10_call1_v49,
    main_call10_call1_c_12, main_call10_call1_v50, main_call10_call1_v51, main_call10_call1_v52, main_call10_call1_v53,
    main_call10_call1_v54, main_call10_call1_c_13, main_call10_call1_v55, main_call10_call1_v56,
    main_call10_call1_c_14, main_call10_call1_v57, main_call10_call1_v58, main_call10_call1_v59, main_call10_call1_v60,
    main_call10_call1_v61, main_call10_call1_c_15, main_call10_call1_v62, main_call10_call1_v63,
    main_call10_call1_c_16, main_call10_call1_v64, main_call10_call1_v65, main_call10_call1_v66, main_call10_call1_v67,
    main_call10_call1_v68, main_call10_call1_v69, main_call10_call1_v70, main_call10_call1_v71, main_call10_call1_c_17,
    main_call10_call1_v72, main_call10_call1_v73, main_call10_call1_v74, main_call10_call1_c_18, main_call10_call1_v75,
    main_call10_call1_v76, main_call10_call1_c_19, main_call10_call1_v77, main_call10_call1_v78, main_call10_call1_v79,
    main_call10_call1_v80, main_call10_call1_v81, main_call10_call1_c_20, main_call10_call1_v82, main_call10_call1_v83,
    main_call10_call1_c_21, main_call10_call1_v84, main_call10_call1_v85, main_call10_call1_v86, main_call10_call1_v87,
    main_call10_call1_v88, main_call10_call1_c_22, main_call10_call1_v89, main_call10_call1_v90,
    main_call10_call1_c_23, main_call10_call1_v91, main_call10_call1_v92, main_call10_call1_v93, main_call10_call1_v94,
    main_call10_call1_v95, main_call10_call1_c_24, main_call10_call1_v96, main_call10_call1_v97,
    main_call10_call1_c_25, main_call10_call1_v98, main_call10_call1_v99, main_call10_call1_v100,
    main_call10_call1_v101, main_call10_call1_v102, main_call10_call1_v103, main_call10_call1_v104,
    main_call10_call1_v105, main_call10_call1_c_26, main_call10_call1_v106, main_call10_call1_v107,
    main_call10_call1_v108, main_call10_call1_c_27, main_call10_call1_v109, main_call10_call1_v110,
    main_call10_call1_c_28, main_call10_call1_v111, main_call10_call1_v112, main_call10_call1_v113,
    main_call10_call1_v114, main_call10_call1_v115, main_call10_call1_c_29, main_call10_call1_v116,
    main_call10_call1_v117, main_call10_call1_c_30, main_call10_call1_v118, main_call10_call1_v119,
    main_call10_call1_v120, main_call10_call1_v121, main_call10_call1_v122, main_call10_call1_c_31,
    main_call10_call1_v123, main_call10_call1_v124, main_call10_call1_c_32, main_call10_call1_v125,
    main_call10_call1_v126, main_call10_call1_v127, main_call10_call1_v128, main_call10_call1_v129,
    main_call10_call1_c_33, main_call10_call1_v130, main_call10_call1_v131, main_call10_call1_c_34,
    main_call10_call1_v132, main_call10_call1_v133, main_call10_call1_v134, main_call10_call1_v135,
    main_call10_call1_v136, main_call10_call1_v137, main_call10_call1_v138, main_call10_call1_v139,
    main_call10_call1_c_35, main_call10_call1_v140, main_call10_call1_v141, main_call10_call1_v142,
    main_call10_call1_c_36, main_call10_call1_v143, main_call10_call1_v144, main_call10_call1_c_37,
    main_call10_call1_v145, main_call10_call1_v146, main_call10_call1_v147, main_call10_call1_v148,
    main_call10_call1_v149, main_call10_call1_c_38, main_call10_call1_v150, main_call10_call1_v151,
    main_call10_call1_c_39, main_call10_call1_v152, main_call10_call1_v153, main_call10_call1_v154,
    main_call10_call1_v155, main_call10_call1_v156, main_call10_call1_c_40, main_call10_call1_v157,
    main_call10_call1_v158, main_call10_call1_c_41, main_call10_call1_v159, main_call10_call1_v160,
    main_call10_call1_v161, main_call10_call1_v162, main_call10_call1_v163, main_call10_call1_c_42,
    main_call10_call1_v164, main_call10_call1_v165, main_call10_call1_c_43, main_call10_call1_v166,
    main_call10_call1_v167, main_call10_call1_v168, main_call10_call1_v169, main_call10_call1_v170, main_call10_v16_0,
    main_call10_call1_v172, main_call10_call1_v173, main_call10_call1_c_44, main_call10_call1_v174, main_call10_v16_1,
    main_call10_v17, main_call10_v18_0, main_v87]
/-- Part I writes the listed references. -/
theorem WI_eq : (grpI : List (HloOp τ sig (Elt F))).map HloOp.writes = WI.map fun w => {Proc.devRef (τ := τ) .tc w} := by
  chain_rfl
/-- A reference part I does not write keeps its contents across it. -/
theorem grpI_of (V : Valuation τ sig (Elt F)) (r : Ref sig .tc) (h : r ∉ WI) :
    StableHlo.after grpI V (Proc.devRef .tc r) = V (Proc.devRef .tc r) := StableHlo.after_unwritten WI WI_eq h V
/-- Part I allocates nothing. -/
theorem grpI_fresh : (grpI : List (HloOp τ sig (Elt F))).map HloOp.fresh = (grpI : List (HloOp τ sig (Elt F))).map fun _ => (∅ : Finset (DevRef τ sig)) := by
  chain_rfl

/-- The references part J writes, in order. -/
def WJ : List (Ref sig .tc) := [
    main_c_18, main_v88, main_v89, main_c_19, main_v90, main_v91, main_v92, main_v93, main_v94, main_v95, main_v96,
    main_v97]
/-- Part J writes the listed references. -/
theorem WJ_eq : (grpJ : List (HloOp τ sig (Elt F))).map HloOp.writes = WJ.map fun w => {Proc.devRef (τ := τ) .tc w} := by
  chain_rfl
/-- A reference part J does not write keeps its contents across it. -/
theorem grpJ_of (V : Valuation τ sig (Elt F)) (r : Ref sig .tc) (h : r ∉ WJ) :
    StableHlo.after grpJ V (Proc.devRef .tc r) = V (Proc.devRef .tc r) := StableHlo.after_unwritten WJ WJ_eq h V
/-- Part J allocates nothing. -/
theorem grpJ_fresh : (grpJ : List (HloOp τ sig (Elt F))).map HloOp.fresh = (grpJ : List (HloOp τ sig (Elt F))).map fun _ => (∅ : Finset (DevRef τ sig)) := by
  chain_rfl

/-- The references part K writes, in order. -/
def WK : List (Ref sig .tc) := [
    main_call11_c, main_call11_v0, main_call11_v1, main_call11_c_0, main_call11_v2, main_call11_v3, main_call11_v4,
    main_call11_v5, main_call11_c_1, main_call11_c_2, main_call11_v6, main_call11_v7, main_call11_v8, main_call11_v9,
    main_call11_v10, main_call11_v11, main_call11_c_3, main_call11_v12, main_call11_v13, main_call11_cst,
    main_call11_v14, main_v98, main_v99]
/-- Part K writes the listed references. -/
theorem WK_eq : (grpK : List (HloOp τ sig (Elt F))).map HloOp.writes = WK.map fun w => {Proc.devRef (τ := τ) .tc w} := by
  chain_rfl
/-- A reference part K does not write keeps its contents across it. -/
theorem grpK_of (V : Valuation τ sig (Elt F)) (r : Ref sig .tc) (h : r ∉ WK) :
    StableHlo.after grpK V (Proc.devRef .tc r) = V (Proc.devRef .tc r) := StableHlo.after_unwritten WK WK_eq h V
/-- Part K allocates nothing. -/
theorem grpK_fresh : (grpK : List (HloOp τ sig (Elt F))).map HloOp.fresh = (grpK : List (HloOp τ sig (Elt F))).map fun _ => (∅ : Finset (DevRef τ sig)) := by
  chain_rfl

/-! ## The contents at the end of each part -/

/-- The contents after part A. -/
def RA (V : Valuation τ sig (Elt F)) : Valuation τ sig (Elt F) := StableHlo.after grpA V
/-- The contents after part B. -/
def RB (V : Valuation τ sig (Elt F)) : Valuation τ sig (Elt F) := StableHlo.after grpB (RA V)
/-- The contents after part C. -/
def RC (V : Valuation τ sig (Elt F)) : Valuation τ sig (Elt F) := StableHlo.after grpC (RB V)
/-- The contents after part D. -/
def RD (V : Valuation τ sig (Elt F)) : Valuation τ sig (Elt F) := StableHlo.after grpD (RC V)
/-- The contents after part E. -/
def RE (V : Valuation τ sig (Elt F)) : Valuation τ sig (Elt F) := StableHlo.after grpE (RD V)
/-- The contents after part S. -/
def RS (V : Valuation τ sig (Elt F)) : Valuation τ sig (Elt F) := StableHlo.after grpS (RE V)
/-- The contents after part G. -/
def RG (V : Valuation τ sig (Elt F)) : Valuation τ sig (Elt F) := StableHlo.after grpG (RS V)
/-- The contents after part H. -/
def RH (V : Valuation τ sig (Elt F)) : Valuation τ sig (Elt F) := StableHlo.after grpH (RG V)
/-- The contents after part I. -/
def RI (V : Valuation τ sig (Elt F)) : Valuation τ sig (Elt F) := StableHlo.after grpI (RH V)
/-- The contents after part J. -/
def RJ (V : Valuation τ sig (Elt F)) : Valuation τ sig (Elt F) := StableHlo.after grpJ (RI V)
/-- The contents after part K. -/
def RK (V : Valuation τ sig (Elt F)) : Valuation τ sig (Elt F) := StableHlo.after grpK (RJ V)

/-- Two lines in sequence. -/
theorem after_two (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- The whole line ends at the last part's contents. -/
theorem after_allOps (V : Valuation τ sig (Elt F)) : StableHlo.after allOps V = RK V := by
  unfold allOps
  rw [after_two, after_two, after_two, after_two, after_two, after_two, after_two, after_two, after_two, after_two]
  rfl

/-- Every operation touches TensorCore references only. -/
theorem allOps_sub : (allOps : List (HloOp τ sig (Elt F))).Forall fun op => op.bufs ⊆ StableHlo.tcRefs τ sig := by
  simp only [allOps, grpA, grpB, grpC, grpD, grpE, grpS, grpG, grpH, grpI, grpJ, grpK,
    ops0, ops1, ops2, ops3, ops4, ops5, ops6, ops7, ops8, ops9, ops10, ops11, ops12, ops13, ops14, ops15, ops16, ops17, ops18, ops19, ops20, ops21, ops22, ops23, ops24,
    List.forall_append, argmaxOps, whereOps, floor_divideOps, where_0Ops, remainderOps, argsortOps, take_along_axisOps,
    argmax_1Ops, where_3Ops, floor_divide_2Ops, remainder_4Ops, argsort_5Ops, take_along_axis_6Ops, threefry2x32Ops,
    threefry2x32Ops0, threefry2x32Ops1, threefry2x32Ops2, threefry2x32Ops3, threefry_splitOps, threefry2x32_7Ops,
    threefry2x32_7Ops0, threefry2x32_7Ops1, threefry2x32_7Ops2, threefry2x32_7Ops3, shuffleOps, take_along_axis_8Ops,
    List.Forall, StableHlo.nullary_bufs_sub, StableHlo.unary_bufs_sub, StableHlo.binary_bufs_sub,
    StableHlo.ternary_bufs_sub, StableHlo.quaternary_bufs_sub, StableHlo.reshape_bufs_sub, and_self, and_true]

/-- No operation writes a fresh buffer. -/
theorem allOps_fresh : (allOps : List (HloOp τ sig (Elt F))).map HloOp.fresh
    = (allOps : List (HloOp τ sig (Elt F))).map fun _ => (∅ : Finset (DevRef τ sig)) := by
  unfold allOps
  simp only [List.map_append, grpA_fresh, grpB_fresh, grpC_fresh, grpD_fresh, grpE_fresh, grpS_fresh, grpG_fresh, grpH_fresh, grpI_fresh, grpJ_fresh, grpK_fresh]

/-- The device's launch contents. -/
abbrev launch (m : (ℓ : Loc nD τ sig) → Buf (Elt F) ℓ) (d : Dev nD) : Valuation τ sig (Elt F) :=
  StableHlo.launchContents m d

/-- An argument is written by no part. -/
theorem RK_arg (V : Valuation τ sig (Elt F)) (r : Ref sig .tc)
    (h : r ∈ ([main_arg0, main_arg1, main_arg2] : List (Ref sig .tc))) :
    RK V (Proc.devRef .tc r) = V (Proc.devRef .tc r) := by
  have hA : ∀ W : List (Ref sig .tc), main_arg0 ∉ W → main_arg1 ∉ W → main_arg2 ∉ W → r ∉ W := by
    intro W h0 h1 h2
    simp only [List.mem_cons, List.not_mem_nil, or_false] at h
    rcases h with rfl | rfl | rfl <;> assumption
  unfold RK RJ RI RH RG RS RE RD RC RB RA
  rw [grpK_of _ _ (hA _ (by decide +kernel) (by decide +kernel) (by decide +kernel)), grpJ_of _ _ (hA _ (by decide +kernel) (by decide +kernel) (by decide +kernel)), grpI_of _ _ (hA _ (by decide +kernel) (by decide +kernel) (by decide +kernel)), grpH_of _ _ (hA _ (by decide +kernel) (by decide +kernel) (by decide +kernel)), grpG_of _ _ (hA _ (by decide +kernel) (by decide +kernel) (by decide +kernel)), grpS_of _ _ (hA _ (by decide +kernel) (by decide +kernel) (by decide +kernel)), grpE_of _ _ (hA _ (by decide +kernel) (by decide +kernel) (by decide +kernel)), grpD_of _ _ (hA _ (by decide +kernel) (by decide +kernel) (by decide +kernel)), grpC_of _ _ (hA _ (by decide +kernel) (by decide +kernel) (by decide +kernel)), grpB_of _ _ (hA _ (by decide +kernel) (by decide +kernel) (by decide +kernel)), grpA_of _ _ (hA _ (by decide +kernel) (by decide +kernel) (by decide +kernel))]

/-- The reference runs to what its operations compute from the launch memory. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = RK (launch m d) (Proc.devRef .tc b) := by
  have h := StableHlo.run_hlo (defs (F := F)) (main (F := F)) main_seq (by decide) (by decide) allOps_sub
    (List.forall_iff_forall_mem.mp (StableHlo.forall_fresh_of_map allOps_fresh)) m ρ
  simp only [after_allOps] at h
  exact h

/-- The reference's frame: it runs, its arguments end unchanged, every counter ends at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run m ρ) fun r h => ⟨fun c =>
    ⟨(h c main_arg0).trans (RK_arg _ _ (by simp)), (h c main_arg1).trans (RK_arg _ _ (by simp)),
     (h c main_arg2).trans (RK_arg _ _ (by simp))⟩, sem_eq_zero_of_no_sems (by decide) _⟩

end Cert.ReferenceIdeal.Ops

end
-- ==== Proof.Rank.lean ====
/-
Ranks and first maxima of 64 windows of four values each. The kernel finds the place of a window among the others by
counting; the reference by a stable sort. This file states the count (`rnk`), shows that a stable sort puts at place `k`
the window of rank `k` (`rnk_sortedFrom`), and names the first largest of four values (`best`).
-/
module

public import Idealize.ShloMosaic.Lib.SortFacts
public import Idealize.ShloMosaic.PureOps.Ideal.Laws

@[expose] public section

noncomputable section

namespace Cert.Pick

open Idealize.ShloMosaic

/-! ## The rank -/

/-- Window `v` stands before window `w`: its value is larger, or the values are equal and it comes first. -/
def Ahead (p : Fin 64 → EReal) (v w : Fin 64) : Prop := p w < p v ∨ (p v = p w ∧ v < w)

/-- Which of two windows stands first can be asked in an `if`. -/
instance (p : Fin 64 → EReal) (v w : Fin 64) : Decidable (Ahead p v w) := Classical.propDecidable _

/-- How many windows stand before `w`. -/
def rnk (p : Fin 64 → EReal) (w : Fin 64) : Nat := (Finset.univ.filter fun v => Ahead p v w).card

/-- No window stands before itself. -/
theorem ahead_irrefl (p : Fin 64 → EReal) (w : Fin 64) : ¬ Ahead p w w := by
  rintro (h | ⟨-, h⟩)
  · exact lt_irrefl _ h
  · exact lt_irrefl _ h

/-- Of two windows one stands before the other. -/
theorem ahead_total (p : Fin 64 → EReal) {v w : Fin 64} (h : v ≠ w) : Ahead p v w ∨ Ahead p w v := by
  rcases lt_trichotomy (p v) (p w) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- Standing before passes along. -/
theorem ahead_trans (p : Fin 64 → EReal) {u v w : Fin 64} (h : Ahead p u v) (h' : Ahead p v w) : Ahead p u w := by
  rcases h with h | ⟨h, g⟩
  · rcases h' with h' | ⟨h', -⟩
    · exact Or.inl (h'.trans h)
    · exact Or.inl (h' ▸ h)
  · rcases h' with h' | ⟨h', g'⟩
    · exact Or.inl (h ▸ h')
    · exact Or.inr ⟨h.trans h', g.trans g'⟩

/-- A window ahead of another has the smaller rank. -/
theorem rnk_lt_of_ahead (p : Fin 64 → EReal) {v w : Fin 64} (h : Ahead p v w) : rnk p v < rnk p w := by
  apply Finset.card_lt_card
  refine Finset.ssubset_iff_of_subset (fun u hu => ?_) |>.mpr ⟨v, ?_, ?_⟩
  · simp only [Finset.mem_filter, Finset.mem_univ, true_and] at hu ⊢
    exact ahead_trans p hu h
  · simpa only [Finset.mem_filter, Finset.mem_univ, true_and] using h
  · simpa only [Finset.mem_filter, Finset.mem_univ, true_and] using ahead_irrefl p v

/-- Different windows have different ranks. -/
theorem rnk_inj (p : Fin 64 → EReal) {v w : Fin 64} (h : rnk p v = rnk p w) : v = w := by
  by_contra hne
  rcases ahead_total p hne with h1 | h1
  · exact absurd (rnk_lt_of_ahead p h1) (by omega)
  · exact absurd (rnk_lt_of_ahead p h1) (by omega)

/-- A rank is below 64. -/
theorem rnk_lt (p : Fin 64 → EReal) (w : Fin 64) : rnk p w < 64 := by
  have h : (Finset.univ.filter fun v => Ahead p v w) ⊂ (Finset.univ : Finset (Fin 64)) :=
    Finset.ssubset_iff_of_subset (Finset.filter_subset _ _) |>.mpr
      ⟨w, Finset.mem_univ _, by simpa only [Finset.mem_filter, Finset.mem_univ, true_and] using ahead_irrefl p w⟩
  simpa [rnk] using Finset.card_lt_card h

/-! ## The stable sort -/

/-- The order the reference sorts by: the smaller negated value first. -/
def Before (p : Fin 64 → EReal) (v w : Fin 64) : Bool := decide (-(p v) < -(p w))

/-- The reference sorts by the negated value, so the larger value comes first. -/
theorem before_iff (p : Fin 64 → EReal) (v w : Fin 64) : Before p v w = true ↔ p w < p v := by
  simp [Before, EReal.neg_lt_neg_iff]

/-- Inserting into a list in the order `Ahead` a window that comes before every entry of it. -/
theorem pairwise_insert (p : Fin 64 → EReal) (a : Fin 64) (l : List (Fin 64)) (ha : ∀ b ∈ l, a < b)
    (hl : l.Pairwise (Ahead p)) : (insertBefore (Before p) a l).Pairwise (Ahead p) := by
  induction l with
  | nil => simp [insertBefore]
  | cons b l ih =>
    obtain ⟨hb, hl'⟩ := List.pairwise_cons.mp hl
    unfold insertBefore
    by_cases h : Before p b a = true
    · rw [if_pos h]
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl ((before_iff p _ _).mp h)
      · exact hb x hx'
    · rw [if_neg h]
      refine List.pairwise_cons.mpr ⟨fun x hx => ?_, hl⟩
      have hab : p b ≤ p a := not_lt.mp fun h' => h ((before_iff p b a).mpr h')
      have hax : p x ≤ p a := by
        rcases List.mem_cons.mp hx with rfl | hx'
        · exact hab
        · rcases hb x hx' with h1 | ⟨h1, -⟩
          · exact h1.le.trans hab
          · exact h1 ▸ hab
      rcases hax.lt_or_eq with h1 | h1
      · exact Or.inl h1
      · exact Or.inr ⟨h1.symm, ha x hx⟩

/-- The stable sort leaves its list in order. -/
theorem pairwise_sort (p : Fin 64 → EReal) (l : List (Fin 64)) (hl : l.Pairwise (· < ·)) :
    (stableSort (Before p) l).Pairwise (Ahead p) := by
  induction l with
  | nil => simp [stableSort]
  | cons a l ih =>
    obtain ⟨ha, hl'⟩ := List.pairwise_cons.mp hl
    unfold stableSort
    exact pairwise_insert p a _ (fun b hb => ha b ((perm_stableSort _ l).mem_iff.mp hb)) (ih hl')

/-- Earlier places of an ordered list hold entries that stand before the later ones. -/
theorem get_of_pairwise {n : Nat} {R : Fin n → Fin n → Prop} (l : List (Fin n)) (hl : l.length = n) (hp : l.Pairwise R)
    {i j : Fin n} (h : i < j) : R (l.get (i.cast hl.symm)) (l.get (j.cast hl.symm)) :=
  List.pairwise_iff_get.mp hp _ _ h

/-- Earlier places of the stable sort hold windows that stand before the later ones. -/
theorem ahead_sortedFrom (p : Fin 64 → EReal) {i j : Fin 64} (h : i < j) :
    Ahead p (sortedFrom (Before p) i) (sortedFrom (Before p) j) := by
  have hp : (sortPositions 64 (Before p)).Pairwise (Ahead p) := by
    unfold sortPositions
    exact pairwise_sort p (List.finRange 64) (List.pairwise_lt_finRange 64)
  unfold sortedFrom
  exact get_of_pairwise _ (length_sortPositions 64 (Before p)) hp h

/-- The stable sort puts at place `k` the window of rank `k`. -/
theorem rnk_sortedFrom (p : Fin 64 → EReal) (k : Fin 64) : rnk p (sortedFrom (Before p) k) = k.val := by
  have hb : Function.Bijective (sortedFrom (Before p)) := ⟨sortedFrom_injective _, sortedFrom_surjective _⟩
  have hs : (Finset.univ.filter fun v => Ahead p v (sortedFrom (Before p) k))
      = (Finset.univ.filter fun i : Fin 64 => i < k).map ⟨sortedFrom (Before p), hb.1⟩ := by
    ext v
    obtain ⟨i, rfl⟩ := hb.2 v
    simp only [Finset.mem_filter, Finset.mem_univ, true_and, Finset.mem_map, Function.Embedding.coeFn_mk]
    constructor
    · intro h
      refine ⟨i, ?_, rfl⟩
      by_contra hik
      rcases lt_or_eq_of_le (not_lt.mp hik) with h1 | h1
      · exact ahead_irrefl p _ (ahead_trans p h (ahead_sortedFrom p h1))
      · subst h1; exact ahead_irrefl p _ h
    · rintro ⟨i', hi', he⟩
      rw [← hb.1 he]
      exact ahead_sortedFrom p hi'
  have hc : (Finset.univ.filter fun i : Fin 64 => i < k) = Finset.Iio k := by ext i; simp
  unfold rnk
  rw [hs, Finset.card_map, hc, Fin.card_Iio]

/-! ## The first largest of four values -/

/-- The largest of four values. -/
def top (f : Fin 4 → EReal) : EReal := max (max (max (f 0) (f 1)) (f 2)) (f 3)

/-- The first place that holds the largest of four values. -/
def best (f : Fin 4 → EReal) : Fin 4 :=
  if f 0 = top f then 0 else if f 1 = top f then 1 else if f 2 = top f then 2 else 3

/-- The four numbers the kernel takes the least of: a place that holds the largest value counts as itself, another as
    four. The least of them is the first place of the largest value. -/
theorem best_min (f : Fin 4 → EReal) :
    (best f).val = min (min (min (if f 0 = top f then 0 else 4) (if f 1 = top f then 1 else 4))
      (if f 2 = top f then 2 else 4)) (if f 3 = top f then 3 else 4) := by
  have h3 : f 0 = top f ∨ f 1 = top f ∨ f 2 = top f ∨ f 3 = top f := by
    unfold top
    rcases max_choice (max (max (f 0) (f 1)) (f 2)) (f 3) with h | h <;> rw [h]
    · rcases max_choice (max (f 0) (f 1)) (f 2) with h' | h' <;> rw [h']
      · rcases max_choice (f 0) (f 1) with h'' | h'' <;> rw [h''] <;> simp
      · simp
    · simp
  unfold best
  by_cases h0 : f 0 = top f
  · simp [h0]
  · by_cases h1 : f 1 = top f
    · simp only [h0, h1, if_false, if_true]; split_ifs <;> rfl
    · by_cases h2 : f 2 = top f
      · simp only [h0, h1, h2, if_false, if_true]; split_ifs <;> rfl
      · have h4 : f 3 = top f := by tauto
        simp only [h0, h1, h2, h4, if_false, if_true]; rfl

/-! ## The selection -/

/-- The place of window `w`'s element `q` in the 16 by 16 plane, row by row. -/
def flat (q : Fin 4) (w : Fin 64) : Nat := (2 * (w.val / 8) + q.val / 2) * 16 + (2 * (w.val % 8) + q.val % 2)

/-- A place in the plane is below 256. -/
theorem flat_lt (q : Fin 4) (w : Fin 64) : flat q w < 256 := by unfold flat; omega

/-- What is added to a route's element: one at the largest element of each of the sixteen windows of largest value. -/
def bump (a : Fin 4 → Fin 64 → EReal) (q : Fin 4) (w : Fin 64) : EReal :=
  if rnk (fun v => top fun k => a k v) w < 16 ∧ best (fun k => a k w) = q then 1 else 0

/-- The route with its sixteen elements raised. -/
def raised (a r : Fin 4 → Fin 64 → EReal) (q : Fin 4) (w : Fin 64) : EReal := r q w + bump a q w

/-- The rank of window `w` among the raised route's windows. -/
def place (a r : Fin 4 → Fin 64 → EReal) (w : Fin 64) : Nat := rnk (fun v => top fun k => raised a r k v) w

/-- The place in the plane of window `w`'s largest raised element. -/
def spot (a r : Fin 4 → Fin 64 → EReal) (w : Fin 64) : Nat := flat (best fun k => raised a r k w) w

/-- The chosen place is below 256. -/
theorem spot_lt (a r : Fin 4 → Fin 64 → EReal) (w : Fin 64) : spot a r w < 256 := flat_lt _ _

/-- The plane `f` of 16 by 16 values cut into 64 windows of two by two: place `q` of window `w`. -/
def cell (f : Fin 16 → Fin 16 → EReal) (q : Fin 4) (w : Fin 64) : EReal :=
  f ⟨2 * (w.val / 8) + q.val / 2, by omega⟩ ⟨2 * (w.val % 8) + q.val % 2, by omega⟩

end Cert.Pick
-- ==== Proof.Words.lean ====
/-
The kernel's words read as ranks, first places and places in the plane: the counts, least numbers and quotients that
its body computes for one window, as the natural numbers they hold.
-/
module

public import proofs.«01_k».proof.Proof.Rank
public import Idealize.ShloMosaic.Lib.Pointwise

@[expose] public section

noncomputable section

namespace Cert.Pick

open Idealize.ShloMosaic

/-- The four places of a window. -/
theorem univ_four : (Finset.univ : Finset (Fin 4)) = {0, 1, 2, 3} := rfl

/-- The bits of minus infinity. -/
theorem neg_inf : Ideal.ofBits .f32 0xFF800000#32 = ⊥ := by simp [Ideal.ofBits, Ideal.ieee]

/-- The reduction by the maximum, of four values. -/
theorem fold_max (f : Fin 4 → EReal) :
    Finset.fold max (Ideal.ofBits .f32 0xFF800000#32) f Finset.univ = top f := by
  rw [univ_four, neg_inf]
  simp [Finset.fold_insert, top, max_assoc]

/-- A count by a sum of bits. -/
theorem fold_count (s : Finset (Fin 64)) (P : Fin 64 → Prop) [DecidablePred P] (b : Fin 64 → BitVec 1)
    (h : ∀ x, b x = BitVec.ofBool (decide (P x))) :
    Finset.fold IntOp.addi (0#32) (fun x => BitVec.setWidth 32 (b x)) s = BitVec.ofNat 32 (s.filter P).card := by
  induction s using Finset.induction_on with
  | empty => rfl
  | insert a s ha ih =>
    rw [Finset.fold_insert ha, ih, Finset.filter_insert, h a]
    by_cases hp : P a
    · rw [if_pos hp, Finset.card_insert_of_notMem (fun hm => ha (Finset.mem_filter.mp hm).1)]
      simp only [hp, decide_true, IntOp.addi]
      rw [Nat.add_comm, BitVec.ofNat_add]; rfl
    · rw [if_neg hp]
      simp only [hp, decide_false, IntOp.addi]
      rw [show BitVec.setWidth 32 (BitVec.ofBool false) = 0#32 from rfl, BitVec.zero_add]

/-- Signed comparison of small numbers. -/
theorem slt_ofNat (x y : Nat) (hx : x < 2 ^ 31) (hy : y < 2 ^ 31) :
    IntOp.cmpi .slt (BitVec.ofNat 32 x) (BitVec.ofNat 32 y) = BitVec.ofBool (decide (x < y)) := by
  simp only [IntOp.cmpi, BitVec.slt, BitVec.toInt_ofNat', Nat.reducePow] at *
  congr 2
  have h1 : ((x : Int)).bmod 4294967296 = x := Int.bmod_eq_of_le (by omega) (by omega)
  have h2 : ((y : Int)).bmod 4294967296 = y := Int.bmod_eq_of_le (by omega) (by omega)
  simp [h1, h2]

/-- Equality of small numbers. -/
theorem eq_ofNat (x y : Nat) (hx : x < 2 ^ 32) (hy : y < 2 ^ 32) :
    IntOp.cmpi .eq (BitVec.ofNat 32 x) (BitVec.ofNat 32 y) = BitVec.ofBool (decide (x = y)) := by
  simp only [IntOp.cmpi]
  congr 1
  rw [Bool.eq_iff_iff]
  simp only [beq_iff_eq, decide_eq_true_eq]
  constructor
  · intro h
    have := congrArg BitVec.toNat h
    simp only [BitVec.toNat_ofNat] at this
    omega
  · rintro rfl; rfl

/-- Both of two tests. -/
theorem and_bits (P Q : Prop) [Decidable P] [Decidable Q] :
    IntOp.andi (BitVec.ofBool (decide P)) (BitVec.ofBool (decide Q)) = BitVec.ofBool (decide (P ∧ Q)) := by
  by_cases hP : P <;> by_cases hQ : Q <;> simp [hP, hQ, IntOp.andi]

/-- Either of two tests. -/
theorem or_bits (P Q : Prop) [Decidable P] [Decidable Q] :
    IntOp.ori (BitVec.ofBool (decide P)) (BitVec.ofBool (decide Q)) = BitVec.ofBool (decide (P ∨ Q)) := by
  by_cases hP : P <;> by_cases hQ : Q <;> simp [hP, hQ, IntOp.ori]

/-- The rank, by the kernel's sum of comparison bits. -/
theorem fold_rnk (p : Fin 64 → EReal) (w : Fin 64) :
    Finset.fold IntOp.addi (0#32) (fun x : Fin 64 => BitVec.setWidth 32
      (IntOp.ori (BitVec.ofBool (decide (p w < p x)))
        (IntOp.andi (BitVec.ofBool (decide (p x = p w))) (IntOp.cmpi .slt (BitVec.ofNat 32 ↑x) (BitVec.ofNat 32 ↑w)))))
      Finset.univ = BitVec.ofNat 32 (rnk p w) := by
  refine fold_count Finset.univ (fun v => Ahead p v w) _ fun x => ?_
  rw [slt_ofNat _ _ (by omega) (by omega), and_bits, or_bits]
  congr 2

/-- The smaller of two small numbers. -/
theorem minsi_ofNat (x y : Nat) (hx : x < 2 ^ 31) (hy : y < 2 ^ 31) :
    IntOp.minsi (BitVec.ofNat 32 x) (BitVec.ofNat 32 y) = BitVec.ofNat 32 (min x y) := by
  have h := slt_ofNat x y hx hy
  unfold IntOp.minsi
  have h' : (BitVec.ofNat 32 x).slt (BitVec.ofNat 32 y) = decide (x < y) := by
    simp only [IntOp.cmpi] at h
    cases h1 : (BitVec.ofNat 32 x).slt (BitVec.ofNat 32 y) <;> cases h2 : decide (x < y) <;> simp_all
  rw [h']
  by_cases hxy : x < y
  · simp [hxy, min_eq_left hxy.le]
  · simp [hxy, min_eq_right (not_lt.mp hxy)]

/-- The first place of the largest value, by the kernel's least place that holds it. -/
theorem fold_best (f : Fin 4 → EReal) :
    Finset.fold IntOp.minsi (2147483647#32)
      (fun x : Fin 4 => if f x = top f then BitVec.ofNat 32 ↑x else 4#32) Finset.univ
      = BitVec.ofNat 32 (best f).val := by
  have hf : ∀ x : Fin 4, (if f x = top f then BitVec.ofNat 32 ↑x else 4#32)
      = BitVec.ofNat 32 (if f x = top f then ↑x else 4) := fun x => by split <;> rfl
  have hb : ∀ x : Fin 4, (if f x = top f then (x : Nat) else 4) < 2 ^ 31 := fun x => by split <;> omega
  rw [univ_four]
  simp only [hf]
  rw [Finset.fold_insert (by decide), Finset.fold_insert (by decide), Finset.fold_insert (by decide),
    Finset.fold_singleton, minsi_ofNat _ _ (hb 3) (by norm_num), minsi_ofNat _ _ (hb 2) (by have := hb 3; omega),
    minsi_ofNat _ _ (hb 1) (by have := hb 2; omega), minsi_ofNat _ _ (hb 0) (by have := hb 1; omega), best_min]
  congr 1
  have h3 := hb 3
  have e : min (if f 3 = top f then ((3 : Fin 4) : Nat) else 4) 2147483647 = if f 3 = top f then 3 else 4 :=
    min_eq_left (by have := h3; omega)
  rw [e, min_assoc, min_assoc]
  rfl

/-- A bit as an extended real. -/
theorem bit_real (P : Prop) [Decidable P] :
    (FloatOps.sitofp .f32 (BitVec.setWidth 32 (BitVec.ofBool (decide P))) : Ideal .f32) = if P then 1 else 0 := by
  by_cases h : P
  · simp only [h, decide_true, if_true]
    show ((((BitVec.setWidth 32 (BitVec.ofBool true)).toInt : Int) : ℝ) : EReal) = 1
    rw [show (BitVec.setWidth 32 (BitVec.ofBool true)).toInt = 1 from by decide]; simp
  · simp only [h, decide_false, if_false]
    show ((((BitVec.setWidth 32 (BitVec.ofBool false)).toInt : Int) : ℝ) : EReal) = 0
    rw [show (BitVec.setWidth 32 (BitVec.ofBool false)).toInt = 0 from by decide]; simp

/-- A natural number as an extended real. -/
theorem nat_real (n : Nat) (h : n < 2 ^ 31) :
    (FloatOps.sitofp .f32 (BitVec.ofNat 32 n) : Ideal .f32) = ((n : ℝ) : EReal) := by
  show ((((BitVec.ofNat 32 n).toInt : Int) : ℝ) : EReal) = _
  have e : (BitVec.ofNat 32 n).toInt = n := by
    rw [BitVec.toInt_ofNat']; exact Int.bmod_eq_of_le (by omega) (by omega)
  rw [e]; simp

/-- An extended real that is a natural number, as a word. -/
theorem real_nat (n : Nat) (h : n < 2 ^ 31) :
    FloatOps.fptosi (F := Ideal) (φ := .f32) 32 (((n : ℝ) : EReal) : Ideal .f32) = BitVec.ofNat 32 n := by
  show Ideal.fptosi 32 ((n : ℝ) : EReal) = _
  have e : Ideal.toIntClamped (-(2 ^ (32 - 1) : Nat)) ((2 ^ (32 - 1) : Nat) - 1) ((n : ℝ) : EReal) = n := by
    rw [Ideal.toIntClamped_coe, if_pos (Nat.cast_nonneg n), Int.floor_natCast]
    norm_num
    omega
  rw [Ideal.fptosi, e, BitVec.ofInt_natCast]

/-- A one-hot sum: the term of the one window whose word is the wanted one. -/
theorem one_hot (f : Fin 64 → Nat) (hf : ∀ w, f w < 2 ^ 31) (ρ : Fin 64 → Nat) (hρ : ∀ w, ρ w < 2 ^ 31)
    (hi : ∀ v w, ρ v = ρ w → v = w) (w : Fin 64) :
    FloatOps.fptosi (F := Ideal) (φ := .f32) 32
      (∑ x : Fin 64, (FloatOps.sitofp .f32 (BitVec.ofNat 32 (f x)) : Ideal .f32) *
        (FloatOps.sitofp .f32 (BitVec.setWidth 32 (IntOp.cmpi .eq (BitVec.ofNat 32 (ρ x)) (BitVec.ofNat 32 (ρ w)))) : Ideal .f32) : EReal)
      = BitVec.ofNat 32 (f w) := by
  rw [Finset.sum_eq_single w]
  · rw [eq_ofNat _ _ (by have := hρ w; omega) (by have := hρ w; omega), bit_real, if_pos rfl, nat_real _ (hf w), mul_one,
      real_nat _ (hf w)]
  · intro x _ hx
    rw [eq_ofNat _ _ (by have := hρ x; omega) (by have := hρ w; omega), bit_real, if_neg (fun h => hx (hi _ _ h)), mul_zero]
  · intro h; exact absurd (Finset.mem_univ w) h

end Cert.Pick
-- ==== Proof.KBlock.lean ====
/-
What the kernel's two bodies store, one element at a time. The first body picks, for one row of the routing array and
one requested place, the flat position of the window that stands at that place; the second reads the votes there.
-/
module

public import proofs.«01_k».proof.Proof.Gen.KernelIdeal.Frame
public import proofs.«01_k».proof.Proof.Words
public import Idealize.ShloMosaic.Lib.Pointwise

@[expose] public section

set_option maxRecDepth 16384
set_option maxHeartbeats 4000000

noncomputable section

namespace Cert.KernelIdeal.Sel

open Idealize.ShloMosaic Cert.KernelIdeal Cert.KernelIdeal.Gen Cert.Pick

/-- The routing values of one row with the mask added, as the body computes them. -/
theorem pay2 (v0 : Vec Ideal S32x4x64 .f32) (v35 : Vec Ideal S256x4x64 .f32) (g : Fin 8) (o : Fin 32) (q : Fin 4) (w : Fin 64) :
    k0_pay2 v0 v35 (ix4 g o q w) = raised (fun q w => v0 (ix3 o q w)) (fun q w => v35 (ix3 ⟨g.val * 32 + o.val, by omega⟩ q w)) q w := by
  pointwise [k0_pay2]
  simp only [fold_max]
  have h1 := fold_rnk (fun x => top fun k => v0 (ix3 o k x)) w
  have h2 := fold_best (fun k => v0 (ix3 o k w))
  rw [h1, h2, show (16#32) = BitVec.ofNat 32 16 from rfl, slt_ofNat _ _ (by have := rnk_lt (fun x => top fun k => v0 (ix3 o k x)) w; omega) (by norm_num),
    eq_ofNat _ _ (by omega) (by omega), and_bits, bit_real]
  unfold raised bump
  congr 1
  simp only [Fin.val_inj]

/-- The largest raised value of a window. -/
theorem pay3 (v0 : Vec Ideal S32x4x64 .f32) (v35 : Vec Ideal S256x4x64 .f32) (g : Fin 8) (o : Fin 32) (w : Fin 64) :
    k0_pay3 v0 v35 (ix3 g o w) = top fun q => raised (fun q w => v0 (ix3 o q w)) (fun q w => v35 (ix3 ⟨g.val * 32 + o.val, by omega⟩ q w)) q w := by
  pointwise [k0_pay3]
  simp only [fold_max, pay2]

/-- The place in the window of the first largest raised value. -/
theorem pay5 (v0 : Vec Ideal S32x4x64 .f32) (v35 : Vec Ideal S256x4x64 .f32) (g : Fin 8) (o : Fin 32) (w : Fin 64) :
    k0_pay5 (iota .tc S8x32x4x64 32 [2] iota_S8x32x4x64_d2_w32) (k0_pay4 v0 v35) 4#32 (ix3 g o w)
      = BitVec.ofNat 32 (best fun q => raised (fun q w => v0 (ix3 o q w)) (fun q w => v35 (ix3 ⟨g.val * 32 + o.val, by omega⟩ q w)) q w).val := by
  pointwise [k0_pay5, k0_pay4]
  simp only [pay2, pay3]
  exact fold_best _

/-- The row of that place in its window of two by two. -/
theorem pay6 (v42 v45) (g : Fin 8) (o : Fin 32) (w : Fin 64) (q : Fin 4) (h : k0_pay5 v42 v45 4#32 (ix3 g o w) = BitVec.ofNat 32 q.val) :
    k0_pay6 v42 v45 4#32 (ix3 g o w) = BitVec.ofNat 32 (q.val / 2) := by
  pointwise [k0_pay6]
  rw [h]
  clear h
  revert q
  decide +kernel

/-- The column of that place in its window of two by two. -/
theorem pay7 (v42 v45) (g : Fin 8) (o : Fin 32) (w : Fin 64) (q : Fin 4) (h : k0_pay5 v42 v45 4#32 (ix3 g o w) = BitVec.ofNat 32 q.val) :
    k0_pay7 v42 v45 4#32 (ix3 g o w) = BitVec.ofNat 32 (q.val % 2) := by
  pointwise [k0_pay7]
  rw [h]
  clear h
  revert q
  decide +kernel

/-- The start, in the flat plane, of the row that holds the place. -/
theorem pay9 (v73) (g : Fin 8) (o : Fin 32) (w : Fin 64) (q : Fin 4) (h : v73 (ix3 g o w) = BitVec.ofNat 32 (q.val / 2)) :
    k0_pay9 (iota .tc S8x32x64 32 [2] iota_S8x32x64_d2_w32) v73 8#32 k0_pay8 (ix3 g o w) = BitVec.ofNat 32 ((2 * (w.val / 8) + q.val / 2) * 16) := by
  pointwise [k0_pay9, k0_pay8]
  rw [h]
  clear h
  revert w q
  decide +kernel

/-- The column of the window among the eight of its row. -/
theorem pay10 (g : Fin 8) (o : Fin 32) (w : Fin 64) :
    k0_pay10 (iota .tc S8x32x64 32 [2] iota_S8x32x64_d2_w32) (ix3 g o w) = BitVec.ofNat 32 (w.val % 8) := by
  pointwise [k0_pay10]
  revert w
  decide +kernel

/-- The requested place selects one window: where the windows' ranks are distinct, the sum over the windows that have
the requested rank is the position of the one window that has it. -/
theorem pay1 (v41 : FVec Ideal S8x32x64 .f32) (v89 v118 v134 : IVec S8x32x64 32) (v156 : Vec Ideal S32x64 .i32) (n : Fin 256) (j : Fin 32)
    (p : Fin 64 → EReal) (f : Fin 64 → Nat) (hf : ∀ w, f w < 2 ^ 31) (w : Fin 64)
    (hp : ∀ x, v41 (ix3 ⟨n.val / 32, by omega⟩ ⟨n.val % 32, by omega⟩ x) = p x)
    (hx : ∀ x, IntOp.addi (v118 (ix3 ⟨n.val / 32, by omega⟩ ⟨n.val % 32, by omega⟩ x))
      (IntOp.addi (IntOp.muli (2#32) (v134 (ix3 ⟨n.val / 32, by omega⟩ ⟨n.val % 32, by omega⟩ x)))
                (v89 (ix3 ⟨n.val / 32, by omega⟩ ⟨n.val % 32, by omega⟩ x))) = BitVec.ofNat 32 (f x))
    (hv : ∀ x, v156 (ix2 j x) = BitVec.ofNat 32 (rnk p w)) :
    k0_pay1 (F := Ideal) v41 v89 v118 v134 k0_pay11 v156 (ix2 n j) = BitVec.ofNat 32 (f w) := by
  pointwise [k0_pay1, k0_pay11]
  simp only [hp, hx, hv]
  simp only [fold_rnk]
  exact one_hot f hf (rnk p) (fun w => by have := rnk_lt p w; omega) (fun _ _ => rnk_inj p) w

/-- The first body stores, where place `w`'s rank is requested, the flat position of window `w`'s first largest raised value. -/
theorem out (x0 : Vec Ideal S32x4x64 .f32) (x1 : Vec Ideal S256x4x64 .f32) (x2 : Vec Ideal S32x64 .i32) (n : Fin 256) (j : Fin 32) (w : Fin 64)
    (hv : ∀ x, x2 (ix2 j x) = BitVec.ofNat 32 (place (fun q w => x0 (ix3 ⟨n.val % 32, by omega⟩ q w)) (fun q w => x1 (ix3 n q w)) w)) :
    out0_3 x0 x1 x2 (ix2 n j) = BitVec.ofNat 32 (spot (fun q w => x0 (ix3 ⟨n.val % 32, by omega⟩ q w)) (fun q w => x1 (ix3 n q w)) w) := by
  unfold_out out0_3
  rw [View.canon_unit_zero (by decide)]
  have hn : (⟨n.val / 32 * 32 + n.val % 32, by omega⟩ : Fin 256) = n := Fin.ext (by simp only; omega)
  have hl0 : View.ld x0 r0_0 = x0 := by funext i; idx_vars i; pointwise
  have hl1 : View.ld x1 r0_1 = x1 := by funext i; idx_vars i; pointwise
  have hl2 : View.ld x2 r0_2 = x2 := by funext i; idx_vars i; pointwise
  rw [hl0, hl1, hl2]
  have h5 : ∀ w, _ := fun w => pay5 x0 x1 ⟨n.val / 32, by omega⟩ ⟨n.val % 32, by omega⟩ w
  refine pay1 _ _ _ _ _ n j _ (fun w => spot (fun q w => x0 (ix3 ⟨n.val % 32, by omega⟩ q w)) (fun q w => x1 (ix3 n q w)) w)
    (fun w => by have := spot_lt (fun q w => x0 (ix3 ⟨n.val % 32, by omega⟩ q w)) (fun q w => x1 (ix3 n q w)) w; omega) w (fun x => pay3 ..) (fun x => ?_) ?_
  · rw [pay9 _ _ _ _ _ (pay6 _ _ _ _ _ _ (h5 x)), pay7 _ _ _ _ _ _ (h5 x), pay10]
    simp only [hn, IntOp.addi, IntOp.muli, spot, flat]
    rw [show (2#32) = BitVec.ofNat 32 2 from rfl, ← BitVec.ofNat_mul, ← BitVec.ofNat_add, ← BitVec.ofNat_add]
  · intro x
    rw [hv x]
    simp only [hn, place]

/-- The second body stores the vote at the position it is given. -/
theorem gather (x0 : Vec Ideal S256x16x256 .f32) (x1 : Vec Ideal S256x32 .i32) (n : Fin 256) (h : Fin 16) (j : Fin 24) (c : Fin 256)
    (hc : x1 (ix2 n ⟨j.val, by omega⟩) = BitVec.ofNat 32 c.val) :
    out1_2 x0 x1 (ix3 n h j) = x0 (ix3 n h c) := by
  unfold out1_2
  rw [View.canon_unit_zero (by decide)]
  have hl0 : View.ld x0 r1_1 = x0 := by funext i; idx_vars i; pointwise
  have hl1 : View.ld x1 r1_0 = x1 := by funext i; idx_vars i; pointwise
  rw [hl0, hl1]
  pointwise [k1_pay1]
  simp only [hc]
  rw [Finset.sum_eq_single c]
  · rw [eq_ofNat _ _ (by omega) (by omega), bit_real, if_pos rfl, mul_one]
  · intro x _ hx
    rw [eq_ofNat _ _ (by omega) (by omega), bit_real, if_neg (fun h => hx (Fin.ext h.symm)), mul_zero]
  · intro h; exact absurd (Finset.mem_univ c) h

end Cert.KernelIdeal.Sel
-- ==== Proof.KArr.lean ====
/-
The kernel's two result arrays after their grids, one element at a time: each block that a grid point writes back sits
at its place in the array, and the blocks tile it.
-/
module

public import proofs.«01_k».proof.Proof.KBlock
public import Idealize.ShloMosaic.Lib.Pipeline.ValueKit

@[expose] public section

set_option maxRecDepth 16384
set_option maxHeartbeats 4000000

noncomputable section

namespace Cert.KernelIdeal.Sel

open Idealize.ShloMosaic Idealize.ShloMosaic.TcCoe Cert.KernelIdeal Cert.KernelIdeal.Gen Cert.Pick
open Idealize.ShloMosaic.Pipeline (Dat)

/-- Where the blocks of the first grid sit. -/
theorem idx0 : ∀ t : Fin cfg0.N, win0_0.index t = ![t.val / 4, 0, 0] ∧ win0_1.index t = ![t.val, 0, 0] ∧ win0_2.index t = ![0, 0]
    ∧ win0_3.index t = ![t.val, 0] := (by decide +kernel : ∀ t : Fin grid0.N, _)

/-- Where the blocks of the second grid sit. -/
theorem idx1 : ∀ t : Fin cfg1.N, win1_0.index t = ![t.val, 0, 0] ∧ win1_1.index t = ![t.val, 0] ∧ win1_2.index t = ![t.val, 0, 0] :=
  (by decide +kernel : ∀ t : Fin grid1.N, _)

variable (V : (c : Dev nD) → (b : Ref sig .tc) → Buf (Elt Ideal) ((c : Thread nD τ).loc b))

/-- The activations of row `n` of the routing array: batch `n / 1024`, output `n % 32`. -/
def act (A : Vec Ideal S256x4x64 .f32) (n : Fin 8192) (q : Fin 4) (w : Fin 64) : EReal :=
  A (ix3 ⟨n.val / 1024 * 32 + n.val % 32, by omega⟩ q w)
/-- The routing values of row `n`. -/
def rte (R : Vec Ideal S8192x4x64 .f32) (n : Fin 8192) (q : Fin 4) (w : Fin 64) : EReal := R (ix3 n q w)

/-- The activations' block at a grid point. -/
theorem blk00 (c : Dev nD) (t : Fin cfg0.N) (o : Fin 32) (q : Fin 4) (w : Fin 64) (k : Fin 256) (hk : k.val = t.val / 4 * 32 + o.val) :
    (iblk0 V c 0 t : Vec Ideal S32x4x64 .f32) (ix3 o q w) = (V c main_v4 : Vec Ideal S256x4x64 .f32) (ix3 k q w) := by
  blk_ext [iblk0, idx0 t]

/-- The routing values' block at a grid point. -/
theorem blk01 (c : Dev nD) (t : Fin cfg0.N) (o : Fin 256) (q : Fin 4) (w : Fin 64) (k : Fin 8192) (hk : k.val = t.val * 256 + o.val) :
    (iblk0 V c 1 t : Vec Ideal S256x4x64 .f32) (ix3 o q w) = (V c main_v7 : Vec Ideal S8192x4x64 .f32) (ix3 k q w) := by
  blk_ext [iblk0, idx0 t]

/-- The requested places are one block. -/
theorem blk02 (c : Dev nD) (t : Fin cfg0.N) (o : Fin 32) (w : Fin 64) :
    (iblk0 V c 2 t : Vec Ideal S32x64 .i32) (ix2 o w) = (V c main_v19 : Vec Ideal S32x64 .i32) (ix2 o w) := by
  blk_ext [iblk0, idx0 t]

/-- The votes' block at a grid point. -/
theorem blk10 (c : Dev nD) (t : Fin cfg1.N) (n : Fin 256) (h : Fin 16) (p : Fin 256) (k : Fin 8192) (hk : k.val = t.val * 256 + n.val) :
    (iblk1 V c 0 t : Vec Ideal S256x16x256 .f32) (ix3 n h p) = (V c main_v21 : Vec Ideal S8192x16x256 .f32) (ix3 k h p) := by
  blk_ext [iblk1, idx1 t]

/-- The positions' block at a grid point. -/
theorem blk11 (c : Dev nD) (t : Fin cfg1.N) (n : Fin 256) (j : Fin 32) (k : Fin 8192) (hk : k.val = t.val * 256 + n.val) :
    (iblk1 V c 1 t : Vec Ideal S256x32 .i32) (ix2 n j) = (V c main_v20 : Vec Ideal S8192x32 .i32) (ix2 k j) := by
  blk_ext [iblk1, idx1 t]

/-- What the first grid leaves in its result. -/
theorem arr0 (c : Dev nD) (n : Fin 8192) (j : Fin 32) (w : Fin 64)
    (hv : ∀ x : Fin 64, (V c main_v19 : Vec Ideal S32x64 .i32) (ix2 j x) = BitVec.ofNat 32 (place (act (V c main_v4) n) (rte (V c main_v7) n) w)) :
    ((dat0 V c).arrAt 3 cfg0.N : Vec Ideal S8192x32 .i32) (ix2 n j) = BitVec.ofNat 32 (spot (act (V c main_v4) n) (rte (V c main_v7) n) w) := by
  have key := (dat0 V c).arrAt_forall_of_covers 3 (fun i v => ∀ w : Fin 64,
      (∀ x : Fin 64, (V c main_v19 : Vec Ideal S32x64 .i32) (ix2 (i 1) x) = BitVec.ofNat 32 (place (act (V c main_v4) (i 0)) (rte (V c main_v7) (i 0)) w)) →
      v = BitVec.ofNat 32 (spot (act (V c main_v4) (i 0)) (rte (V c main_v7) (i 0)) w))
    (by decide +kernel) (fun t hf y => ?_) (ix2 n j)
  · exact key w hv
  · obtain ⟨y0, y1, rfl⟩ : ∃ (y0 : Fin 256) (y1 : Fin 32), y = ix2 y0 y1 := ⟨y 0, y 1, by funext a; fin_cases a <;> rfl⟩
    have ht : t.val < 32 := t.isLt
    obtain ⟨k, hk⟩ : ∃ k : Fin 8192, k.val = t.val * 256 + y0.val := ⟨⟨t.val * 256 + y0.val, by omega⟩, rfl⟩
    have he : ((cfg0.win 3).blk t).view.emb (ix2 y0 y1) = ix2 k y1 := by blk_ext [idx0 t]
    rw [he]
    blk_simp
    intro w hw
    rw [after0_3]
    have ha : (fun q w => (iblk0 V c 0 t : Vec Ideal S32x4x64 .f32) (ix3 ⟨y0.val % 32, by omega⟩ q w)) = act (V c main_v4) k := by
      funext q w; exact blk00 V c t _ q w _ (by simp only; omega)
    have hr : (fun q w => (iblk0 V c 1 t : Vec Ideal S256x4x64 .f32) (ix3 y0 q w)) = rte (V c main_v7) k := by
      funext q w; exact blk01 V c t _ q w _ hk
    have := out (iblk0 V c 0 t) (iblk0 V c 1 t) (iblk0 V c 2 t) y0 y1 w (fun x => by rw [ha, hr]; exact (blk02 V c t y1 x).trans (hw x))
    rw [ha, hr] at this
    exact this

/-- What the second grid leaves in its result. -/
theorem arr1 (c : Dev nD) (n : Fin 8192) (h : Fin 16) (j : Fin 24) (p : Fin 256)
    (hp : (V c main_v20 : Vec Ideal S8192x32 .i32) (ix2 n ⟨j.val, by omega⟩) = BitVec.ofNat 32 p.val) :
    ((dat1 V c).arrAt 2 cfg1.N : Vec Ideal S8192x16x24 .f32) (ix3 n h j) = (V c main_v21 : Vec Ideal S8192x16x256 .f32) (ix3 n h p) := by
  have key := (dat1 V c).arrAt_forall_of_covers 2 (fun i v => ∀ (j : Fin 32) (p : Fin 256), (i 2).val = j.val →
      (V c main_v20 : Vec Ideal S8192x32 .i32) (ix2 (i 0) j) = BitVec.ofNat 32 p.val →
      v = (V c main_v21 : Vec Ideal S8192x16x256 .f32) (ix3 (i 0) (i 1) p))
    (by decide +kernel) (fun t hf y => ?_) (ix3 n h j)
  · exact key ⟨j.val, by omega⟩ p rfl hp
  · obtain ⟨y0, y1, y2, rfl⟩ : ∃ (y0 : Fin 256) (y1 : Fin 16) (y2 : Fin 24), y = ix3 y0 y1 y2 :=
      ⟨y 0, y 1, y 2, by funext a; fin_cases a <;> rfl⟩
    have ht : t.val < 32 := t.isLt
    obtain ⟨k, hk⟩ : ∃ k : Fin 8192, k.val = t.val * 256 + y0.val := ⟨⟨t.val * 256 + y0.val, by omega⟩, rfl⟩
    have he : ((cfg1.win 2).blk t).view.emb (ix3 y0 y1 y2) = ix3 k y1 y2 := by blk_ext [idx1 t]
    rw [he]
    blk_simp
    intro j p hj hp
    rw [after1_2]
    have hj2 : j = (⟨y2.val, by omega⟩ : Fin 32) := Fin.ext hj.symm
    rw [hj2] at hp
    exact (gather (iblk1 V c 0 t) (iblk1 V c 1 t) y0 y1 y2 p ((blk11 V c t y0 _ k hk).trans hp)).trans (blk10 V c t y0 y1 p k hk)

end Cert.KernelIdeal.Sel
-- ==== Proof.KHost.lean ====
/-
What the kernel's host operations hand to its two grids, one element at a time, in terms of the arguments.
-/
module

public import proofs.«01_k».proof.Proof.KArr
public import Idealize.ShloMosaic.Lib.StableHlo.ReadAt

@[expose] public section

set_option maxRecDepth 16384
set_option maxHeartbeats 4000000

noncomputable section

namespace Cert.KernelIdeal.Sel

open Idealize.ShloMosaic Idealize.ShloMosaic.TcCoe Cert.KernelIdeal Cert.KernelIdeal.Gen Cert.Pick

variable (V : Valuation τ sig (Elt Ideal))

/-- The activations as windows. -/
theorem host_act (X : Vec Ideal S8x32x16x16x16 .f32) (hX : V (Proc.devRef .tc main_arg0) = X) (b : Fin 8) (o : Fin 32) (k : Fin 256) (hk : k.val = b.val * 32 + o.val) (q : Fin 4) (w : Fin 64) :
    (StableHlo.after hostOps0 V (Proc.devRef .tc main_v4) : Vec Ideal S256x4x64 .f32) (ix3 k q w)
      = cell (fun y x => X (ix5 b o y x 15)) q w := by
  unfold hostOps0
  after_reads_at
  exact (congrFun hX _).trans (by unfold cell; blk_ext)

/-- The routing values as windows. -/
theorem host_rte (R : Vec Ideal S8x32x32x16x16 .f32) (hR : V (Proc.devRef .tc main_arg1) = R) (b : Fin 8) (i o : Fin 32) (n : Fin 8192) (hn : n.val = (b.val * 32 + i.val) * 32 + o.val) (q : Fin 4) (w : Fin 64) :
    (StableHlo.after hostOps0 V (Proc.devRef .tc main_v7) : Vec Ideal S8192x4x64 .f32) (ix3 n q w)
      = cell (fun y x => R (ix5 b i o y x)) q w := by
  unfold hostOps0
  after_reads_at
  exact (congrFun hR _).trans (by unfold cell; blk_ext)

/-- The requested places, padded. -/
theorem host_pad (P : Vec Ideal S24 .i32) (hP : V (Proc.devRef .tc main_v16) = P) (j : Fin 24) :
    (StableHlo.after hostOps0_3 V (Proc.devRef .tc main_v17) : Vec Ideal S32 .i32) (ix1 ⟨j.val, by omega⟩) = P (ix1 j) := by
  unfold hostOps0_3
  after_reads_at
  exact (congrFun hP _).trans (by blk_ext)

/-- The requested places, one row each. -/
theorem host_rows (P : Vec Ideal S32 .i32) (hP : V (Proc.devRef .tc main_v17) = P) (j : Fin 32) (x : Fin 64) :
    (StableHlo.after hostOps0_4 V (Proc.devRef .tc main_v19) : Vec Ideal S32x64 .i32) (ix2 j x) = P (ix1 j) := by
  unfold hostOps0_4
  after_reads_at
  exact (congrFun hP _).trans (by blk_ext)

/-- The votes, flat in their planes. -/
theorem host_votes (T : Vec Ideal S8x32x32x16x16x16 .f32) (hT : V (Proc.devRef .tc main_arg2) = T) (b : Fin 8) (i o : Fin 32) (h : Fin 16) (n : Fin 8192)
    (hn : n.val = (b.val * 32 + i.val) * 32 + o.val) (y x : Fin 16) (p : Fin 256) (hp : p.val = y.val * 16 + x.val) :
    (StableHlo.after hostOps1 V (Proc.devRef .tc main_v21) : Vec Ideal S8192x16x256 .f32) (ix3 n h p) = T (ix6 b i o h y x) := by
  unfold hostOps1
  after_reads_at
  exact (congrFun hT _).trans (by blk_ext)

/-- The result in its last shape. -/
theorem host_result (T : Vec Ideal S8192x16x24 .f32) (hT : V (Proc.devRef .tc main_v22) = T) (b : Fin 8) (i o : Fin 32) (h : Fin 16) (j : Fin 24) (z : Fin 1) :
    (StableHlo.after hostOps2 V (Proc.devRef .tc main_v23) : Vec Ideal S8x32x32x16x24x1 .f32) (ix6 b i o h j z)
      = T (ix3 ⟨(b.val * 32 + i.val) * 32 + o.val, by omega⟩ h j) := by
  unfold hostOps2
  after_reads_at
  exact (congrFun hT _).trans (by blk_ext)

end Cert.KernelIdeal.Sel
-- ==== Proof.KRun.lean ====
/-
The kernel's run and its result: from any memory the run ends with the result array at what the two grids and the host
operations around them compute, the arguments unchanged; and each element of that array is one element of the votes.
-/
module

public import proofs.«01_k».proof.Proof.KHost

@[expose] public section

set_option maxRecDepth 16384
set_option maxHeartbeats 4000000

noncomputable section

namespace Cert.KernelIdeal.Sel

open Idealize.ShloMosaic Idealize.ShloMosaic.TcCoe Idealize.SL.Sem Cert.KernelIdeal Cert.KernelIdeal.Gen Cert.Pick
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Where the kernel draws place `k` for result `j`, and window `w` stands at place `k` of the raised routing values, the
result is the vote at the window's first largest raised value. -/
theorem value (c : Dev nD) (X : Vec Ideal S8x32x16x16x16 .f32) (R : Vec Ideal S8x32x32x16x16 .f32) (T : Vec Ideal S8x32x32x16x16x16 .f32)
    (hX : m ((c : Thread nD τ).loc main_arg0) = X) (hR : m ((c : Thread nD τ).loc main_arg1) = R) (hT : m ((c : Thread nD τ).loc main_arg2) = T)
    (b : Fin 8) (i o : Fin 32) (h : Fin 16) (j : Fin 24) (z : Fin 1) (w : Fin 64)
    (hk : (W2 m ρ c (Proc.devRef .tc main_v16) : Vec Ideal S24 .i32) (ix1 j)
      = BitVec.ofNat 32 (place (cell fun y x => X (ix5 b o y x 15)) (cell fun y x => R (ix5 b i o y x)) w)) (p : Fin 256)
    (hp : p.val = spot (cell fun y x => X (ix5 b o y x 15)) (cell fun y x => R (ix5 b i o y x)) w) :
    (W9 m ρ c (Proc.devRef .tc main_v23) : Vec Ideal S8x32x32x16x24x1 .f32) (ix6 b i o h j z)
      = T (ix6 b i o h ⟨p.val / 16, by omega⟩ ⟨p.val % 16, by omega⟩) := by
  obtain ⟨n, hn⟩ : ∃ n : Fin 8192, n.val = (b.val * 32 + i.val) * 32 + o.val := ⟨⟨_, by omega⟩, rfl⟩
  have ha : act (V5 m ρ c main_v4) n = cell fun y x => X (ix5 b o y x 15) := by
    funext q w
    unfold act
    rw [show V5 m ρ c main_v4 = W1 m ρ c (Proc.devRef .tc main_v4) from
      (W5_of m ρ c main_v4 (by decide)).trans ((W4_of m ρ c main_v4 (by decide)).trans ((W3_of m ρ c main_v4 (by decide)).trans
        (W2_of m ρ c main_v4 (by decide))))]
    exact host_act _ X hX b o _ (by simp only; omega) q w
  have hr : rte (V5 m ρ c main_v7) n = cell fun y x => R (ix5 b i o y x) := by
    funext q w
    unfold rte
    rw [show V5 m ρ c main_v7 = W1 m ρ c (Proc.devRef .tc main_v7) from
      (W5_of m ρ c main_v7 (by decide)).trans ((W4_of m ρ c main_v7 (by decide)).trans ((W3_of m ρ c main_v7 (by decide)).trans
        (W2_of m ρ c main_v7 (by decide))))]
    exact host_rte _ R hR b i o _ hn q w
  have hv (x : Fin 64) : (V5 m ρ c main_v19 : Vec Ideal S32x64 .i32) (ix2 ⟨j.val, by omega⟩ x)
      = BitVec.ofNat 32 (place (act (V5 m ρ c main_v4) n) (rte (V5 m ρ c main_v7) n) w) := by
    rw [ha, hr, ← hk]
    refine (host_rows (W4 m ρ c) _ rfl ⟨j.val, by omega⟩ x).trans ?_
    exact host_pad (W3 m ρ c) _ (W3_of m ρ c main_v16 (by decide)) j
  have h0 := arr0 (V5 m ρ) c n ⟨j.val, by omega⟩ w hv
  rw [ha, hr, ← hp] at h0
  have h20 : V7 m ρ c main_v20 = (dat0 (V5 m ρ) c).arrAt 3 cfg0.N :=
    (W7_of m ρ c main_v20 (by decide)).trans (W6_arr m ρ c 3)
  have h1 := arr1 (V7 m ρ) c n h j p (by rw [h20]; exact h0)
  refine (host_result (W8 m ρ c) _ rfl b i o h j z).trans ?_
  have e : (⟨(b.val * 32 + i.val) * 32 + o.val, by omega⟩ : Fin 8192) = n := Fin.ext hn.symm
  rw [e]
  refine (congrFun (W8_arr m ρ c 2) _).trans (h1.trans ?_)
  exact host_votes (W6 m ρ c) T ((W6_args m ρ c main_arg2 (by decide)).trans hT) b i o h n hn _ _ p (by simp only; omega)

-- The launch theorem's implicit arguments are found by unification under plain definitions in a type.
set_option backward.isDefEq.respectTransparency.types false in
/-- The kernel's run: its result array and its arguments at the end. -/
theorem run : θ_run defs (onTc (τ := τ) (main (F := Ideal))) ⟨m, fun _ => 0, ρ⟩ (fun r => ∀ c : Dev nD,
      r.2.mem ((c.tc : Thread nD τ).loc main_v23) = W9 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c => ⟨h c _ (mem_uc main_v23 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.KernelIdeal.Sel
-- ==== Proof.RefPick.lean ====
/-
The reference's two orderings at the extended reals: its arg-max over the four elements of a window keeps the largest
value and the first place that holds it (`argmax_fold`), and its stable sort of 64 negated values puts at place `k` the
window of rank `k` (`sort_cell`, `sort_cell4`).
-/
module

public import proofs.«01_k».proof.Proof.Gen.ReferenceIdeal
public import proofs.«01_k».proof.Proof.Words
public import proofs.«01_k».proof.Proof.Rank
public import Idealize.ShloMosaic.Lib.StableHlo.ReadAt

@[expose] public section

set_option maxRecDepth 8000
set_option maxHeartbeats 2000000

noncomputable section

namespace Cert.ReferenceIdeal.Pick

open Idealize.ShloMosaic Cert.ReferenceIdeal Cert.Pick

/-- A value with its place, as the arg-max orders them: by value, and of equal values the earlier place is greater. -/
def key (a : EReal × BitVec 32) : EReal ×ₗ ℤᵒᵈ := toLex (a.1, OrderDual.toDual a.2.toInt)

/-- The key tells two pairs apart. -/
theorem key_inj {a b : EReal × BitVec 32} (h : key a = key b) : a = b := by
  have h' := congrArg ofLex h
  simp only [key, ofLex_toLex, Prod.mk.injEq, EmbeddingLike.apply_eq_iff_eq] at h'
  exact Prod.ext h'.1 (BitVec.eq_of_toInt_eq h'.2)

/-- The arg-max body as a choice. -/
theorem reducer_eq (a b : EReal × BitVec 32) : (reducer_argmax_f32_i32 (F := Ideal) a b : EReal × BitVec 32)
    = (if b.1 < a.1 then a.1 else b.1, if b.1 < a.1 ∨ (a.1 = b.1 ∧ a.2.toInt < b.2.toInt) then a.2 else b.2) := by
  obtain ⟨a1, a2⟩ := a
  obtain ⟨b1, b2⟩ := b
  by_cases h : b1 < a1
  · have e1 : ∀ b : Bool, 1#1 ||| BitVec.ofBool b = 1#1 := by decide
    simp [reducer_argmax_f32_i32, Ideal.cmpf_def, Ideal.cmp, Scalar.select, IntOp.ori, IntOp.andi, IntOp.cmpi, h, BitVec.slt, e1]
  · by_cases h2 : a1 = b1
    · by_cases h3 : a2.toInt < b2.toInt
      · simp [reducer_argmax_f32_i32, Ideal.cmpf_def, Ideal.cmp, Scalar.select, IntOp.ori, IntOp.andi, IntOp.cmpi, h2, h3, BitVec.slt]
      · simp [reducer_argmax_f32_i32, Ideal.cmpf_def, Ideal.cmp, Scalar.select, IntOp.ori, IntOp.andi, IntOp.cmpi, h2, h3, BitVec.slt]
    · simp [reducer_argmax_f32_i32, Ideal.cmpf_def, Ideal.cmp, Scalar.select, IntOp.ori, IntOp.andi, IntOp.cmpi, h, h2, BitVec.slt]

/-- The arg-max body takes the greater of its two arguments in that order. -/
theorem key_reducer (a b : EReal × BitVec 32) :
    key (reducer_argmax_f32_i32 (F := Ideal) a b) = max (key a) (key b) := by
  rw [reducer_eq]
  obtain ⟨a1, a2⟩ := a
  obtain ⟨b1, b2⟩ := b
  rcases lt_trichotomy b1 a1 with h | h | h
  · rw [max_eq_left]
    · simp [h]
    · exact (Prod.Lex.toLex_le_toLex).mpr (Or.inl h)
  · subst h
    by_cases h3 : a2.toInt < b2.toInt
    · rw [max_eq_left]
      · simp [h3]
      · exact (Prod.Lex.toLex_le_toLex).mpr (Or.inr ⟨rfl, OrderDual.toDual_le_toDual.mpr h3.le⟩)
    · rw [max_eq_right]
      · simp [h3]
      · exact (Prod.Lex.toLex_le_toLex).mpr (Or.inr ⟨rfl, OrderDual.toDual_le_toDual.mpr (not_lt.mp h3)⟩)
  · rw [max_eq_right]
    · simp [h.not_gt, h.ne]
    · exact (Prod.Lex.toLex_le_toLex).mpr (Or.inl h)

/-- The larger of two pairs does not depend on their order. -/
instance : Std.Commutative (reducer_argmax_f32_i32 (F := Ideal)) :=
  ⟨fun a b => key_inj (by rw [key_reducer, key_reducer, max_comm])⟩

/-- The largest of three pairs does not depend on the grouping. -/
instance : Std.Associative (reducer_argmax_f32_i32 (F := Ideal)) :=
  ⟨fun a b c => key_inj (by simp only [key_reducer, max_assoc])⟩

/-- Every value is at most the largest. -/
theorem top_ge (f : Fin 4 → EReal) (k : Fin 4) : f k ≤ top f := by
  unfold top
  fin_cases k <;> simp

/-- The first largest place holds the largest value. -/
theorem top_best (f : Fin 4 → EReal) : f (best f) = top f := by
  have h3 : f 0 = top f ∨ f 1 = top f ∨ f 2 = top f ∨ f 3 = top f := by
    unfold top
    rcases max_choice (max (max (f 0) (f 1)) (f 2)) (f 3) with h | h <;> rw [h]
    · rcases max_choice (max (f 0) (f 1)) (f 2) with h' | h' <;> rw [h']
      · rcases max_choice (f 0) (f 1) with h'' | h'' <;> rw [h''] <;> simp
      · simp
    · simp
  unfold best
  split_ifs with h0 h1 h2
  · exact h0
  · exact h1
  · exact h2
  · tauto

/-- The first largest place comes no later than another that holds the largest value. -/
theorem best_le (f : Fin 4 → EReal) (k : Fin 4) (h : f k = top f) : (best f).val ≤ k.val := by
  unfold best
  fin_cases k
  · simp_all
  · simp only [Fin.mk_one] at h; split_ifs <;> simp_all
  · simp only [Fin.reduceFinMk] at h; split_ifs <;> simp_all
  · split_ifs <;> simp

/-- A place of a window written as a word reads back as itself. -/
theorem small_int (k : Fin 4) : (BitVec.ofNat 32 k.val).toInt = k.val := by fin_cases k <;> rfl

/-- The arg-max of four values with their places: the largest value and the first place that holds it. -/
theorem argmax_fold (f : Fin 4 → EReal) :
    Finset.fold (reducer_argmax_f32_i32 (F := Ideal)) (Ideal.ofBits .f32 0xFF800000#32, 0#32)
      (fun k : Fin 4 => ((f k, BitVec.ofNat 32 k.val) : EReal × BitVec 32)) Finset.univ = (top f, BitVec.ofNat 32 (best f).val) := by
  apply key_inj
  rw [← Finset.fold_hom (op := reducer_argmax_f32_i32 (F := Ideal)) (op' := max) (m := key) (fun x y => key_reducer x y), neg_inf]
  apply le_antisymm
  · refine (Finset.fold_max_le _).mpr ⟨?_, fun k _ => ?_⟩
    · refine (Prod.Lex.toLex_le_toLex).mpr ?_
      rcases (bot_le : ⊥ ≤ top f).lt_or_eq with h | h
      · exact Or.inl h
      · refine Or.inr ⟨h, OrderDual.toDual_le_toDual.mpr ?_⟩
        have h0 : f 0 = top f := le_antisymm (top_ge f 0) (h ▸ bot_le)
        have := best_le f 0 h0
        rw [small_int]
        simp at this ⊢
        simp [this]
    · refine (Prod.Lex.toLex_le_toLex).mpr ?_
      rcases (top_ge f k).lt_or_eq with h | h
      · exact Or.inl h
      · refine Or.inr ⟨h, OrderDual.toDual_le_toDual.mpr ?_⟩
        rw [small_int, small_int]
        exact_mod_cast best_le f k h
  · refine (Finset.le_fold_max _).mpr (Or.inr ⟨best f, Finset.mem_univ _, ?_⟩)
    exact (congrArg (fun t : EReal => key (t, BitVec.ofNat 32 (best f).val)) (top_best f)).ge

/-! ## The sorts -/

/-- The comparator of the first sort compares the two values alone. -/
theorem comparator_eq (l r : EReal × BitVec 32) : comparator_f32_i32_d2 (F := Ideal) l r = BitVec.ofBool (decide (l.1 < r.1)) := by
  have z : (Ideal.ofBits .f32 0x00000000#32 : EReal) = 0 := by simp [Ideal.ofBits, Ideal.ieee]
  have e : ∀ a : EReal, Scalar.select (Ideal.cmp .oeq a 0) (0 : EReal) a = a := by
    intro a
    by_cases h : a = 0 <;> simp [Ideal.cmp, Scalar.select, h]
  have n : ∀ a : EReal, Ideal.cmp .une a a = 0#1 := by intro a; simp [Ideal.cmp]
  have s : ∀ a b : EReal, Scalar.select (0#1) a b = b := by intro a b; simp [Scalar.select]
  simp only [comparator_f32_i32_d2, Ideal.cmpf_def, Ideal.cmpfTotal_def, Ideal.ofBits_def, z, e, n, s]
  rfl

/-- The comparator of the second sort compares the two values alone. -/
theorem comparator_eq4 (l r : EReal × BitVec 32) : comparator_f32_i32_d3 (F := Ideal) l r = BitVec.ofBool (decide (l.1 < r.1)) :=
  comparator_eq l r

/-- A truth value as a bit and back. -/
theorem ofBool_beq (b : Bool) : (BitVec.ofBool b == 1#1) = b := by cases b <;> rfl

/-- The second result of a sort that carries the positions along its axis: the position the sorted order points to. -/
theorem sort_at {s : Shape} {α : Type} (a : Fin s.rank) (n : Nat) (hn : s.size a = n) (cmp : α × BitVec 32 → α × BitVec 32 → BitVec 1)
    (x : s.Idx → α) (j : s.Idx) (k : Fin n) (hk : ((j a).cast hn : Fin n) = k) (g : Fin n → Fin n → Bool)
    (hg : ∀ v v' : Fin (s.size a), (cmp (x (j.along a v), iotaInDim s 32 a (j.along a v))
      (x (j.along a v'), iotaInDim s 32 a (j.along a v')) == 1#1) = g (v.cast hn) (v'.cast hn)) :
    (Host.sort2 s a.val cmp x (iotaInDim s 32 a)).2 j = BitVec.ofNat 32 (sortedFrom g k).val := by
  subst hn
  subst hk
  have e : (fun v v' => cmp (x (j.along a v), iotaInDim s 32 a (j.along a v))
      (x (j.along a v'), iotaInDim s 32 a (j.along a v')) == 1#1) = g := by
    funext v v'
    exact hg v v'
  subst e
  unfold Host.sort2
  rw [dif_pos a.isLt]
  show BitVec.ofNat 32 ((j.along a (sortedFrom _ (j a))) a).val = _
  rw [Shape.Idx.along, Function.update_self]
  rfl

/-- The stable sort of 64 negated values: at place `k` it leaves the window of rank `k`. -/
theorem sort_cell (x : FVec Ideal S8x32x64 .f32) (p : Fin 8 → Fin 32 → Fin 64 → EReal)
    (hx : ∀ b o w, x (ix3 b o w) = -(p b o w)) (b : Fin 8) (o : Fin 32) (k : Fin 64) :
    (Host.sort2 S8x32x64 2 (comparator_f32_i32_d2 (F := Ideal)) x (iotaInDim S8x32x64 32 2)).2 (ix3 b o k)
      = BitVec.ofNat 32 (sortedFrom (Before (p b o)) k).val := by
  refine sort_at (s := S8x32x64) (2 : Fin 3) 64 rfl _ x (ix3 b o k) k rfl (Before (p b o)) fun v v' => ?_
  have ha : ∀ u : Fin 64, x ((ix3 b o k : S8x32x64.Idx).along (2 : Fin 3) u) = -(p b o u) := by
    intro u
    rw [← hx]
    congr 1
    funext a
    fin_cases a <;> rfl
  rw [comparator_eq, ofBool_beq]
  exact congrArg₂ (fun s t : EReal => decide (s < t)) (ha v) (ha v')

/-- The same over the raised routes, one axis deeper. -/
theorem sort_cell4 (x : FVec Ideal S8x32x32x64 .f32) (p : Fin 8 → Fin 32 → Fin 32 → Fin 64 → EReal)
    (hx : ∀ b i o w, x (ix4 b i o w) = -(p b i o w)) (b : Fin 8) (i o : Fin 32) (k : Fin 64) :
    (Host.sort2 S8x32x32x64 3 (comparator_f32_i32_d3 (F := Ideal)) x (iotaInDim S8x32x32x64 32 3)).2 (ix4 b i o k)
      = BitVec.ofNat 32 (sortedFrom (Before (p b i o)) k).val := by
  refine sort_at (s := S8x32x32x64) (3 : Fin 4) 64 rfl _ x (ix4 b i o k) k rfl (Before (p b i o)) fun v v' => ?_
  have ha : ∀ u : Fin 64, x ((ix4 b i o k : S8x32x32x64.Idx).along (3 : Fin 4) u) = -(p b i o u) := by
    intro u
    rw [← hx]
    congr 1
    funext a
    fin_cases a <;> rfl
  rw [comparator_eq4, ofBool_beq]
  exact congrArg₂ (fun s t : EReal => decide (s < t)) (ha v) (ha v')

/-! ## The arg-max over the windows -/

/-- The first place of the largest element of a window of the activations. -/
theorem argmax_at (x : FVec Ideal S8x32x8x8x4 .f32) (b : Fin 8) (o : Fin 32) (wi wj : Fin 8) (h) (hu) :
    (Host.argReduce (reducer_argmax_f32_i32 (F := Ideal)) x (iotaInDim S8x32x8x8x4 32 4) (constant (F := Ideal) S_ .f32 0xFF800000#32)
      (constantI S_ 32 0#32) (h : S8x32x8x8x4.ReducesTo [4] S8x32x8x8) (hu : 0 < S_.numel) (ix4 b o wi wj)).2
      = BitVec.ofNat 32 (best fun q => x (ix5 b o wi wj q)).val := by
  rw [Ideal.argReduce_eq_reduce2]
  have e : ∀ j, Host.reduce2 (reducer_argmax_f32_i32 (F := Ideal)) x (iotaInDim S8x32x8x8x4 32 4) (constant (F := Ideal) S_ .f32 0xFF800000#32)
      (constantI S_ 32 0#32) h hu j = Host.reduce (reducer_argmax_f32_i32 (F := Ideal)) (fun i => (x i, iotaInDim S8x32x8x8x4 32 4 i))
      (fun i => (constant (F := Ideal) S_ .f32 0xFF800000#32 i, constantI S_ 32 0#32 i)) h hu j := fun j => rfl
  rw [e, Host.reduce_eq_fold, Shape.ReducesTo.fold_fiber_r5_a4]
  exact congrArg Prod.snd (argmax_fold fun q => x (ix5 b o wi wj q))

/-- The first place of the largest element of a window of the raised routes. -/
theorem argmax_at4 (x : FVec Ideal S8x1024x8x8x4 .f32) (b : Fin 8) (o : Fin 1024) (wi wj : Fin 8) (h) (hu) :
    (Host.argReduce (reducer_argmax_f32_i32 (F := Ideal)) x (iotaInDim S8x1024x8x8x4 32 4) (constant (F := Ideal) S_ .f32 0xFF800000#32)
      (constantI S_ 32 0#32) (h : S8x1024x8x8x4.ReducesTo [4] S8x1024x8x8) (hu : 0 < S_.numel) (ix4 b o wi wj)).2
      = BitVec.ofNat 32 (best fun q => x (ix5 b o wi wj q)).val := by
  rw [Ideal.argReduce_eq_reduce2]
  have e : ∀ j, Host.reduce2 (reducer_argmax_f32_i32 (F := Ideal)) x (iotaInDim S8x1024x8x8x4 32 4) (constant (F := Ideal) S_ .f32 0xFF800000#32)
      (constantI S_ 32 0#32) h hu j = Host.reduce (reducer_argmax_f32_i32 (F := Ideal)) (fun i => (x i, iotaInDim S8x1024x8x8x4 32 4 i))
      (fun i => (constant (F := Ideal) S_ .f32 0xFF800000#32 i, constantI S_ 32 0#32 i)) h hu j := fun j => rfl
  rw [e, Host.reduce_eq_fold, Shape.ReducesTo.fold_fiber_r5_a4]
  exact congrArg Prod.snd (argmax_fold fun q => x (ix5 b o wi wj q))

end Cert.ReferenceIdeal.Pick
-- ==== Proof.RefMove.lean ====
/-
The reference's gathers and its scatter, read at an index. A batched gather along the last axis reads its operand where
the start indices say (`take_route` and the others); the scatter of ones raises exactly the places it is told.
-/
module

public import proofs.«01_k».proof.Proof.Gen.ReferenceIdeal
public import Idealize.ShloMosaic.PureOps.Ideal.Laws
public import Idealize.ShloMosaic.Lib.StableHlo.ReadAt
public import Idealize.ShloMosaic.Lib.Routing.OpsSet
public import Idealize.ShloMosaic.Lib.Routing.OpsPair

@[expose] public section

set_option maxRecDepth 8000
set_option maxHeartbeats 2000000

noncomputable section

namespace Cert.ReferenceIdeal.Move

open Idealize.ShloMosaic Cert.ReferenceIdeal Cert.ReferenceIdeal.Facts₀

/-- A small number written as a word reads back as itself. -/
theorem word_toNat (v : Nat) (h : v < 2 ^ 31) : (BitVec.ofNat 32 v).toInt.toNat = v := by
  have e : (BitVec.ofNat 32 v).toInt = v := by
    rw [BitVec.toInt_ofNat']; exact Int.bmod_eq_of_le (by omega) (by omega)
  rw [e]; rfl

/-- A test of one element that holds. -/
theorem one_fold : Finset.fold IntOp.andi (1#1) (fun _ : Fin 1 => 1#1) Finset.univ = 1#1 := by decide +kernel

/-- A choice by a test that holds. -/
theorem select_one {α : Type} (a b : α) : Scalar.select (1#1) a b = a := by simp [Scalar.select]

/-- Positions of the activations' windows, taken along the last axis. -/
theorem take_act (x : IVec S8x32x64 32) (idx : IVec S8x32x16x1 32) (b : Fin 8) (o : Fin 32) (k : Fin 16) (v : Fin 64)
    (hv : idx (ix4 b o k 0) = BitVec.ofNat 32 v.val) :
    Host.gather gather_S8x32x64_S8x32x16x1_S8x32x16_n_2_01_01_2_3_111 x idx (ix3 b o k) = x (ix3 b o v) := by
  unfold Host.gather
  congr 1
  funext a
  have hs : gather_S8x32x64_S8x32x16x1_S8x32x16_n_2_01_01_2_3_111.siIdx (ix3 b o k) ⟨0, by decide⟩ = ix4 b o k 0 := by
    funext c
    fin_cases c <;> rfl
  fin_cases a
  · refine Fin.ext ?_
    show 0 + b.val + 0 = b.val
    omega
  · refine Fin.ext ?_
    show 0 + o.val + 0 = o.val
    omega
  · refine Fin.ext ?_
    show min (idx (gather_S8x32x64_S8x32x16x1_S8x32x16_n_2_01_01_2_3_111.siIdx (ix3 b o k) ⟨0, _⟩)).toInt.toNat 63 + 0 + 0 = v.val
    rw [hs, hv, word_toNat _ (by omega)]
    omega

/-- Positions of the routes' windows, taken along the last axis. -/
theorem take_route (x : IVec S8x32x32x64 32) (idx : IVec S8x32x32x24x1 32) (b : Fin 8) (i o : Fin 32) (k : Fin 24) (v : Fin 64)
    (hv : idx (ix5 b i o k 0) = BitVec.ofNat 32 v.val) :
    Host.gather gather_S8x32x32x64_S8x32x32x24x1_S8x32x32x24_n_3_012_012_3_4_1111 x idx (ix4 b i o k) = x (ix4 b i o v) := by
  unfold Host.gather
  congr 1
  funext a
  have hs : gather_S8x32x32x64_S8x32x32x24x1_S8x32x32x24_n_3_012_012_3_4_1111.siIdx (ix4 b i o k) ⟨0, by decide⟩ = ix5 b i o k 0 := by
    funext c
    fin_cases c <;> rfl
  fin_cases a
  · refine Fin.ext ?_
    show 0 + b.val + 0 = b.val
    omega
  · refine Fin.ext ?_
    show 0 + i.val + 0 = i.val
    omega
  · refine Fin.ext ?_
    show 0 + o.val + 0 = o.val
    omega
  · refine Fin.ext ?_
    show min (idx (gather_S8x32x32x64_S8x32x32x24x1_S8x32x32x24_n_3_012_012_3_4_1111.siIdx (ix4 b i o k) ⟨0, _⟩)).toInt.toNat 63 + 0 + 0 = v.val
    rw [hs, hv, word_toNat _ (by omega)]
    omega

/-- Positions rearranged: entry `j` is read where the permutation points. -/
theorem take_perm (x : IVec S8x32x32x24 32) (idx : IVec S24x1 32) (b : Fin 8) (i o : Fin 32) (j : Fin 24) (v : Fin 24)
    (hv : idx (ix2 j 0) = BitVec.ofNat 32 v.val) :
    Host.gather gather_S8x32x32x24_S24x1_S8x32x32x24_012_3_n_n_3_1_832321 x idx (ix4 b i o j) = x (ix4 b i o v) := by
  unfold Host.gather
  congr 1
  funext a
  have hs : gather_S8x32x32x24_S24x1_S8x32x32x24_012_3_n_n_3_1_832321.siIdx (ix4 b i o j) ⟨0, by decide⟩ = ix2 j 0 := by
    funext c
    fin_cases c <;> rfl
  fin_cases a
  · refine Fin.ext ?_
    show 0 + 0 + b.val = b.val
    omega
  · refine Fin.ext ?_
    show 0 + 0 + i.val = i.val
    omega
  · refine Fin.ext ?_
    show 0 + 0 + o.val = o.val
    omega
  · refine Fin.ext ?_
    show min (idx (gather_S8x32x32x24_S24x1_S8x32x32x24_012_3_n_n_3_1_832321.siIdx (ix4 b i o j) ⟨0, _⟩)).toInt.toNat 23 + 0 + 0 = v.val
    rw [hs, hv, word_toNat _ (by omega)]
    omega

/-- Votes taken along the last axis. -/
theorem take_vote (x : FVec Ideal S8x32x32x16x256 .f32) (idx : IVec S8x32x32x16x24x1 32) (b : Fin 8) (i o : Fin 32) (h : Fin 16) (j : Fin 24) (v : Fin 256)
    (hv : idx (ix6 b i o h j 0) = BitVec.ofNat 32 v.val) :
    Host.gather gather_S8x32x32x16x256_S8x32x32x16x24x1_S8x32x32x16x24_n_4_0123_0123_4_5_11111 x idx (ix5 b i o h j) = x (ix5 b i o h v) := by
  unfold Host.gather
  congr 1
  funext a
  have hs : gather_S8x32x32x16x256_S8x32x32x16x24x1_S8x32x32x16x24_n_4_0123_0123_4_5_11111.siIdx (ix5 b i o h j) ⟨0, by decide⟩ = ix6 b i o h j 0 := by
    funext c
    fin_cases c <;> rfl
  fin_cases a
  · refine Fin.ext ?_
    show 0 + b.val + 0 = b.val
    omega
  · refine Fin.ext ?_
    show 0 + i.val + 0 = i.val
    omega
  · refine Fin.ext ?_
    show 0 + o.val + 0 = o.val
    omega
  · refine Fin.ext ?_
    show 0 + h.val + 0 = h.val
    omega
  · refine Fin.ext ?_
    show min (idx (gather_S8x32x32x16x256_S8x32x32x16x24x1_S8x32x32x16x24_n_4_0123_0123_4_5_11111.siIdx (ix5 b i o h j) ⟨0, _⟩)).toInt.toNat 255 + 0 + 0 = v.val
    rw [hs, hv, word_toNat _ (by omega)]
    omega

end Cert.ReferenceIdeal.Move
-- ==== Proof.RefAct.lean ====
/-
The reference's reading of the activations, part by part: the windows' largest elements and where they lie, their
stable sort, and the places of the sixteen windows of largest value.
-/
module

public import proofs.«01_k».proof.Proof.RefOps
public import proofs.«01_k».proof.Proof.RefPick
public import proofs.«01_k».proof.Proof.RefMove
public import Idealize.ShloMosaic.Lib.StableHlo.ReadAt
public import Idealize.ShloMosaic.Lib.Pipeline.ValueKit

@[expose] public section

set_option maxRecDepth 16384
set_option maxHeartbeats 4000000

noncomputable section

namespace Cert.ReferenceIdeal.Sel

open Idealize.ShloMosaic Idealize.ShloMosaic.TcCoe
open Cert.ReferenceIdeal Cert.ReferenceIdeal.Facts₀ Cert.ReferenceIdeal.Ops Cert.ReferenceIdeal.Pick Cert.ReferenceIdeal.Move Cert.Pick

/-- The place of each window's largest activation. -/
theorem act_pos (V : Valuation τ sig (Elt Ideal)) (X : Vec Ideal S8x32x16x16x16 .f32) (hX : V (Proc.devRef .tc main_arg0) = X)
    (b : Fin 8) (o : Fin 32) (w : Fin 64) :
    (StableHlo.after grpA V (Proc.devRef .tc main_v24) : Vec Ideal S8x32x64 .i32) (ix3 b o w)
      = BitVec.ofNat 32 (flat (best fun q => cell (fun y x => X (ix5 b o y x 15)) q w) w) := by
  unfold grpA
  after_reads_at
  have e : ∀ f : Fin 4 → EReal, f = (fun q => cell (fun y x => X (ix5 b o y x 15)) q w) →
      BitVec.ofNat 32 (best f).val = BitVec.ofNat 32 (best fun q => cell (fun y x => X (ix5 b o y x 15)) q w).val :=
    fun f hf => by rw [hf]
  rw [argmax_at, e]
  · clear e
    generalize best _ = q
    revert q w
    decide +kernel
  · funext q
    exact (congrFun hX _).trans (by unfold cell; blk_ext)

/-- The key each window of the activations is sorted by: its largest element, negated. -/
theorem act_key (V : Valuation τ sig (Elt Ideal)) (X : Vec Ideal S8x32x16x16x16 .f32) (hX : V (Proc.devRef .tc main_arg0) = X)
    (b : Fin 8) (o : Fin 32) (w : Fin 64) :
    (StableHlo.after grpA V (Proc.devRef .tc main_v26) : Vec Ideal S8x32x64 .f32) (ix3 b o w)
      = -(top fun q => cell (fun y x => X (ix5 b o y x 15)) q w) := by
  unfold grpA
  after_reads_at
  have e : ∀ f : Fin 4 → EReal, f = (fun q => cell (fun y x => X (ix5 b o y x 15)) q w) →
      -(Finset.fold max (Ideal.ofBits .f32 0xFF800000#32) f Finset.univ) = -(top fun q => cell (fun y x => X (ix5 b o y x 15)) q w) :=
    fun f hf => by rw [fold_max, hf]
  refine e _ ?_
  funext q
  exact (congrFun hX _).trans (by unfold cell; blk_ext)

/-- The windows of the activations, from the largest down. -/
theorem act_sort (V : Valuation τ sig (Elt Ideal)) (p : Fin 8 → Fin 32 → Fin 64 → EReal)
    (hp : ∀ b o w, (V (Proc.devRef .tc main_v26) : Vec Ideal S8x32x64 .f32) (ix3 b o w) = -(p b o w))
    (b : Fin 8) (o : Fin 32) (k : Fin 64) :
    (StableHlo.after grpB V (Proc.devRef .tc main_v27) : Vec Ideal S8x32x64 .i32) (ix3 b o k)
      = BitVec.ofNat 32 (sortedFrom (Before (p b o)) k).val := by
  unfold grpB
  after_reads_simp
  clean_types
  exact sort_cell _ p hp b o k

/-- The places of the sixteen windows of largest value. -/
theorem act_kept (V : Valuation τ sig (Elt Ideal)) (b : Fin 8) (o : Fin 32) (k : Fin 16) (v : Fin 64)
    (hv : (V (Proc.devRef .tc main_v27) : Vec Ideal S8x32x64 .i32) (ix3 b o ⟨k.val, by omega⟩) = BitVec.ofNat 32 v.val) :
    (StableHlo.after grpC V (Proc.devRef .tc main_v29) : Vec Ideal S8x32x16 .i32) (ix3 b o k)
      = (V (Proc.devRef .tc main_v24) : Vec Ideal S8x32x64 .i32) (ix3 b o v) := by
  unfold grpC
  after_reads_at
  have hi : ∀ u : Fin 64, Scalar.select (IntOp.cmpi .slt (BitVec.ofNat 32 u.val) 0#32)
      (IntOp.addi (BitVec.ofNat 32 u.val) 64#32) (BitVec.ofNat 32 u.val) = BitVec.ofNat 32 u.val := by decide +kernel
  have hr : ∀ u : Fin 64, IntOp.andi (IntOp.cmpi .sge (BitVec.ofNat 32 u.val) 0#32)
      (IntOp.cmpi .sle (BitVec.ofNat 32 u.val) 63#32) = 1#1 := by decide +kernel
  rw [take_act _ _ b o k v ((congrArg (fun t => Scalar.select (IntOp.cmpi .slt t 0#32) (IntOp.addi t 64#32) t) hv).trans (hi v))]
  simp only [hv, hi, hr, one_fold, select_one]

end Cert.ReferenceIdeal.Sel
-- ==== Proof.RefMask.lean ====
/-
The reference's raised routes: the scatter of ones at the kept places of the activations, added to every route.
-/
module

public import proofs.«01_k».proof.Proof.RefOps
public import proofs.«01_k».proof.Proof.RefPick
public import proofs.«01_k».proof.Proof.RefMove
public import Idealize.ShloMosaic.Lib.StableHlo.ReadAt
public import Idealize.ShloMosaic.Lib.Pipeline.ValueKit

@[expose] public section

set_option maxRecDepth 16384
set_option maxHeartbeats 4000000

noncomputable section

namespace Cert.ReferenceIdeal.Sel

open Idealize.ShloMosaic Idealize.ShloMosaic.TcCoe
open Cert.ReferenceIdeal Cert.ReferenceIdeal.Facts₀ Cert.ReferenceIdeal.Ops Cert.ReferenceIdeal.Pick Cert.ReferenceIdeal.Move Cert.Pick

/-- An update of the scatter lands at the place its index word says. -/
theorem lands (idx : IVec S4096x1 32) (i : Fin 4096) (x : Fin 65536) :
    scatter_S65536_S4096x1_S4096_n_0_0_1.resultIdx? (ix1 i) idx = some (ix1 x) ↔ (idx (ix2 i 0)).toInt = x.val := by
  refine (Routing.resultIdx?_ix1 _ (ix1 i) idx x).trans ?_
  have hs : scatter_S65536_S4096x1_S4096_n_0_0_1.siIdx (ix1 i) ⟨0, by decide⟩ = ix2 i 0 := by
    funext c
    fin_cases c <;> rfl
  have e : scatter_S65536_S4096x1_S4096_n_0_0_1.start (ix1 i) idx 0 + (scatter_S65536_S4096x1_S4096_n_0_0_1.window (ix1 i) 0 : Int)
      = (idx (ix2 i 0)).toInt := by
    show (idx (scatter_S65536_S4096x1_S4096_n_0_0_1.siIdx (ix1 i) ⟨0, _⟩)).toInt + (0 : Int) = _
    rw [hs, add_zero]
  rw [e]

/-- The scatter of ones into zeros marks the places listed. -/
theorem marks (x0 : Vec Ideal S65536 .f32) (idx : IVec S4096x1 32) (upd : Vec Ideal S4096 .f32) (g : Fin 4096 → Nat)
    (h0 : ∀ i, x0 i = 0) (h1 : ∀ i, upd i = 1) (hg : ∀ i, idx (ix2 i 0) = BitVec.ofNat 32 (g i)) (hl : ∀ i, g i < 65536) (e : Fin 65536) :
    ((∃ i, g i = e.val) → Host.scatter scatter_S65536_S4096x1_S4096_n_0_0_1 (fun _ b => b) x0 idx upd (ix1 e) = (1 : EReal))
      ∧ ((¬ ∃ i, g i = e.val) → Host.scatter scatter_S65536_S4096x1_S4096_n_0_0_1 (fun _ b => b) x0 idx upd (ix1 e) = (0 : EReal)) := by
  have hi : ∀ i, scatter_S65536_S4096x1_S4096_n_0_0_1.resultIdx? (ix1 i) idx = some (ix1 e) ↔ g i = e.val := fun i => by
    rw [lands, hg, BitVec.toInt_ofNat', Int.bmod_eq_of_le (by have := hl i; omega) (by have := hl i; omega)]
    omega
  refine ⟨fun ⟨i, hi'⟩ => ?_, fun h => ?_⟩
  · exact Routing.scatter_set_hit _ x0 idx upd (ix1 e) 1 (fun k _ => h1 k) (ix1 i) ((hi i).mpr hi')
  · refine (Routing.scatter_set_miss _ x0 idx upd (ix1 e) fun k hk => ?_).trans (h0 _)
    have hk' : k = ix1 (k 0) := by funext a; fin_cases a; rfl
    rw [hk'] at hk
    exact h ⟨k 0, (hi (k 0)).mp hk⟩

/-- The place an index word of the scatter says, with the wrap of a negative word. -/
theorem word (t : BitVec 32) (a m : Fin 256) (ht : t = BitVec.ofNat 32 a.val) :
    Scalar.select (IntOp.cmpi .slt (IntOp.addi t (IntOp.muli (BitVec.ofNat 32 m.val) 256#32)) 0#32)
      (IntOp.addi (IntOp.addi t (IntOp.muli (BitVec.ofNat 32 m.val) 256#32)) 65536#32)
      (IntOp.addi t (IntOp.muli (BitVec.ofNat 32 m.val) 256#32)) = BitVec.ofNat 32 (a.val + m.val * 256) := by
  have e : IntOp.addi t (IntOp.muli (BitVec.ofNat 32 m.val) 256#32) = BitVec.ofNat 32 (a.val + m.val * 256) := by
    show t + BitVec.ofNat 32 m.val * 256#32 = _
    rw [ht]
    refine BitVec.eq_of_toNat_eq ?_
    have := a.isLt
    have := m.isLt
    simp only [BitVec.toNat_add, BitVec.toNat_mul, BitVec.toNat_ofNat]
    omega
  rw [e, Routing.wrap_of_lt]
  have := a.isLt
  have := m.isLt
  simp only [BitVec.toNat_ofNat]
  omega

/-- Where the flat list of kept places names a place of one plane. -/
theorem named (n : Fin 8 → Fin 32 → Fin 16 → Fin 256) (b : Fin 8) (o : Fin 32) (p : Nat) (hp : p < 256) :
    (∃ i : Fin 4096, (n ⟨i.val / 512, by omega⟩ ⟨i.val / 16 % 32, by omega⟩ ⟨i.val % 16, by omega⟩).val + i.val / 16 * 256
      = (b.val * 32 + o.val) * 256 + p) ↔ ∃ k, (n b o k).val = p := by
  constructor
  · rintro ⟨k, hk⟩
    have hk' := (n ⟨k.val / 512, by omega⟩ ⟨k.val / 16 % 32, by omega⟩ ⟨k.val % 16, by omega⟩).isLt
    have e1 : (⟨k.val / 512, by omega⟩ : Fin 8) = b := Fin.ext (by dsimp only; omega)
    have e2 : (⟨k.val / 16 % 32, by omega⟩ : Fin 32) = o := Fin.ext (by dsimp only; omega)
    refine ⟨⟨k.val % 16, by omega⟩, ?_⟩
    rw [e1, e2] at hk hk'
    omega
  · rintro ⟨k, hk⟩
    refine ⟨⟨(b.val * 32 + o.val) * 16 + k.val, by omega⟩, ?_⟩
    have e1 : (⟨((b.val * 32 + o.val) * 16 + k.val) / 512, by omega⟩ : Fin 8) = b := Fin.ext (by dsimp only; omega)
    have e2 : (⟨((b.val * 32 + o.val) * 16 + k.val) / 16 % 32, by omega⟩ : Fin 32) = o := Fin.ext (by dsimp only; omega)
    have e3 : (⟨((b.val * 32 + o.val) * 16 + k.val) % 16, by omega⟩ : Fin 16) = k := Fin.ext (by dsimp only; omega)
    dsimp only
    rw [e1, e2, e3, hk]
    omega

/-- The windows of the raised routes: a one is added at the kept places of the activations. -/
theorem raise_at (V : Valuation τ sig (Elt Ideal)) (R : Vec Ideal S8x32x32x16x16 .f32) (hR : V (Proc.devRef .tc main_arg1) = R)
    (n : Fin 8 → Fin 32 → Fin 16 → Fin 256)
    (hn : ∀ b o k, (V (Proc.devRef .tc main_v29) : Vec Ideal S8x32x16 .i32) (ix3 b o k) = BitVec.ofNat 32 (n b o k).val)
    (b : Fin 8) (i o : Fin 32) (w : Fin 64) (q : Fin 4) :
    (StableHlo.after grpD V (Proc.devRef .tc main_v53) : Vec Ideal S8x1024x8x8x4 .f32)
        (ix5 b ⟨i.val * 32 + o.val, by omega⟩ ⟨w.val / 8, by omega⟩ ⟨w.val % 8, by omega⟩ q)
      = cell (fun y x => R (ix5 b i o y x)) q w + if ∃ k, (n b o k).val = flat q w then 1 else 0 := by
  unfold grpD
  after_reads_simp
  clean_types
  generalize hM : Host.scatter _ _ _ _ _ = M
  have hm : ∀ e : Fin 65536,
      ((∃ i : Fin 4096, (n ⟨i.val / 512, by omega⟩ ⟨i.val / 16 % 32, by omega⟩ ⟨i.val % 16, by omega⟩).val + i.val / 16 * 256 = e.val) → M (ix1 e) = 1)
      ∧ ((¬ ∃ i : Fin 4096, (n ⟨i.val / 512, by omega⟩ ⟨i.val / 16 % 32, by omega⟩ ⟨i.val % 16, by omega⟩).val + i.val / 16 * 256 = e.val) → M (ix1 e) = 0) := by
    intro e
    rw [← hM]
    refine marks _ _ _ (fun i : Fin 4096 => (n ⟨i.val / 512, by omega⟩ ⟨i.val / 16 % 32, by omega⟩ ⟨i.val % 16, by omega⟩).val + i.val / 16 * 256)
      (fun i => ?_) (fun i => ?_) (fun i => ?_) (fun i => ?_) e
    · pointwise
    · pointwise
    · pointwise
      refine (word _ (n ⟨i.val / 512, by omega⟩ ⟨i.val / 16 % 32, by omega⟩ ⟨i.val % 16, by omega⟩) ⟨i.val / 512 * 32 + i.val / 16 % 32, by omega⟩ (hn _ _ _)).trans (congrArg _ ?_)
      show _ + (i.val / 512 * 32 + i.val / 16 % 32) * 256 = _
      omega
    · have := (n ⟨i.val / 512, by omega⟩ ⟨i.val / 16 % 32, by omega⟩ ⟨i.val % 16, by omega⟩).isLt
      omega
  clear hM
  generalize hN : (fun i => shapeCast { rank := 4, size := ![8, 32, 16, 16] } M _ i) = N
  have hn' : ∀ (b : Fin 8) (o : Fin 32) (y x : Fin 16), N (ix4 b o y x) = M (ix1 ⟨(b.val * 32 + o.val) * 256 + (y.val * 16 + x.val), by omega⟩) := by
    intro b o y x
    rw [← hN]
    refine shapeCast_apply M _ _ _ ?_
    rw [Shape.rowMajor_val_one, Shape.rowMajor_val_four]
    show (b.val * 32 + o.val) * 256 + (y.val * 16 + x.val) = ((b.val * 32 + o.val) * 16 + y.val) * 16 + x.val
    omega
  clear hN
  pointwise
  have hs : ∀ (b' : Fin 32) (y x : Fin 16) (_ : b' = o) (_ : y.val * 16 + x.val = flat q w),
      N (ix4 b b' y x) = if ∃ k, (n b o k).val = flat q w then 1 else 0 := by
    intro b' y x hb hp
    subst hb
    rw [hn']
    have hx := named n b b' (y.val * 16 + x.val) (by omega)
    by_cases h : ∃ k, (n b b' k).val = flat q w
    · rw [if_pos h]
      exact (hm _).1 (hx.mpr (by rw [hp]; exact h))
    · rw [if_neg h]
      exact (hm _).2 fun h' => h (by rw [← hp]; exact hx.mp h')
  refine congr (congrArg HAdd.hAdd ((congrFun hR _).trans ?_)) (hs _ _ _ (Fin.ext (by dsimp only; omega)) (by unfold flat; dsimp only; omega))
  unfold cell
  blk_ext

/-- The windows' largest raised values. -/
theorem top_at (V : Valuation τ sig (Elt Ideal))
    (b : Fin 8) (c : Fin 1024) (y x : Fin 8) :
    (StableHlo.after grpD V (Proc.devRef .tc main_v54) : Vec Ideal S8x1024x8x8 .f32) (ix4 b c y x)
      = top fun q => (StableHlo.after grpD V (Proc.devRef .tc main_v53) : Vec Ideal S8x1024x8x8x4 .f32) (ix5 b c y x q) := by
  unfold grpD
  after_reads_simp
  clean_types
  generalize shapeCast _ _ _ = M
  pointwise
  exact fold_max _

end Cert.ReferenceIdeal.Sel
-- ==== Proof.RefRoute.lean ====
/-
The reference's reading of the raised routes: the windows' largest elements and where they lie, their stable sort, and
the places of the 24 windows of largest value.
-/
module

public import proofs.«01_k».proof.Proof.RefOps
public import proofs.«01_k».proof.Proof.RefPick
public import proofs.«01_k».proof.Proof.RefMove
public import Idealize.ShloMosaic.Lib.StableHlo.ReadAt
public import Idealize.ShloMosaic.Lib.Pipeline.ValueKit

@[expose] public section

set_option maxRecDepth 16384
set_option maxHeartbeats 4000000

noncomputable section

namespace Cert.ReferenceIdeal.Sel

open Idealize.ShloMosaic Idealize.ShloMosaic.TcCoe
open Cert.ReferenceIdeal Cert.ReferenceIdeal.Facts₀ Cert.ReferenceIdeal.Ops Cert.ReferenceIdeal.Pick Cert.ReferenceIdeal.Move Cert.Pick

/-- The place of each window's largest raised element. -/
theorem route_pos (V : Valuation τ sig (Elt Ideal)) (Y : Vec Ideal S8x1024x8x8x4 .f32) (hY : V (Proc.devRef .tc main_v53) = Y)
    (b : Fin 8) (i o : Fin 32) (w : Fin 64) :
    (StableHlo.after grpE V (Proc.devRef .tc main_v73) : Vec Ideal S8x32x32x64 .i32) (ix4 b i o w)
      = BitVec.ofNat 32 (flat (best fun q => Y (ix5 b ⟨i.val * 32 + o.val, by omega⟩ ⟨w.val / 8, by omega⟩ ⟨w.val % 8, by omega⟩ q)) w) := by
  unfold grpE
  after_reads_at
  have e : ∀ f : Fin 4 → EReal, f = (fun q => Y (ix5 b ⟨i.val * 32 + o.val, by omega⟩ ⟨w.val / 8, by omega⟩ ⟨w.val % 8, by omega⟩ q)) →
      BitVec.ofNat 32 (best f).val = BitVec.ofNat 32 (best fun q => Y (ix5 b ⟨i.val * 32 + o.val, by omega⟩ ⟨w.val / 8, by omega⟩ ⟨w.val % 8, by omega⟩ q)).val :=
    fun f hf => by rw [hf]
  rw [argmax_at4, e]
  · clear e
    generalize best _ = q
    revert q w
    decide +kernel
  · funext q
    exact (congrFun hY _).trans (by blk_ext)

/-- The key each window of the raised routes is sorted by: its largest element, negated. -/
theorem route_key (V : Valuation τ sig (Elt Ideal)) (Z : Vec Ideal S8x1024x8x8 .f32) (hZ : V (Proc.devRef .tc main_v54) = Z)
    (b : Fin 8) (i o : Fin 32) (w : Fin 64) :
    (StableHlo.after grpE V (Proc.devRef .tc main_v75) : Vec Ideal S8x32x32x64 .f32) (ix4 b i o w)
      = -(Z (ix4 b ⟨i.val * 32 + o.val, by omega⟩ ⟨w.val / 8, by omega⟩ ⟨w.val % 8, by omega⟩)) := by
  unfold grpE
  after_reads_at
  exact congrArg (fun t : EReal => -t) ((congrFun hZ _).trans (by blk_ext))

/-- The windows of the raised routes, from the largest down. -/
theorem route_sort (V : Valuation τ sig (Elt Ideal)) (p : Fin 8 → Fin 32 → Fin 32 → Fin 64 → EReal)
    (hp : ∀ b i o w, (V (Proc.devRef .tc main_v75) : Vec Ideal S8x32x32x64 .f32) (ix4 b i o w) = -(p b i o w))
    (b : Fin 8) (i o : Fin 32) (k : Fin 64) :
    (StableHlo.after grpS V (Proc.devRef .tc main_v76) : Vec Ideal S8x32x32x64 .i32) (ix4 b i o k)
      = BitVec.ofNat 32 (sortedFrom (Before (p b i o)) k).val := by
  unfold grpS
  after_reads_simp
  clean_types
  exact sort_cell4 _ p hp b i o k

/-- The places of the 24 windows of largest value. -/
theorem route_kept (V : Valuation τ sig (Elt Ideal)) (b : Fin 8) (i o : Fin 32) (k : Fin 24) (v : Fin 64)
    (hv : (V (Proc.devRef .tc main_v76) : Vec Ideal S8x32x32x64 .i32) (ix4 b i o ⟨k.val, by omega⟩) = BitVec.ofNat 32 v.val) :
    (StableHlo.after grpG V (Proc.devRef .tc main_v78) : Vec Ideal S8x32x32x24 .i32) (ix4 b i o k)
      = (V (Proc.devRef .tc main_v73) : Vec Ideal S8x32x32x64 .i32) (ix4 b i o v) := by
  unfold grpG
  after_reads_at
  have hi : ∀ u : Fin 64, Scalar.select (IntOp.cmpi .slt (BitVec.ofNat 32 u.val) 0#32)
      (IntOp.addi (BitVec.ofNat 32 u.val) 64#32) (BitVec.ofNat 32 u.val) = BitVec.ofNat 32 u.val := by decide +kernel
  have hr : ∀ u : Fin 64, IntOp.andi (IntOp.cmpi .sge (BitVec.ofNat 32 u.val) 0#32)
      (IntOp.cmpi .sle (BitVec.ofNat 32 u.val) 63#32) = 1#1 := by decide +kernel
  rw [take_route _ _ b i o k v ((congrArg (fun t => Scalar.select (IntOp.cmpi .slt t 0#32) (IntOp.addi t 64#32) t) hv).trans (hi v))]
  simp only [hv, hi, hr, one_fold, select_one]

end Cert.ReferenceIdeal.Sel
-- ==== Proof.RefVote.lean ====
/-
The reference's reading of the votes: the places rearranged by the permutation, and the votes read at those places.
-/
module

public import proofs.«01_k».proof.Proof.RefOps
public import proofs.«01_k».proof.Proof.RefPick
public import proofs.«01_k».proof.Proof.RefMove
public import Idealize.ShloMosaic.Lib.StableHlo.ReadAt
public import Idealize.ShloMosaic.Lib.Pipeline.ValueKit

@[expose] public section

set_option maxRecDepth 16384
set_option maxHeartbeats 4000000

noncomputable section

namespace Cert.ReferenceIdeal.Sel

open Idealize.ShloMosaic Idealize.ShloMosaic.TcCoe
open Cert.ReferenceIdeal Cert.ReferenceIdeal.Facts₀ Cert.ReferenceIdeal.Ops Cert.ReferenceIdeal.Pick Cert.ReferenceIdeal.Move Cert.Pick

/-- The rearranged places, the same for every row of votes. -/
theorem perm_pos (V : Valuation τ sig (Elt Ideal)) (b : Fin 8) (i o : Fin 32) (h : Fin 16) (j k : Fin 24)
    (hk : (V (Proc.devRef .tc main_v87) : Vec Ideal S24 .i32) (ix1 j) = BitVec.ofNat 32 k.val) :
    (StableHlo.after grpJ V (Proc.devRef .tc main_v96) : Vec Ideal S8x32x32x16x24 .i32) (ix5 b i o h j)
      = (V (Proc.devRef .tc main_v78) : Vec Ideal S8x32x32x24 .i32) (ix4 b i o k) := by
  unfold grpJ
  after_reads_at
  have hi : ∀ u : Fin 24, Scalar.select (IntOp.cmpi .slt (BitVec.ofNat 32 u.val) 0#32)
      (IntOp.addi (BitVec.ofNat 32 u.val) 24#32) (BitVec.ofNat 32 u.val) = BitVec.ofNat 32 u.val := by decide +kernel
  refine take_perm _ _ b i o j k ?_
  pointwise
  exact (congrArg (fun t => Scalar.select (IntOp.cmpi .slt t 0#32) (IntOp.addi t 24#32) t) hk).trans (hi k)

/-- The votes with each plane in one row. -/
theorem votes_flat (V : Valuation τ sig (Elt Ideal)) (T : Vec Ideal S8x32x32x16x16x16 .f32) (hT : V (Proc.devRef .tc main_arg2) = T)
    (b : Fin 8) (i o : Fin 32) (h : Fin 16) (p : Fin 256) :
    (StableHlo.after grpJ V (Proc.devRef .tc main_v97) : Vec Ideal S8x32x32x16x256 .f32) (ix5 b i o h p)
      = T (ix6 b i o h ⟨p.val / 16, by omega⟩ ⟨p.val % 16, by omega⟩) := by
  unfold grpJ
  after_reads_at
  exact (congrFun hT _).trans (by blk_ext)

/-- A test of several elements that all hold. -/
theorem fold_ones {α : Type} (s : Finset α) (f : α → BitVec 1) (h : ∀ x ∈ s, f x = 1#1) : Finset.fold IntOp.andi (1#1) f s = 1#1 := by
  classical
  rw [Finset.fold_congr h, Finset.fold_const]
  · split_ifs <;> rfl
  · decide

/-- The result: the votes at the rearranged places. -/
theorem vote_at (V : Valuation τ sig (Elt Ideal)) (b : Fin 8) (i o : Fin 32) (h : Fin 16) (j : Fin 24) (z : Fin 1) (p : Fin 256)
    (hp : (V (Proc.devRef .tc main_v96) : Vec Ideal S8x32x32x16x24 .i32) (ix5 b i o h j) = BitVec.ofNat 32 p.val) :
    (StableHlo.after grpK V (Proc.devRef .tc main_v99) : Vec Ideal S8x32x32x16x24x1 .f32) (ix6 b i o h j z)
      = (V (Proc.devRef .tc main_v97) : Vec Ideal S8x32x32x16x256 .f32) (ix5 b i o h p) := by
  unfold grpK
  after_reads_at
  have hi : ∀ u : Fin 256, Scalar.select (IntOp.cmpi .slt (BitVec.ofNat 32 u.val) 0#32)
      (IntOp.addi (BitVec.ofNat 32 u.val) 256#32) (BitVec.ofNat 32 u.val) = BitVec.ofNat 32 u.val := by decide +kernel
  have hr : ∀ u : Fin 256, IntOp.andi (IntOp.cmpi .sge (BitVec.ofNat 32 u.val) 0#32)
      (IntOp.cmpi .sle (BitVec.ofNat 32 u.val) 255#32) = 1#1 := by decide +kernel
  rw [take_vote _ _ b i o h j p ((congrArg (fun t => Scalar.select (IntOp.cmpi .slt t 0#32) (IntOp.addi t 256#32) t) hp).trans (hi p))]
  rw [fold_ones, select_one]
  intro x hx
  have hx := (Finset.mem_filter.mp hx).2
  have e : (ix5 (x 0) (x 1) (x 2) (x 3) (x 4) : S8x32x32x16x24.Idx) = ix5 b i o h j := by
    funext a
    fin_cases a
    · exact congrFun hx 0
    · exact congrFun hx 1
    · exact congrFun hx 2
    · exact congrFun hx 3
    · exact congrFun hx 4
  have hq : (V (Proc.devRef .tc main_v96) : Vec Ideal S8x32x32x16x24 .i32) (ix5 (x 0) (x 1) (x 2) (x 3) (x 4)) = BitVec.ofNat 32 p.val :=
    (congrArg _ e).trans hp
  have hm : ∀ t : BitVec 32, t = BitVec.ofNat 32 p.val → IntOp.andi
      (IntOp.cmpi .sge (Scalar.select (IntOp.cmpi .slt t 0#32) (IntOp.addi t 256#32) t) 0#32)
      (IntOp.cmpi .sle (Scalar.select (IntOp.cmpi .slt t 0#32) (IntOp.addi t 256#32) t) 255#32) = 1#1 := by
    intro t ht
    rw [ht, hi, hr]
  exact hm _ hq

/-- The list the permutation is drawn from is 0 to 23. -/
theorem perm_list (V : Valuation τ sig (Elt Ideal)) :
    (StableHlo.after grpH V (Proc.devRef .tc main_v86) : Vec Ideal S24 .i32) = iotaInDim S24 32 0 := by
  unfold grpH
  after_reads_simp

end Cert.ReferenceIdeal.Sel
-- ==== Proof.RefValue.lean ====
/-
The reference's result, element by element: each is one element of the votes, at the place of the window the
permutation draws.
-/
module

public import proofs.«01_k».proof.Proof.RefRun
public import proofs.«01_k».proof.Proof.RefAct
public import proofs.«01_k».proof.Proof.RefMask
public import proofs.«01_k».proof.Proof.RefRoute
public import proofs.«01_k».proof.Proof.RefVote

@[expose] public section

set_option maxRecDepth 16384
set_option maxHeartbeats 4000000

noncomputable section

namespace Cert.ReferenceIdeal.Sel

open Idealize.ShloMosaic Idealize.ShloMosaic.TcCoe
open Cert.ReferenceIdeal Cert.ReferenceIdeal.Facts₀ Cert.ReferenceIdeal.Ops Cert.ReferenceIdeal.Pick Cert.ReferenceIdeal.Move Cert.Pick

/-- The windows' largest values. -/
abbrev tops (a : Fin 4 → Fin 64 → EReal) (w : Fin 64) : EReal := top fun q => a q w

/-- Two elements of a plane at one place are one element of one window. -/
theorem flat_inj (q q' : Fin 4) (w w' : Fin 64) (h : flat q w = flat q' w') : q = q' ∧ w = w' := by
  unfold flat at h
  have := q.isLt
  have := q'.isLt
  exact ⟨Fin.ext (by omega), Fin.ext (by omega)⟩

/-- The place kept from the window that stands at `k`. -/
def keptAt (a : Fin 4 → Fin 64 → EReal) (k : Fin 16) : Fin 256 :=
  ⟨flat (best fun q => a q (sortedFrom (Before (tops a)) ⟨k.val, by omega⟩)) (sortedFrom (Before (tops a)) ⟨k.val, by omega⟩), flat_lt _ _⟩

/-- A place is kept when its window is one of the sixteen of largest value and it is the window's first largest. -/
theorem kept_iff (a : Fin 4 → Fin 64 → EReal) (q : Fin 4) (w : Fin 64) :
    (∃ k, (keptAt a k).val = flat q w) ↔ rnk (tops a) w < 16 ∧ best (fun k => a k w) = q := by
  constructor
  · rintro ⟨k, hk⟩
    obtain ⟨e1, e2⟩ := flat_inj _ _ _ _ hk
    have hr := rnk_sortedFrom (tops a) ⟨k.val, by omega⟩
    rw [e2] at hr e1
    exact ⟨by rw [hr]; exact k.isLt, e1⟩
  · rintro ⟨hr, hb⟩
    refine ⟨⟨rnk (tops a) w, hr⟩, ?_⟩
    have e : sortedFrom (Before (tops a)) ⟨rnk (tops a) w, by omega⟩ = w := rnk_inj _ (rnk_sortedFrom _ _)
    show flat (best fun q => a q (sortedFrom (Before (tops a)) ⟨rnk (tops a) w, by omega⟩)) (sortedFrom (Before (tops a)) ⟨rnk (tops a) w, by omega⟩) = _
    rw [e, hb]

variable (V : Valuation τ sig (Elt Ideal)) (X : Vec Ideal S8x32x16x16x16 .f32) (R : Vec Ideal S8x32x32x16x16 .f32) (T : Vec Ideal S8x32x32x16x16x16 .f32)

/-- One plane of activations in windows. -/
abbrev actOf (b : Fin 8) (o : Fin 32) : Fin 4 → Fin 64 → EReal := cell fun y x => X (ix5 b o y x 15)
/-- One plane of routes in windows. -/
abbrev rteOf (b : Fin 8) (i o : Fin 32) : Fin 4 → Fin 64 → EReal := cell fun y x => R (ix5 b i o y x)

/-- The kept places of the activations. -/
theorem kept_at (hX : V (Proc.devRef .tc main_arg0) = X) (b : Fin 8) (o : Fin 32) (k : Fin 16) :
    (RC V (Proc.devRef .tc main_v29) : Vec Ideal S8x32x16 .i32) (ix3 b o k) = BitVec.ofNat 32 (keptAt (actOf X b o) k).val := by
  have h27 := act_sort (RA V) (fun b o => tops (actOf X b o)) (fun b o w => act_key V X hX b o w) b o ⟨k.val, by omega⟩
  refine (act_kept (RB V) b o k _ h27).trans ?_
  refine (congrFun (grpB_of (RA V) main_v24 (by decide +kernel)) _).trans ?_
  exact act_pos V X hX b o _

/-- The raised routes in windows. -/
theorem raised_at (hX : V (Proc.devRef .tc main_arg0) = X) (hR : V (Proc.devRef .tc main_arg1) = R) (b : Fin 8) (i o : Fin 32) (w : Fin 64) (q : Fin 4) :
    (RD V (Proc.devRef .tc main_v53) : Vec Ideal S8x1024x8x8x4 .f32)
        (ix5 b ⟨i.val * 32 + o.val, by omega⟩ ⟨w.val / 8, by omega⟩ ⟨w.val % 8, by omega⟩ q)
      = raised (actOf X b o) (rteOf R b i o) q w := by
  have hR' : RC V (Proc.devRef .tc main_arg1) = R :=
    (grpC_of (RB V) main_arg1 (by decide +kernel)).trans ((grpB_of (RA V) main_arg1 (by decide +kernel)).trans
      ((grpA_of V main_arg1 (by decide +kernel)).trans hR))
  refine (raise_at (RC V) R hR' (fun b o => keptAt (actOf X b o)) (kept_at V X hX) b i o w q).trans ?_
  unfold raised bump
  exact congrArg (HAdd.hAdd _) (if_congr (kept_iff _ q w) rfl rfl)

/-- The place of each window's largest raised value. -/
theorem spot_at (hX : V (Proc.devRef .tc main_arg0) = X) (hR : V (Proc.devRef .tc main_arg1) = R) (b : Fin 8) (i o : Fin 32) (w : Fin 64) :
    (RE V (Proc.devRef .tc main_v73) : Vec Ideal S8x32x32x64 .i32) (ix4 b i o w)
      = BitVec.ofNat 32 (spot (actOf X b o) (rteOf R b i o) w) := by
  refine (route_pos (RD V) _ rfl b i o w).trans ?_
  unfold spot
  refine congrArg (fun f : Fin 4 → EReal => BitVec.ofNat 32 (flat (best f) w)) ?_
  funext q
  exact raised_at V X R hX hR b i o w q

/-- The key each window of the raised routes is sorted by. -/
theorem key_at (hX : V (Proc.devRef .tc main_arg0) = X) (hR : V (Proc.devRef .tc main_arg1) = R) (b : Fin 8) (i o : Fin 32) (w : Fin 64) :
    (RE V (Proc.devRef .tc main_v75) : Vec Ideal S8x32x32x64 .f32) (ix4 b i o w)
      = -(tops (raised (actOf X b o) (rteOf R b i o)) w) := by
  refine (route_key (RD V) _ rfl b i o w).trans ?_
  refine congrArg (fun t : EReal => -t) ((top_at (RC V) b _ _ _).trans ?_)
  refine congrArg top ?_
  funext q
  exact raised_at V X R hX hR b i o w q

/-- The places of the windows of raised routes, from the largest value down. -/
theorem chosen_at (hX : V (Proc.devRef .tc main_arg0) = X) (hR : V (Proc.devRef .tc main_arg1) = R) (b : Fin 8) (i o : Fin 32) (k : Fin 24) :
    (RG V (Proc.devRef .tc main_v78) : Vec Ideal S8x32x32x24 .i32) (ix4 b i o k)
      = BitVec.ofNat 32 (spot (actOf X b o) (rteOf R b i o)
        (sortedFrom (Before (tops (raised (actOf X b o) (rteOf R b i o)))) ⟨k.val, by omega⟩)) := by
  have h76 := route_sort (RE V) (fun b i o => tops (raised (actOf X b o) (rteOf R b i o))) (fun b i o w => key_at V X R hX hR b i o w) b i o ⟨k.val, by omega⟩
  refine (route_kept (RS V) b i o k _ h76).trans ?_
  refine (congrFun (grpS_of (RE V) main_v73 (by decide +kernel)) _).trans ?_
  exact spot_at V X R hX hR b i o _

/-- Each element of the result is the vote at the place of the window the permutation draws for it. -/
theorem value (hX : V (Proc.devRef .tc main_arg0) = X) (hR : V (Proc.devRef .tc main_arg1) = R) (hT : V (Proc.devRef .tc main_arg2) = T)
    (b : Fin 8) (i o : Fin 32) (h : Fin 16) (j k : Fin 24) (z : Fin 1)
    (hk : (RI V (Proc.devRef .tc main_v87) : Vec Ideal S24 .i32) (ix1 j) = BitVec.ofNat 32 k.val) (p : Fin 256)
    (hp : p.val = spot (actOf X b o) (rteOf R b i o)
        (sortedFrom (Before (tops (raised (actOf X b o) (rteOf R b i o)))) ⟨k.val, by omega⟩)) :
    (RK V (Proc.devRef .tc main_v99) : Vec Ideal S8x32x32x16x24x1 .f32) (ix6 b i o h j z)
      = T (ix6 b i o h ⟨p.val / 16, by omega⟩ ⟨p.val % 16, by omega⟩) := by
  have h78 : (RI V (Proc.devRef .tc main_v78) : Vec Ideal S8x32x32x24 .i32) (ix4 b i o k) = BitVec.ofNat 32 p.val := by
    refine (congrFun ((grpI_of (RH V) main_v78 (by decide +kernel)).trans (grpH_of (RG V) main_v78 (by decide +kernel))) _).trans ?_
    rw [chosen_at V X R hX hR, hp]
  have h96 := (perm_pos (RI V) b i o h j k hk).trans h78
  refine (vote_at (RJ V) b i o h j z p h96).trans ?_
  refine votes_flat (RI V) T ?_ b i o h p
  exact (grpI_of (RH V) main_arg2 (by decide +kernel)).trans ((grpH_of (RG V) main_arg2 (by decide +kernel)).trans
    ((grpG_of (RS V) main_arg2 (by decide +kernel)).trans ((grpS_of (RE V) main_arg2 (by decide +kernel)).trans
    ((grpE_of (RD V) main_arg2 (by decide +kernel)).trans ((grpD_of (RC V) main_arg2 (by decide +kernel)).trans
    ((grpC_of (RB V) main_arg2 (by decide +kernel)).trans ((grpB_of (RA V) main_arg2 (by decide +kernel)).trans
      ((grpA_of V main_arg2 (by decide +kernel)).trans hT))))))))

end Cert.ReferenceIdeal.Sel
-- ==== Proof.Perm.lean ====
/-
The permutation of the 24 places. Kernel and reference draw it with the same operations from the same key, so stretch by
stretch the two programs hold the same words (`shuffle_same`); and since it is a sort of the numbers 0 to 23, its
entries are such numbers (`shuffle_range`).
-/
module

public import proofs.«01_k».proof.Proof.Gen.KernelIdeal.Launch
public import proofs.«01_k».proof.Proof.RefOps
public import Idealize.ShloMosaic.Lib.Pipeline.Frame

@[expose] public section

set_option maxRecDepth 16384
set_option maxHeartbeats 4000000

noncomputable section

namespace Cert.Perm

open Idealize.ShloMosaic Idealize.ShloMosaic.TcCoe

variable {F : FTy → Type} [FloatOps F]

/-- What the kernel's buffers hold. -/
abbrev VK (F : FTy → Type) := Valuation KernelIdeal.τ KernelIdeal.sig (Elt F)
/-- What the reference's buffers hold. -/
abbrev VR (F : FTy → Type) := Valuation ReferenceIdeal.τ ReferenceIdeal.sig (Elt F)

/-- One of the kernel's buffers, read at its type. -/
def rdK {ty : BufTy} (t : StableHlo.TRef KernelIdeal.sig ty) (V : VK F) : ty.Contents (Elt F) := t.ofBuf (V (Proc.devRef .tc t.ref))
/-- One of the reference's buffers, read at its type. -/
def rdR {ty : BufTy} (t : StableHlo.TRef ReferenceIdeal.sig ty) (V : VR F) : ty.Contents (Elt F) := t.ofBuf (V (Proc.devRef .tc t.ref))

/-- Stretch 0 of the kernel's shuffle: the key words and the counters of the split. -/
def kst0 : List (HloOp KernelIdeal.τ KernelIdeal.sig (Elt F)) := (KernelIdeal.Gen.hostOps0_1.drop 0).take 13
/-- Stretch 0 of the reference's shuffle. -/
def rst0 : List (HloOp ReferenceIdeal.τ ReferenceIdeal.sig (Elt F)) := (ReferenceIdeal.Ops.ops21.drop 0).take 13

/-- Stretch 0 keeps the two programs together. -/
theorem step0 (V : VK F) (V2 : VR F)
    (h0 : rdK (.of KernelIdeal.main_v14 : StableHlo.TRef KernelIdeal.sig ⟨KernelIdeal.S2, .i32⟩) V = rdR (.of ReferenceIdeal.main_v85 : StableHlo.TRef ReferenceIdeal.sig ⟨KernelIdeal.S2, .i32⟩) V2)
    (h1 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_call0_call0_v1 : StableHlo.TRef KernelIdeal.sig ⟨KernelIdeal.S_, .i32⟩) (StableHlo.after kst0 V) = rdR (.of ReferenceIdeal.main_call10_call0_v1 : StableHlo.TRef ReferenceIdeal.sig ⟨KernelIdeal.S_, .i32⟩) (StableHlo.after rst0 V2)
    ∧ rdK (.of KernelIdeal.main_call0_call0_v10 : StableHlo.TRef KernelIdeal.sig ⟨KernelIdeal.S2, .i32⟩) (StableHlo.after kst0 V) = rdR (.of ReferenceIdeal.main_call10_call0_v10 : StableHlo.TRef ReferenceIdeal.sig ⟨KernelIdeal.S2, .i32⟩) (StableHlo.after rst0 V2)
    ∧ rdK (.of KernelIdeal.main_call0_call0_v3 : StableHlo.TRef KernelIdeal.sig ⟨KernelIdeal.S_, .i32⟩) (StableHlo.after kst0 V) = rdR (.of ReferenceIdeal.main_call10_call0_v3 : StableHlo.TRef ReferenceIdeal.sig ⟨KernelIdeal.S_, .i32⟩) (StableHlo.after rst0 V2)
    ∧ rdK (.of KernelIdeal.main_call0_call0_v9 : StableHlo.TRef KernelIdeal.sig ⟨KernelIdeal.S2, .i32⟩) (StableHlo.after kst0 V) = rdR (.of ReferenceIdeal.main_call10_call0_v9 : StableHlo.TRef ReferenceIdeal.sig ⟨KernelIdeal.S2, .i32⟩) (StableHlo.after rst0 V2)
    ∧ rdK (.of KernelIdeal.main_v15 : StableHlo.TRef KernelIdeal.sig ⟨KernelIdeal.S24, .i32⟩) (StableHlo.after kst0 V) = rdR (.of ReferenceIdeal.main_v86 : StableHlo.TRef ReferenceIdeal.sig ⟨KernelIdeal.S24, .i32⟩) (StableHlo.after rst0 V2) := by
  unfold kst0 rst0 rdK rdR
  unfold rdK rdR at h0 h1
  refine ⟨?_, ?_, ?_, ?_, ?_⟩
  all_goals after_reads_simp
  all_goals simp only [StableHlo.TRef.ofBuf_toBuf, h0, h1]
  all_goals rfl

/-- Stretch 1 of the kernel's shuffle: rounds of the split, first part. -/
def kst1 : List (HloOp KernelIdeal.τ KernelIdeal.sig (Elt F)) := (KernelIdeal.Gen.hostOps0_1.drop 13).take 60
/-- Stretch 1 of the reference's shuffle. -/
def rst1 : List (HloOp ReferenceIdeal.τ ReferenceIdeal.sig (Elt F)) := (ReferenceIdeal.Ops.ops21.drop 13).take 60

/-- Stretch 1 keeps the two programs together. -/
theorem step1 (V : VK F) (V2 : VR F)
    (h0 : rdK (.of KernelIdeal.main_call0_call0_v1 : StableHlo.TRef KernelIdeal.sig ⟨KernelIdeal.S_, .i32⟩) V = rdR (.of ReferenceIdeal.main_call10_call0_v1 : StableHlo.TRef ReferenceIdeal.sig ⟨KernelIdeal.S_, .i32⟩) V2)
    (h1 : rdK (.of KernelIdeal.main_call0_call0_v10 : StableHlo.TRef KernelIdeal.sig ⟨KernelIdeal.S2, .i32⟩) V = rdR (.of ReferenceIdeal.main_call10_call0_v10 : StableHlo.TRef ReferenceIdeal.sig ⟨KernelIdeal.S2, .i32⟩) V2)
    (h2 : rdK (.of KernelIdeal.main_call0_call0_v3 : StableHlo.TRef KernelIdeal.sig ⟨KernelIdeal.S_, .i32⟩) V = rdR (.of ReferenceIdeal.main_call10_call0_v3 : StableHlo.TRef ReferenceIdeal.sig ⟨KernelIdeal.S_, .i32⟩) V2)
    (h3 : rdK (.of KernelIdeal.main_call0_call0_v9 : StableHlo.TRef KernelIdeal.sig ⟨KernelIdeal.S2, .i32⟩) V = rdR (.of ReferenceIdeal.main_call10_call0_v9 : StableHlo.TRef ReferenceIdeal.sig ⟨KernelIdeal.S2, .i32⟩) V2)
    (h4 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_call0_call0_call0_v1 : StableHlo.TRef KernelIdeal.sig ⟨KernelIdeal.S_, .i32⟩) (StableHlo.after kst1 V) = rdR (.of ReferenceIdeal.main_call10_call0_call0_v1 : StableHlo.TRef ReferenceIdeal.sig ⟨KernelIdeal.S_, .i32⟩) (StableHlo.after rst1 V2)
    ∧ rdK (.of KernelIdeal.main_call0_call0_call0_v46 : StableHlo.TRef KernelIdeal.sig ⟨KernelIdeal.S2, .i32⟩) (StableHlo.after kst1 V) = rdR (.of ReferenceIdeal.main_call10_call0_call0_v46 : StableHlo.TRef ReferenceIdeal.sig ⟨KernelIdeal.S2, .i32⟩) (StableHlo.after rst1 V2)
    ∧ rdK (.of KernelIdeal.main_call0_call0_call0_v47 : StableHlo.TRef KernelIdeal.sig ⟨KernelIdeal.S2, .i32⟩) (StableHlo.after kst1 V) = rdR (.of ReferenceIdeal.main_call10_call0_call0_v47 : StableHlo.TRef ReferenceIdeal.sig ⟨KernelIdeal.S2, .i32⟩) (StableHlo.after rst1 V2)
    ∧ rdK (.of KernelIdeal.main_call0_call0_v1 : StableHlo.TRef KernelIdeal.sig ⟨KernelIdeal.S_, .i32⟩) (StableHlo.after kst1 V) = rdR (.of ReferenceIdeal.main_call10_call0_v1 : StableHlo.TRef ReferenceIdeal.sig ⟨KernelIdeal.S_, .i32⟩) (StableHlo.after rst1 V2)
    ∧ rdK (.of KernelIdeal.main_call0_call0_v3 : StableHlo.TRef KernelIdeal.sig ⟨KernelIdeal.S_, .i32⟩) (StableHlo.after kst1 V) = rdR (.of ReferenceIdeal.main_call10_call0_v3 : StableHlo.TRef ReferenceIdeal.sig ⟨KernelIdeal.S_, .i32⟩) (StableHlo.after rst1 V2)
    ∧ rdK (.of KernelIdeal.main_v15 : StableHlo.TRef KernelIdeal.sig ⟨KernelIdeal.S24, .i32⟩) (StableHlo.after kst1 V) = rdR (.of ReferenceIdeal.main_v86 : StableHlo.TRef ReferenceIdeal.sig ⟨KernelIdeal.S24, .i32⟩) (StableHlo.after rst1 V2) := by
  unfold kst1 rst1 rdK rdR
  unfold rdK rdR at h0 h1 h2 h3 h4
  refine ⟨?_, ?_, ?_, ?_, ?_, ?_⟩
  all_goals after_reads_simp
  all_goals simp only [StableHlo.TRef.ofBuf_toBuf, h0, h1, h2, h3, h4]
  all_goals rfl

/-- Stretch 2 of the kernel's shuffle: rounds of the split, second part. -/
def kst2 : List (HloOp KernelIdeal.τ KernelIdeal.sig (Elt F)) := (KernelIdeal.Gen.hostOps0_1.drop 73).take 60
/-- Stretch 2 of the reference's shuffle. -/
def rst2 : List (HloOp ReferenceIdeal.τ ReferenceIdeal.sig (Elt F)) := (ReferenceIdeal.Ops.ops21.drop 73).take 60

/-- Stretch 2 keeps the two programs together. -/
theorem step2 (V : VK F) (V2 : VR F)
    (h0 : rdK (.of KernelIdeal.main_call0_call0_call0_v1 : StableHlo.TRef KernelIdeal.sig ⟨KernelIdeal.S_, .i32⟩) V = rdR (.of ReferenceIdeal.main_call10_call0_call0_v1 : StableHlo.TRef ReferenceIdeal.sig ⟨KernelIdeal.S_, .i32⟩) V2)
    (h1 : rdK (.of KernelIdeal.main_call0_call0_call0_v46 : StableHlo.TRef KernelIdeal.sig ⟨KernelIdeal.S2, .i32⟩) V = rdR (.of ReferenceIdeal.main_call10_call0_call0_v46 : StableHlo.TRef ReferenceIdeal.sig ⟨KernelIdeal.S2, .i32⟩) V2)
    (h2 : rdK (.of KernelIdeal.main_call0_call0_call0_v47 : StableHlo.TRef KernelIdeal.sig ⟨KernelIdeal.S2, .i32⟩) V = rdR (.of ReferenceIdeal.main_call10_call0_call0_v47 : StableHlo.TRef ReferenceIdeal.sig ⟨KernelIdeal.S2, .i32⟩) V2)
    (h3 : rdK (.of KernelIdeal.main_call0_call0_v1 : StableHlo.TRef KernelIdeal.sig ⟨KernelIdeal.S_, .i32⟩) V = rdR (.of ReferenceIdeal.main_call10_call0_v1 : StableHlo.TRef ReferenceIdeal.sig ⟨KernelIdeal.S_, .i32⟩) V2)
    (h4 : rdK (.of KernelIdeal.main_call0_call0_v3 : StableHlo.TRef KernelIdeal.sig ⟨KernelIdeal.S_, .i32⟩) V = rdR (.of ReferenceIdeal.main_call10_call0_v3 : StableHlo.TRef ReferenceIdeal.sig ⟨KernelIdeal.S_, .i32⟩) V2)
    (h5 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_call0_call0_call0_v1 : StableHlo.TRef KernelIdeal.sig ⟨KernelIdeal.S_, .i32⟩) (StableHlo.after kst2 V) = rdR (.of ReferenceIdeal.main_call10_call0_call0_v1 : StableHlo.TRef ReferenceIdeal.sig ⟨KernelIdeal.S_, .i32⟩) (StableHlo.after rst2 V2)
    ∧ rdK (.of KernelIdeal.main_call0_call0_call0_v88 : StableHlo.TRef KernelIdeal.sig ⟨KernelIdeal.S2, .i32⟩) (StableHlo.after kst2 V) = rdR (.of ReferenceIdeal.main_call10_call0_call0_v88 : StableHlo.TRef ReferenceIdeal.sig ⟨KernelIdeal.S2, .i32⟩) (StableHlo.after rst2 V2)
    ∧ rdK (.of KernelIdeal.main_call0_call0_call0_v94 : StableHlo.TRef KernelIdeal.sig ⟨KernelIdeal.S2, .i32⟩) (StableHlo.after kst2 V) = rdR (.of ReferenceIdeal.main_call10_call0_call0_v94 : StableHlo.TRef ReferenceIdeal.sig ⟨KernelIdeal.S2, .i32⟩) (StableHlo.after rst2 V2)
    ∧ rdK (.of KernelIdeal.main_call0_call0_v1 : StableHlo.TRef KernelIdeal.sig ⟨KernelIdeal.S_, .i32⟩) (StableHlo.after kst2 V) = rdR (.of ReferenceIdeal.main_call10_call0_v1 : StableHlo.TRef ReferenceIdeal.sig ⟨KernelIdeal.S_, .i32⟩) (StableHlo.after rst2 V2)
    ∧ rdK (.of KernelIdeal.main_call0_call0_v3 : StableHlo.TRef KernelIdeal.sig ⟨KernelIdeal.S_, .i32⟩) (StableHlo.after kst2 V) = rdR (.of ReferenceIdeal.main_call10_call0_v3 : StableHlo.TRef ReferenceIdeal.sig ⟨KernelIdeal.S_, .i32⟩) (StableHlo.after rst2 V2)
    ∧ rdK (.of KernelIdeal.main_v15 : StableHlo.TRef KernelIdeal.sig ⟨KernelIdeal.S24, .i32⟩) (StableHlo.after kst2 V) = rdR (.of ReferenceIdeal.main_v86 : StableHlo.TRef ReferenceIdeal.sig ⟨KernelIdeal.S24, .i32⟩) (StableHlo.after rst2 V2) := by
  unfold kst2 rst2 rdK rdR
  unfold rdK rdR at h0 h1 h2 h3 h4 h5
  refine ⟨?_, ?_, ?_, ?_, ?_, ?_⟩
  all_goals after_reads_simp
  all_goals simp only [StableHlo.TRef.ofBuf_toBuf, h0, h1, h2, h3, h4, h5]
  all_goals rfl

/-- Stretch 3 of the kernel's shuffle: rounds of the split, third part. -/
def kst3 : List (HloOp KernelIdeal.τ KernelIdeal.sig (Elt F)) := (KernelIdeal.Gen.hostOps0_1.drop 133).take 60
/-- Stretch 3 of the reference's shuffle. -/
def rst3 : List (HloOp ReferenceIdeal.τ ReferenceIdeal.sig (Elt F)) := (ReferenceIdeal.Ops.ops21.drop 133).take 60

/-- Stretch 3 keeps the two programs together. -/
theorem step3 (V : VK F) (V2 : VR F)
    (h0 : rdK (.of KernelIdeal.main_call0_call0_call0_v1 : StableHlo.TRef KernelIdeal.sig ⟨KernelIdeal.S_, .i32⟩) V = rdR (.of ReferenceIdeal.main_call10_call0_call0_v1 : StableHlo.TRef ReferenceIdeal.sig ⟨KernelIdeal.S_, .i32⟩) V2)
    (h1 : rdK (.of KernelIdeal.main_call0_call0_call0_v88 : StableHlo.TRef KernelIdeal.sig ⟨KernelIdeal.S2, .i32⟩) V = rdR (.of ReferenceIdeal.main_call10_call0_call0_v88 : StableHlo.TRef ReferenceIdeal.sig ⟨KernelIdeal.S2, .i32⟩) V2)
    (h2 : rdK (.of KernelIdeal.main_call0_call0_call0_v94 : StableHlo.TRef KernelIdeal.sig ⟨KernelIdeal.S2, .i32⟩) V = rdR (.of ReferenceIdeal.main_call10_call0_call0_v94 : StableHlo.TRef ReferenceIdeal.sig ⟨KernelIdeal.S2, .i32⟩) V2)
    (h3 : rdK (.of KernelIdeal.main_call0_call0_v1 : StableHlo.TRef KernelIdeal.sig ⟨KernelIdeal.S_, .i32⟩) V = rdR (.of ReferenceIdeal.main_call10_call0_v1 : StableHlo.TRef ReferenceIdeal.sig ⟨KernelIdeal.S_, .i32⟩) V2)
    (h4 : rdK (.of KernelIdeal.main_call0_call0_v3 : StableHlo.TRef KernelIdeal.sig ⟨KernelIdeal.S_, .i32⟩) V = rdR (.of ReferenceIdeal.main_call10_call0_v3 : StableHlo.TRef ReferenceIdeal.sig ⟨KernelIdeal.S_, .i32⟩) V2)
    (h5 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_call0_call0_call0_v1 : StableHlo.TRef KernelIdeal.sig ⟨KernelIdeal.S_, .i32⟩) (StableHlo.after kst3 V) = rdR (.of ReferenceIdeal.main_call10_call0_call0_v1 : StableHlo.TRef ReferenceIdeal.sig ⟨KernelIdeal.S_, .i32⟩) (StableHlo.after rst3 V2)
    ∧ rdK (.of KernelIdeal.main_call0_call0_call0_v141 : StableHlo.TRef KernelIdeal.sig ⟨KernelIdeal.S2, .i32⟩) (StableHlo.after kst3 V) = rdR (.of ReferenceIdeal.main_call10_call0_call0_v141 : StableHlo.TRef ReferenceIdeal.sig ⟨KernelIdeal.S2, .i32⟩) (StableHlo.after rst3 V2)
    ∧ rdK (.of KernelIdeal.main_call0_call0_call0_v142 : StableHlo.TRef KernelIdeal.sig ⟨KernelIdeal.S2, .i32⟩) (StableHlo.after kst3 V) = rdR (.of ReferenceIdeal.main_call10_call0_call0_v142 : StableHlo.TRef ReferenceIdeal.sig ⟨KernelIdeal.S2, .i32⟩) (StableHlo.after rst3 V2)
    ∧ rdK (.of KernelIdeal.main_call0_call0_v1 : StableHlo.TRef KernelIdeal.sig ⟨KernelIdeal.S_, .i32⟩) (StableHlo.after kst3 V) = rdR (.of ReferenceIdeal.main_call10_call0_v1 : StableHlo.TRef ReferenceIdeal.sig ⟨KernelIdeal.S_, .i32⟩) (StableHlo.after rst3 V2)
    ∧ rdK (.of KernelIdeal.main_v15 : StableHlo.TRef KernelIdeal.sig ⟨KernelIdeal.S24, .i32⟩) (StableHlo.after kst3 V) = rdR (.of ReferenceIdeal.main_v86 : StableHlo.TRef ReferenceIdeal.sig ⟨KernelIdeal.S24, .i32⟩) (StableHlo.after rst3 V2) := by
  unfold kst3 rst3 rdK rdR
  unfold rdK rdR at h0 h1 h2 h3 h4 h5
  refine ⟨?_, ?_, ?_, ?_, ?_⟩
  all_goals after_reads_simp
  all_goals simp only [StableHlo.TRef.ofBuf_toBuf, h0, h1, h2, h3, h4, h5]
  all_goals rfl

/-- Stretch 4 of the kernel's shuffle: rounds of the split, last part. -/
def kst4 : List (HloOp KernelIdeal.τ KernelIdeal.sig (Elt F)) := (KernelIdeal.Gen.hostOps0_1.drop 193).take 42
/-- Stretch 4 of the reference's shuffle. -/
def rst4 : List (HloOp ReferenceIdeal.τ ReferenceIdeal.sig (Elt F)) := (ReferenceIdeal.Ops.ops21.drop 193).take 42

/-- Stretch 4 keeps the two programs together. -/
theorem step4 (V : VK F) (V2 : VR F)
    (h0 : rdK (.of KernelIdeal.main_call0_call0_call0_v1 : StableHlo.TRef KernelIdeal.sig ⟨KernelIdeal.S_, .i32⟩) V = rdR (.of ReferenceIdeal.main_call10_call0_call0_v1 : StableHlo.TRef ReferenceIdeal.sig ⟨KernelIdeal.S_, .i32⟩) V2)
    (h1 : rdK (.of KernelIdeal.main_call0_call0_call0_v141 : StableHlo.TRef KernelIdeal.sig ⟨KernelIdeal.S2, .i32⟩) V = rdR (.of ReferenceIdeal.main_call10_call0_call0_v141 : StableHlo.TRef ReferenceIdeal.sig ⟨KernelIdeal.S2, .i32⟩) V2)
    (h2 : rdK (.of KernelIdeal.main_call0_call0_call0_v142 : StableHlo.TRef KernelIdeal.sig ⟨KernelIdeal.S2, .i32⟩) V = rdR (.of ReferenceIdeal.main_call10_call0_call0_v142 : StableHlo.TRef ReferenceIdeal.sig ⟨KernelIdeal.S2, .i32⟩) V2)
    (h3 : rdK (.of KernelIdeal.main_call0_call0_v1 : StableHlo.TRef KernelIdeal.sig ⟨KernelIdeal.S_, .i32⟩) V = rdR (.of ReferenceIdeal.main_call10_call0_v1 : StableHlo.TRef ReferenceIdeal.sig ⟨KernelIdeal.S_, .i32⟩) V2)
    (h4 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_call0_call0_v11_0 : StableHlo.TRef KernelIdeal.sig ⟨KernelIdeal.S2, .i32⟩) (StableHlo.after kst4 V) = rdR (.of ReferenceIdeal.main_call10_call0_v11_0 : StableHlo.TRef ReferenceIdeal.sig ⟨KernelIdeal.S2, .i32⟩) (StableHlo.after rst4 V2)
    ∧ rdK (.of KernelIdeal.main_call0_call0_v11_1 : StableHlo.TRef KernelIdeal.sig ⟨KernelIdeal.S2, .i32⟩) (StableHlo.after kst4 V) = rdR (.of ReferenceIdeal.main_call10_call0_v11_1 : StableHlo.TRef ReferenceIdeal.sig ⟨KernelIdeal.S2, .i32⟩) (StableHlo.after rst4 V2)
    ∧ rdK (.of KernelIdeal.main_v15 : StableHlo.TRef KernelIdeal.sig ⟨KernelIdeal.S24, .i32⟩) (StableHlo.after kst4 V) = rdR (.of ReferenceIdeal.main_v86 : StableHlo.TRef ReferenceIdeal.sig ⟨KernelIdeal.S24, .i32⟩) (StableHlo.after rst4 V2) := by
  unfold kst4 rst4 rdK rdR
  unfold rdK rdR at h0 h1 h2 h3 h4
  refine ⟨?_, ?_, ?_⟩
  all_goals after_reads_simp
  all_goals simp only [StableHlo.TRef.ofBuf_toBuf, h0, h1, h2, h3, h4]
  all_goals rfl

/-- Stretch 5a of the kernel's shuffle: the split's two columns. -/
def kst5a : List (HloOp KernelIdeal.τ KernelIdeal.sig (Elt F)) := (KernelIdeal.Gen.hostOps0_1.drop 235).take 2
/-- Stretch 5a of the reference's shuffle. -/
def rst5a : List (HloOp ReferenceIdeal.τ ReferenceIdeal.sig (Elt F)) := (ReferenceIdeal.Ops.ops21.drop 235).take 2

/-- Stretch 5a keeps the two programs together. -/
theorem step5a (V : VK F) (V2 : VR F)
    (h0 : rdK (.of KernelIdeal.main_call0_call0_v11_0 : StableHlo.TRef KernelIdeal.sig ⟨KernelIdeal.S2, .i32⟩) V = rdR (.of ReferenceIdeal.main_call10_call0_v11_0 : StableHlo.TRef ReferenceIdeal.sig ⟨KernelIdeal.S2, .i32⟩) V2)
    (h1 : rdK (.of KernelIdeal.main_call0_call0_v11_1 : StableHlo.TRef KernelIdeal.sig ⟨KernelIdeal.S2, .i32⟩) V = rdR (.of ReferenceIdeal.main_call10_call0_v11_1 : StableHlo.TRef ReferenceIdeal.sig ⟨KernelIdeal.S2, .i32⟩) V2)
    (h2 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_call0_call0_v12 : StableHlo.TRef KernelIdeal.sig ⟨KernelIdeal.S2x1, .i32⟩) (StableHlo.after kst5a V) = rdR (.of ReferenceIdeal.main_call10_call0_v12 : StableHlo.TRef ReferenceIdeal.sig ⟨KernelIdeal.S2x1, .i32⟩) (StableHlo.after rst5a V2)
    ∧ rdK (.of KernelIdeal.main_call0_call0_v13 : StableHlo.TRef KernelIdeal.sig ⟨KernelIdeal.S2x1, .i32⟩) (StableHlo.after kst5a V) = rdR (.of ReferenceIdeal.main_call10_call0_v13 : StableHlo.TRef ReferenceIdeal.sig ⟨KernelIdeal.S2x1, .i32⟩) (StableHlo.after rst5a V2)
    ∧ rdK (.of KernelIdeal.main_v15 : StableHlo.TRef KernelIdeal.sig ⟨KernelIdeal.S24, .i32⟩) (StableHlo.after kst5a V) = rdR (.of ReferenceIdeal.main_v86 : StableHlo.TRef ReferenceIdeal.sig ⟨KernelIdeal.S24, .i32⟩) (StableHlo.after rst5a V2) := by
  unfold kst5a rst5a rdK rdR
  unfold rdK rdR at h0 h1 h2
  refine ⟨?_, ?_, ?_⟩
  all_goals after_reads_simp
  all_goals simp only [StableHlo.TRef.ofBuf_toBuf, h0, h1, h2]
  all_goals rfl

/-- Two columns side by side, told apart only by what the columns hold. -/
theorem columns_same {a a' b b' : IVec KernelIdeal.S2x1 32} (h h') (ha : a = a') (hb : b = b') :
    concatenate KernelIdeal.S2x2 1 [⟨KernelIdeal.S2x1, a⟩, ⟨KernelIdeal.S2x1, b⟩] h
      = concatenate KernelIdeal.S2x2 1 [⟨KernelIdeal.S2x1, a'⟩, ⟨KernelIdeal.S2x1, b'⟩] h' := by
  subst ha
  subst hb
  rfl

/-- Stretch 5b of the kernel's shuffle: the two columns side by side. -/
def kst5b : List (HloOp KernelIdeal.τ KernelIdeal.sig (Elt F)) := (KernelIdeal.Gen.hostOps0_1.drop 237).take 1
/-- Stretch 5b of the reference's shuffle. -/
def rst5b : List (HloOp ReferenceIdeal.τ ReferenceIdeal.sig (Elt F)) := (ReferenceIdeal.Ops.ops21.drop 237).take 1

/-- Stretch 5b keeps the two programs together. -/
theorem step5b (V : VK F) (V2 : VR F)
    (h0 : rdK (.of KernelIdeal.main_call0_call0_v12 : StableHlo.TRef KernelIdeal.sig ⟨KernelIdeal.S2x1, .i32⟩) V = rdR (.of ReferenceIdeal.main_call10_call0_v12 : StableHlo.TRef ReferenceIdeal.sig ⟨KernelIdeal.S2x1, .i32⟩) V2)
    (h1 : rdK (.of KernelIdeal.main_call0_call0_v13 : StableHlo.TRef KernelIdeal.sig ⟨KernelIdeal.S2x1, .i32⟩) V = rdR (.of ReferenceIdeal.main_call10_call0_v13 : StableHlo.TRef ReferenceIdeal.sig ⟨KernelIdeal.S2x1, .i32⟩) V2)
    (h2 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_call0_v0 : StableHlo.TRef KernelIdeal.sig ⟨KernelIdeal.S2x2, .i32⟩) (StableHlo.after kst5b V) = rdR (.of ReferenceIdeal.main_call10_v0 : StableHlo.TRef ReferenceIdeal.sig ⟨KernelIdeal.S2x2, .i32⟩) (StableHlo.after rst5b V2)
    ∧ rdK (.of KernelIdeal.main_v15 : StableHlo.TRef KernelIdeal.sig ⟨KernelIdeal.S24, .i32⟩) (StableHlo.after kst5b V) = rdR (.of ReferenceIdeal.main_v86 : StableHlo.TRef ReferenceIdeal.sig ⟨KernelIdeal.S24, .i32⟩) (StableHlo.after rst5b V2) := by
  unfold kst5b rst5b rdK rdR
  unfold rdK rdR at h0 h1 h2
  refine ⟨?_, ?_⟩
  all_goals after_reads_simp
  · simp only [StableHlo.upto_zero, StableHlo.TRef.ofBuf_toBuf]
    exact columns_same _ _ h0 h1
  · exact h2

/-- Stretch 5c of the kernel's shuffle: the second key and the counters of the draw. -/
def kst5c : List (HloOp KernelIdeal.τ KernelIdeal.sig (Elt F)) := (KernelIdeal.Gen.hostOps0_1.drop 238).take 17
/-- Stretch 5c of the reference's shuffle. -/
def rst5c : List (HloOp ReferenceIdeal.τ ReferenceIdeal.sig (Elt F)) := (ReferenceIdeal.Ops.ops21.drop 238).take 17

/-- Stretch 5c keeps the two programs together. -/
theorem step5c (V : VK F) (V2 : VR F)
    (h0 : rdK (.of KernelIdeal.main_call0_v0 : StableHlo.TRef KernelIdeal.sig ⟨KernelIdeal.S2x2, .i32⟩) V = rdR (.of ReferenceIdeal.main_call10_v0 : StableHlo.TRef ReferenceIdeal.sig ⟨KernelIdeal.S2x2, .i32⟩) V2)
    (h1 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_call0_v14 : StableHlo.TRef KernelIdeal.sig ⟨KernelIdeal.S24, .i32⟩) (StableHlo.after kst5c V) = rdR (.of ReferenceIdeal.main_call10_v14 : StableHlo.TRef ReferenceIdeal.sig ⟨KernelIdeal.S24, .i32⟩) (StableHlo.after rst5c V2)
    ∧ rdK (.of KernelIdeal.main_call0_v15 : StableHlo.TRef KernelIdeal.sig ⟨KernelIdeal.S24, .i32⟩) (StableHlo.after kst5c V) = rdR (.of ReferenceIdeal.main_call10_v15 : StableHlo.TRef ReferenceIdeal.sig ⟨KernelIdeal.S24, .i32⟩) (StableHlo.after rst5c V2)
    ∧ rdK (.of KernelIdeal.main_call0_v6 : StableHlo.TRef KernelIdeal.sig ⟨KernelIdeal.S_, .i32⟩) (StableHlo.after kst5c V) = rdR (.of ReferenceIdeal.main_call10_v6 : StableHlo.TRef ReferenceIdeal.sig ⟨KernelIdeal.S_, .i32⟩) (StableHlo.after rst5c V2)
    ∧ rdK (.of KernelIdeal.main_call0_v8 : StableHlo.TRef KernelIdeal.sig ⟨KernelIdeal.S_, .i32⟩) (StableHlo.after kst5c V) = rdR (.of ReferenceIdeal.main_call10_v8 : StableHlo.TRef ReferenceIdeal.sig ⟨KernelIdeal.S_, .i32⟩) (StableHlo.after rst5c V2)
    ∧ rdK (.of KernelIdeal.main_v15 : StableHlo.TRef KernelIdeal.sig ⟨KernelIdeal.S24, .i32⟩) (StableHlo.after kst5c V) = rdR (.of ReferenceIdeal.main_v86 : StableHlo.TRef ReferenceIdeal.sig ⟨KernelIdeal.S24, .i32⟩) (StableHlo.after rst5c V2) := by
  unfold kst5c rst5c rdK rdR
  unfold rdK rdR at h0 h1
  refine ⟨?_, ?_, ?_, ?_, ?_⟩
  all_goals after_reads_simp
  all_goals simp only [StableHlo.TRef.ofBuf_toBuf, h0, h1]
  all_goals rfl

/-- Stretch 6 of the kernel's shuffle: rounds of the draw, first part. -/
def kst6 : List (HloOp KernelIdeal.τ KernelIdeal.sig (Elt F)) := (KernelIdeal.Gen.hostOps0_1.drop 255).take 60
/-- Stretch 6 of the reference's shuffle. -/
def rst6 : List (HloOp ReferenceIdeal.τ ReferenceIdeal.sig (Elt F)) := (ReferenceIdeal.Ops.ops21.drop 255).take 60

/-- Stretch 6 keeps the two programs together. -/
theorem step6 (V : VK F) (V2 : VR F)
    (h0 : rdK (.of KernelIdeal.main_call0_v14 : StableHlo.TRef KernelIdeal.sig ⟨KernelIdeal.S24, .i32⟩) V = rdR (.of ReferenceIdeal.main_call10_v14 : StableHlo.TRef ReferenceIdeal.sig ⟨KernelIdeal.S24, .i32⟩) V2)
    (h1 : rdK (.of KernelIdeal.main_call0_v15 : StableHlo.TRef KernelIdeal.sig ⟨KernelIdeal.S24, .i32⟩) V = rdR (.of ReferenceIdeal.main_call10_v15 : StableHlo.TRef ReferenceIdeal.sig ⟨KernelIdeal.S24, .i32⟩) V2)
    (h2 : rdK (.of KernelIdeal.main_call0_v6 : StableHlo.TRef KernelIdeal.sig ⟨KernelIdeal.S_, .i32⟩) V = rdR (.of ReferenceIdeal.main_call10_v6 : StableHlo.TRef ReferenceIdeal.sig ⟨KernelIdeal.S_, .i32⟩) V2)
    (h3 : rdK (.of KernelIdeal.main_call0_v8 : StableHlo.TRef KernelIdeal.sig ⟨KernelIdeal.S_, .i32⟩) V = rdR (.of ReferenceIdeal.main_call10_v8 : StableHlo.TRef ReferenceIdeal.sig ⟨KernelIdeal.S_, .i32⟩) V2)
    (h4 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_call0_call1_v1 : StableHlo.TRef KernelIdeal.sig ⟨KernelIdeal.S_, .i32⟩) (StableHlo.after kst6 V) = rdR (.of ReferenceIdeal.main_call10_call1_v1 : StableHlo.TRef ReferenceIdeal.sig ⟨KernelIdeal.S_, .i32⟩) (StableHlo.after rst6 V2)
    ∧ rdK (.of KernelIdeal.main_call0_call1_v46 : StableHlo.TRef KernelIdeal.sig ⟨KernelIdeal.S24, .i32⟩) (StableHlo.after kst6 V) = rdR (.of ReferenceIdeal.main_call10_call1_v46 : StableHlo.TRef ReferenceIdeal.sig ⟨KernelIdeal.S24, .i32⟩) (StableHlo.after rst6 V2)
    ∧ rdK (.of KernelIdeal.main_call0_call1_v47 : StableHlo.TRef KernelIdeal.sig ⟨KernelIdeal.S24, .i32⟩) (StableHlo.after kst6 V) = rdR (.of ReferenceIdeal.main_call10_call1_v47 : StableHlo.TRef ReferenceIdeal.sig ⟨KernelIdeal.S24, .i32⟩) (StableHlo.after rst6 V2)
    ∧ rdK (.of KernelIdeal.main_call0_v6 : StableHlo.TRef KernelIdeal.sig ⟨KernelIdeal.S_, .i32⟩) (StableHlo.after kst6 V) = rdR (.of ReferenceIdeal.main_call10_v6 : StableHlo.TRef ReferenceIdeal.sig ⟨KernelIdeal.S_, .i32⟩) (StableHlo.after rst6 V2)
    ∧ rdK (.of KernelIdeal.main_call0_v8 : StableHlo.TRef KernelIdeal.sig ⟨KernelIdeal.S_, .i32⟩) (StableHlo.after kst6 V) = rdR (.of ReferenceIdeal.main_call10_v8 : StableHlo.TRef ReferenceIdeal.sig ⟨KernelIdeal.S_, .i32⟩) (StableHlo.after rst6 V2)
    ∧ rdK (.of KernelIdeal.main_v15 : StableHlo.TRef KernelIdeal.sig ⟨KernelIdeal.S24, .i32⟩) (StableHlo.after kst6 V) = rdR (.of ReferenceIdeal.main_v86 : StableHlo.TRef ReferenceIdeal.sig ⟨KernelIdeal.S24, .i32⟩) (StableHlo.after rst6 V2) := by
  unfold kst6 rst6 rdK rdR
  unfold rdK rdR at h0 h1 h2 h3 h4
  refine ⟨?_, ?_, ?_, ?_, ?_, ?_⟩
  all_goals after_reads_simp
  all_goals simp only [StableHlo.TRef.ofBuf_toBuf, h0, h1, h2, h3, h4]
  all_goals rfl

/-- Stretch 7 of the kernel's shuffle: rounds of the draw, second part. -/
def kst7 : List (HloOp KernelIdeal.τ KernelIdeal.sig (Elt F)) := (KernelIdeal.Gen.hostOps0_1.drop 315).take 60
/-- Stretch 7 of the reference's shuffle. -/
def rst7 : List (HloOp ReferenceIdeal.τ ReferenceIdeal.sig (Elt F)) := (ReferenceIdeal.Ops.ops21.drop 315).take 60

/-- Stretch 7 keeps the two programs together. -/
theorem step7 (V : VK F) (V2 : VR F)
    (h0 : rdK (.of KernelIdeal.main_call0_call1_v1 : StableHlo.TRef KernelIdeal.sig ⟨KernelIdeal.S_, .i32⟩) V = rdR (.of ReferenceIdeal.main_call10_call1_v1 : StableHlo.TRef ReferenceIdeal.sig ⟨KernelIdeal.S_, .i32⟩) V2)
    (h1 : rdK (.of KernelIdeal.main_call0_call1_v46 : StableHlo.TRef KernelIdeal.sig ⟨KernelIdeal.S24, .i32⟩) V = rdR (.of ReferenceIdeal.main_call10_call1_v46 : StableHlo.TRef ReferenceIdeal.sig ⟨KernelIdeal.S24, .i32⟩) V2)
    (h2 : rdK (.of KernelIdeal.main_call0_call1_v47 : StableHlo.TRef KernelIdeal.sig ⟨KernelIdeal.S24, .i32⟩) V = rdR (.of ReferenceIdeal.main_call10_call1_v47 : StableHlo.TRef ReferenceIdeal.sig ⟨KernelIdeal.S24, .i32⟩) V2)
    (h3 : rdK (.of KernelIdeal.main_call0_v6 : StableHlo.TRef KernelIdeal.sig ⟨KernelIdeal.S_, .i32⟩) V = rdR (.of ReferenceIdeal.main_call10_v6 : StableHlo.TRef ReferenceIdeal.sig ⟨KernelIdeal.S_, .i32⟩) V2)
    (h4 : rdK (.of KernelIdeal.main_call0_v8 : StableHlo.TRef KernelIdeal.sig ⟨KernelIdeal.S_, .i32⟩) V = rdR (.of ReferenceIdeal.main_call10_v8 : StableHlo.TRef ReferenceIdeal.sig ⟨KernelIdeal.S_, .i32⟩) V2)
    (h5 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_call0_call1_v1 : StableHlo.TRef KernelIdeal.sig ⟨KernelIdeal.S_, .i32⟩) (StableHlo.after kst7 V) = rdR (.of ReferenceIdeal.main_call10_call1_v1 : StableHlo.TRef ReferenceIdeal.sig ⟨KernelIdeal.S_, .i32⟩) (StableHlo.after rst7 V2)
    ∧ rdK (.of KernelIdeal.main_call0_call1_v88 : StableHlo.TRef KernelIdeal.sig ⟨KernelIdeal.S24, .i32⟩) (StableHlo.after kst7 V) = rdR (.of ReferenceIdeal.main_call10_call1_v88 : StableHlo.TRef ReferenceIdeal.sig ⟨KernelIdeal.S24, .i32⟩) (StableHlo.after rst7 V2)
    ∧ rdK (.of KernelIdeal.main_call0_call1_v94 : StableHlo.TRef KernelIdeal.sig ⟨KernelIdeal.S24, .i32⟩) (StableHlo.after kst7 V) = rdR (.of ReferenceIdeal.main_call10_call1_v94 : StableHlo.TRef ReferenceIdeal.sig ⟨KernelIdeal.S24, .i32⟩) (StableHlo.after rst7 V2)
    ∧ rdK (.of KernelIdeal.main_call0_v6 : StableHlo.TRef KernelIdeal.sig ⟨KernelIdeal.S_, .i32⟩) (StableHlo.after kst7 V) = rdR (.of ReferenceIdeal.main_call10_v6 : StableHlo.TRef ReferenceIdeal.sig ⟨KernelIdeal.S_, .i32⟩) (StableHlo.after rst7 V2)
    ∧ rdK (.of KernelIdeal.main_call0_v8 : StableHlo.TRef KernelIdeal.sig ⟨KernelIdeal.S_, .i32⟩) (StableHlo.after kst7 V) = rdR (.of ReferenceIdeal.main_call10_v8 : StableHlo.TRef ReferenceIdeal.sig ⟨KernelIdeal.S_, .i32⟩) (StableHlo.after rst7 V2)
    ∧ rdK (.of KernelIdeal.main_v15 : StableHlo.TRef KernelIdeal.sig ⟨KernelIdeal.S24, .i32⟩) (StableHlo.after kst7 V) = rdR (.of ReferenceIdeal.main_v86 : StableHlo.TRef ReferenceIdeal.sig ⟨KernelIdeal.S24, .i32⟩) (StableHlo.after rst7 V2) := by
  unfold kst7 rst7 rdK rdR
  unfold rdK rdR at h0 h1 h2 h3 h4 h5
  refine ⟨?_, ?_, ?_, ?_, ?_, ?_⟩
  all_goals after_reads_simp
  all_goals simp only [StableHlo.TRef.ofBuf_toBuf, h0, h1, h2, h3, h4, h5]
  all_goals rfl

/-- Stretch 8 of the kernel's shuffle: rounds of the draw, third part. -/
def kst8 : List (HloOp KernelIdeal.τ KernelIdeal.sig (Elt F)) := (KernelIdeal.Gen.hostOps0_1.drop 375).take 60
/-- Stretch 8 of the reference's shuffle. -/
def rst8 : List (HloOp ReferenceIdeal.τ ReferenceIdeal.sig (Elt F)) := (ReferenceIdeal.Ops.ops21.drop 375).take 60

/-- Stretch 8 keeps the two programs together. -/
theorem step8 (V : VK F) (V2 : VR F)
    (h0 : rdK (.of KernelIdeal.main_call0_call1_v1 : StableHlo.TRef KernelIdeal.sig ⟨KernelIdeal.S_, .i32⟩) V = rdR (.of ReferenceIdeal.main_call10_call1_v1 : StableHlo.TRef ReferenceIdeal.sig ⟨KernelIdeal.S_, .i32⟩) V2)
    (h1 : rdK (.of KernelIdeal.main_call0_call1_v88 : StableHlo.TRef KernelIdeal.sig ⟨KernelIdeal.S24, .i32⟩) V = rdR (.of ReferenceIdeal.main_call10_call1_v88 : StableHlo.TRef ReferenceIdeal.sig ⟨KernelIdeal.S24, .i32⟩) V2)
    (h2 : rdK (.of KernelIdeal.main_call0_call1_v94 : StableHlo.TRef KernelIdeal.sig ⟨KernelIdeal.S24, .i32⟩) V = rdR (.of ReferenceIdeal.main_call10_call1_v94 : StableHlo.TRef ReferenceIdeal.sig ⟨KernelIdeal.S24, .i32⟩) V2)
    (h3 : rdK (.of KernelIdeal.main_call0_v6 : StableHlo.TRef KernelIdeal.sig ⟨KernelIdeal.S_, .i32⟩) V = rdR (.of ReferenceIdeal.main_call10_v6 : StableHlo.TRef ReferenceIdeal.sig ⟨KernelIdeal.S_, .i32⟩) V2)
    (h4 : rdK (.of KernelIdeal.main_call0_v8 : StableHlo.TRef KernelIdeal.sig ⟨KernelIdeal.S_, .i32⟩) V = rdR (.of ReferenceIdeal.main_call10_v8 : StableHlo.TRef ReferenceIdeal.sig ⟨KernelIdeal.S_, .i32⟩) V2)
    (h5 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_call0_call1_v1 : StableHlo.TRef KernelIdeal.sig ⟨KernelIdeal.S_, .i32⟩) (StableHlo.after kst8 V) = rdR (.of ReferenceIdeal.main_call10_call1_v1 : StableHlo.TRef ReferenceIdeal.sig ⟨KernelIdeal.S_, .i32⟩) (StableHlo.after rst8 V2)
    ∧ rdK (.of KernelIdeal.main_call0_call1_v141 : StableHlo.TRef KernelIdeal.sig ⟨KernelIdeal.S24, .i32⟩) (StableHlo.after kst8 V) = rdR (.of ReferenceIdeal.main_call10_call1_v141 : StableHlo.TRef ReferenceIdeal.sig ⟨KernelIdeal.S24, .i32⟩) (StableHlo.after rst8 V2)
    ∧ rdK (.of KernelIdeal.main_call0_call1_v142 : StableHlo.TRef KernelIdeal.sig ⟨KernelIdeal.S24, .i32⟩) (StableHlo.after kst8 V) = rdR (.of ReferenceIdeal.main_call10_call1_v142 : StableHlo.TRef ReferenceIdeal.sig ⟨KernelIdeal.S24, .i32⟩) (StableHlo.after rst8 V2)
    ∧ rdK (.of KernelIdeal.main_call0_v6 : StableHlo.TRef KernelIdeal.sig ⟨KernelIdeal.S_, .i32⟩) (StableHlo.after kst8 V) = rdR (.of ReferenceIdeal.main_call10_v6 : StableHlo.TRef ReferenceIdeal.sig ⟨KernelIdeal.S_, .i32⟩) (StableHlo.after rst8 V2)
    ∧ rdK (.of KernelIdeal.main_v15 : StableHlo.TRef KernelIdeal.sig ⟨KernelIdeal.S24, .i32⟩) (StableHlo.after kst8 V) = rdR (.of ReferenceIdeal.main_v86 : StableHlo.TRef ReferenceIdeal.sig ⟨KernelIdeal.S24, .i32⟩) (StableHlo.after rst8 V2) := by
  unfold kst8 rst8 rdK rdR
  unfold rdK rdR at h0 h1 h2 h3 h4 h5
  refine ⟨?_, ?_, ?_, ?_, ?_⟩
  all_goals after_reads_simp
  all_goals simp only [StableHlo.TRef.ofBuf_toBuf, h0, h1, h2, h3, h4, h5]
  all_goals rfl

/-- Stretch 9 of the kernel's shuffle: rounds of the draw, last part. -/
def kst9 : List (HloOp KernelIdeal.τ KernelIdeal.sig (Elt F)) := (KernelIdeal.Gen.hostOps0_1.drop 435).take 42
/-- Stretch 9 of the reference's shuffle. -/
def rst9 : List (HloOp ReferenceIdeal.τ ReferenceIdeal.sig (Elt F)) := (ReferenceIdeal.Ops.ops21.drop 435).take 42

/-- Stretch 9 keeps the two programs together. -/
theorem step9 (V : VK F) (V2 : VR F)
    (h0 : rdK (.of KernelIdeal.main_call0_call1_v1 : StableHlo.TRef KernelIdeal.sig ⟨KernelIdeal.S_, .i32⟩) V = rdR (.of ReferenceIdeal.main_call10_call1_v1 : StableHlo.TRef ReferenceIdeal.sig ⟨KernelIdeal.S_, .i32⟩) V2)
    (h1 : rdK (.of KernelIdeal.main_call0_call1_v141 : StableHlo.TRef KernelIdeal.sig ⟨KernelIdeal.S24, .i32⟩) V = rdR (.of ReferenceIdeal.main_call10_call1_v141 : StableHlo.TRef ReferenceIdeal.sig ⟨KernelIdeal.S24, .i32⟩) V2)
    (h2 : rdK (.of KernelIdeal.main_call0_call1_v142 : StableHlo.TRef KernelIdeal.sig ⟨KernelIdeal.S24, .i32⟩) V = rdR (.of ReferenceIdeal.main_call10_call1_v142 : StableHlo.TRef ReferenceIdeal.sig ⟨KernelIdeal.S24, .i32⟩) V2)
    (h3 : rdK (.of KernelIdeal.main_call0_v6 : StableHlo.TRef KernelIdeal.sig ⟨KernelIdeal.S_, .i32⟩) V = rdR (.of ReferenceIdeal.main_call10_v6 : StableHlo.TRef ReferenceIdeal.sig ⟨KernelIdeal.S_, .i32⟩) V2)
    (h4 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_call0_v16_0 : StableHlo.TRef KernelIdeal.sig ⟨KernelIdeal.S24, .i32⟩) (StableHlo.after kst9 V) = rdR (.of ReferenceIdeal.main_call10_v16_0 : StableHlo.TRef ReferenceIdeal.sig ⟨KernelIdeal.S24, .i32⟩) (StableHlo.after rst9 V2)
    ∧ rdK (.of KernelIdeal.main_call0_v16_1 : StableHlo.TRef KernelIdeal.sig ⟨KernelIdeal.S24, .i32⟩) (StableHlo.after kst9 V) = rdR (.of ReferenceIdeal.main_call10_v16_1 : StableHlo.TRef ReferenceIdeal.sig ⟨KernelIdeal.S24, .i32⟩) (StableHlo.after rst9 V2)
    ∧ rdK (.of KernelIdeal.main_v15 : StableHlo.TRef KernelIdeal.sig ⟨KernelIdeal.S24, .i32⟩) (StableHlo.after kst9 V) = rdR (.of ReferenceIdeal.main_v86 : StableHlo.TRef ReferenceIdeal.sig ⟨KernelIdeal.S24, .i32⟩) (StableHlo.after rst9 V2) := by
  unfold kst9 rst9 rdK rdR
  unfold rdK rdR at h0 h1 h2 h3 h4
  refine ⟨?_, ?_, ?_⟩
  all_goals after_reads_simp
  all_goals simp only [StableHlo.TRef.ofBuf_toBuf, h0, h1, h2, h3, h4]
  all_goals rfl

/-- Stretch 10 of the kernel's shuffle: the sort by the drawn words. -/
def kst10 : List (HloOp KernelIdeal.τ KernelIdeal.sig (Elt F)) := (KernelIdeal.Gen.hostOps0_1.drop 477).take 3
/-- Stretch 10 of the reference's shuffle. -/
def rst10 : List (HloOp ReferenceIdeal.τ ReferenceIdeal.sig (Elt F)) := (ReferenceIdeal.Ops.ops21.drop 477).take 3

/-- Stretch 10 keeps the two programs together. -/
theorem step10 (V : VK F) (V2 : VR F)
    (h0 : rdK (.of KernelIdeal.main_call0_v16_0 : StableHlo.TRef KernelIdeal.sig ⟨KernelIdeal.S24, .i32⟩) V = rdR (.of ReferenceIdeal.main_call10_v16_0 : StableHlo.TRef ReferenceIdeal.sig ⟨KernelIdeal.S24, .i32⟩) V2)
    (h1 : rdK (.of KernelIdeal.main_call0_v16_1 : StableHlo.TRef KernelIdeal.sig ⟨KernelIdeal.S24, .i32⟩) V = rdR (.of ReferenceIdeal.main_call10_v16_1 : StableHlo.TRef ReferenceIdeal.sig ⟨KernelIdeal.S24, .i32⟩) V2)
    (h2 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_v16 : StableHlo.TRef KernelIdeal.sig ⟨KernelIdeal.S24, .i32⟩) (StableHlo.after kst10 V) = rdR (.of ReferenceIdeal.main_v87 : StableHlo.TRef ReferenceIdeal.sig ⟨KernelIdeal.S24, .i32⟩) (StableHlo.after rst10 V2) := by
  unfold kst10 rst10 rdK rdR
  unfold rdK rdR at h0 h1 h2
  all_goals after_reads_simp
  all_goals simp only [StableHlo.TRef.ofBuf_toBuf, h0, h1, h2]
  all_goals rfl

/-- The kernel's shuffle is its stretches, one after another. -/
theorem kernel_split : (KernelIdeal.Gen.hostOps0_1 : List (HloOp KernelIdeal.τ KernelIdeal.sig (Elt F)))
    = kst0 ++ (kst1 ++ (kst2 ++ (kst3 ++ (kst4 ++ (kst5a ++ (kst5b ++ (kst5c ++ (kst6 ++ (kst7 ++ (kst8 ++ (kst9 ++ (kst10)))))))))))) := by
  chain_rfl

/-- The reference's shuffle is its stretches, one after another. -/
theorem reference_split : (ReferenceIdeal.Ops.grpI : List (HloOp ReferenceIdeal.τ ReferenceIdeal.sig (Elt F)))
    = rst0 ++ (rst1 ++ (rst2 ++ (rst3 ++ (rst4 ++ (rst5a ++ (rst5b ++ (rst5c ++ (rst6 ++ (rst7 ++ (rst8 ++ (rst9 ++ (rst10)))))))))))) := by
  chain_rfl

/-- From the same key and the same list the two programs draw the same permutation. -/
theorem shuffle_same (V : VK F) (V2 : VR F)
    (h0 : rdK (.of KernelIdeal.main_v14 : StableHlo.TRef KernelIdeal.sig ⟨KernelIdeal.S2, .i32⟩) V = rdR (.of ReferenceIdeal.main_v85 : StableHlo.TRef ReferenceIdeal.sig ⟨KernelIdeal.S2, .i32⟩) V2)
    (h1 : rdK (.of KernelIdeal.main_v15 : StableHlo.TRef KernelIdeal.sig ⟨KernelIdeal.S24, .i32⟩) V = rdR (.of ReferenceIdeal.main_v86 : StableHlo.TRef ReferenceIdeal.sig ⟨KernelIdeal.S24, .i32⟩) V2) :
    rdK (.of KernelIdeal.main_v16 : StableHlo.TRef KernelIdeal.sig ⟨KernelIdeal.S24, .i32⟩) (StableHlo.after KernelIdeal.Gen.hostOps0_1 V) = rdR (.of ReferenceIdeal.main_v87 : StableHlo.TRef ReferenceIdeal.sig ⟨KernelIdeal.S24, .i32⟩) (StableHlo.after ReferenceIdeal.Ops.grpI V2) := by
  rw [kernel_split, reference_split]
  simp only [StableHlo.after_append]
  obtain ⟨a1_0, a1_1, a1_2, a1_3, a1_4⟩ := step0 _ _ h0 h1
  obtain ⟨a2_0, a2_1, a2_2, a2_3, a2_4, a2_5⟩ := step1 _ _ a1_0 a1_1 a1_2 a1_3 a1_4
  obtain ⟨a3_0, a3_1, a3_2, a3_3, a3_4, a3_5⟩ := step2 _ _ a2_0 a2_1 a2_2 a2_3 a2_4 a2_5
  obtain ⟨a4_0, a4_1, a4_2, a4_3, a4_4⟩ := step3 _ _ a3_0 a3_1 a3_2 a3_3 a3_4 a3_5
  obtain ⟨a5_0, a5_1, a5_2⟩ := step4 _ _ a4_0 a4_1 a4_2 a4_3 a4_4
  obtain ⟨b1_0, b1_1, b1_2⟩ := step5a _ _ a5_0 a5_1 a5_2
  obtain ⟨b2_0, b2_1⟩ := step5b _ _ b1_0 b1_1 b1_2
  obtain ⟨a6_0, a6_1, a6_2, a6_3, a6_4⟩ := step5c _ _ b2_0 b2_1
  obtain ⟨a7_0, a7_1, a7_2, a7_3, a7_4, a7_5⟩ := step6 _ _ a6_0 a6_1 a6_2 a6_3 a6_4
  obtain ⟨a8_0, a8_1, a8_2, a8_3, a8_4, a8_5⟩ := step7 _ _ a7_0 a7_1 a7_2 a7_3 a7_4 a7_5
  obtain ⟨a9_0, a9_1, a9_2, a9_3, a9_4⟩ := step8 _ _ a8_0 a8_1 a8_2 a8_3 a8_4 a8_5
  obtain ⟨a10_0, a10_1, a10_2⟩ := step9 _ _ a9_0 a9_1 a9_2 a9_3 a9_4
  exact step10 _ _ a10_0 a10_1 a10_2

end Cert.Perm
-- ==== Proof.PermRange.lean ====
/-
The permutation's entries: the shuffle sorts the numbers 0 to 23, so every entry is one of them (`shuffle_range`).
-/
module

public import proofs.«01_k».proof.Proof.Perm
public import proofs.«01_k».proof.Proof.RefRun

@[expose] public section

set_option maxRecDepth 16384
set_option maxHeartbeats 4000000

noncomputable section

namespace Cert.Perm

open Idealize.ShloMosaic Idealize.ShloMosaic.TcCoe

variable {F : FTy → Type} [FloatOps F]

/-- A sort of 24 numbered things, read off the numbers: every entry is one of the numbers. -/
theorem sort_range (x : IVec KernelIdeal.S24 32) (j : KernelIdeal.S24.Idx) :
    ∃ k : Fin 24, (Host.sort2 KernelIdeal.S24 0 ReferenceIdeal.comparator_i32_i32_d0 x (iotaInDim KernelIdeal.S24 32 0)).2 j
      = BitVec.ofNat 32 k.val := by
  refine ⟨(j.along (0 : Fin 1) (sortedFrom (fun k k' => ReferenceIdeal.comparator_i32_i32_d0
    (x (j.along (0 : Fin 1) k), iotaInDim KernelIdeal.S24 32 0 (j.along (0 : Fin 1) k))
    (x (j.along (0 : Fin 1) k'), iotaInDim KernelIdeal.S24 32 0 (j.along (0 : Fin 1) k')) == 1#1) (j 0))) 0, ?_⟩
  unfold Host.sort2
  rw [dif_pos (by decide)]
  rfl

/-- The last stretch sorts the list it finds, so what it leaves is an entry of that list. -/
theorem last_range (V : VR F) (j : KernelIdeal.S24.Idx)
    (h : rdR (.of ReferenceIdeal.main_v86 : StableHlo.TRef ReferenceIdeal.sig ⟨KernelIdeal.S24, .i32⟩) (StableHlo.after rst10 V) = iotaInDim KernelIdeal.S24 32 0) :
    ∃ k : Fin 24, (rdR (.of ReferenceIdeal.main_v87 : StableHlo.TRef ReferenceIdeal.sig ⟨KernelIdeal.S24, .i32⟩) (StableHlo.after rst10 V) : IVec KernelIdeal.S24 32) j = BitVec.ofNat 32 k.val := by
  have e : rdR (.of ReferenceIdeal.main_v86 : StableHlo.TRef ReferenceIdeal.sig ⟨KernelIdeal.S24, .i32⟩) (StableHlo.after rst10 V) = rdR (.of ReferenceIdeal.main_v86 : StableHlo.TRef ReferenceIdeal.sig ⟨KernelIdeal.S24, .i32⟩) V := by
    unfold rst10 rdR
    after_reads_simp
  rw [e] at h
  have e2 : rdR (.of ReferenceIdeal.main_v87 : StableHlo.TRef ReferenceIdeal.sig ⟨KernelIdeal.S24, .i32⟩) (StableHlo.after rst10 V) = (Host.sort2 KernelIdeal.S24 0 ReferenceIdeal.comparator_i32_i32_d0
      (rdR (.of ReferenceIdeal.main_call10_v17 : StableHlo.TRef ReferenceIdeal.sig ⟨KernelIdeal.S24, .i32⟩) (StableHlo.after rst10 V)) (rdR (.of ReferenceIdeal.main_v86 : StableHlo.TRef ReferenceIdeal.sig ⟨KernelIdeal.S24, .i32⟩) V)).2 := by
    unfold rst10 rdR
    after_reads_simp
    rfl
  rw [e2, h]
  exact sort_range _ j

/-- The drawn permutation's entries are positions below 24. -/
theorem shuffle_range (V2 : VR F) (h1 : rdR (.of ReferenceIdeal.main_v86 : StableHlo.TRef ReferenceIdeal.sig ⟨KernelIdeal.S24, .i32⟩) V2 = iotaInDim KernelIdeal.S24 32 0) (j : KernelIdeal.S24.Idx) :
    ∃ k : Fin 24, (rdR (.of ReferenceIdeal.main_v87 : StableHlo.TRef ReferenceIdeal.sig ⟨KernelIdeal.S24, .i32⟩) (StableHlo.after ReferenceIdeal.Ops.grpI V2) : IVec KernelIdeal.S24 32) j
      = BitVec.ofNat 32 k.val := by
  have h2 : rdR (.of ReferenceIdeal.main_v86 : StableHlo.TRef ReferenceIdeal.sig ⟨KernelIdeal.S24, .i32⟩) (StableHlo.after ReferenceIdeal.Ops.grpI V2) = iotaInDim KernelIdeal.S24 32 0 := by
    rw [← h1]
    unfold rdR
    rw [ReferenceIdeal.Ops.grpI_of V2 ReferenceIdeal.main_v86 (by decide +kernel)]
  revert h2
  rw [reference_split]
  simp only [StableHlo.after_append]
  exact fun h2 => last_range _ j h2

end Cert.Perm
-- ==== Proof.Same.lean ====
/-
The two programs' results are equal: both draw the same permutation, and at each place of it both read the vote at the
same window's first largest raised value.
-/
module

public import proofs.«01_k».proof.Proof.KRun
public import proofs.«01_k».proof.Proof.RefValue
public import proofs.«01_k».proof.Proof.PermRange
public import Idealize.ShloMosaic.Lib.StableHlo.ReadAt
public import Idealize.ShloMosaic.Lib.Pipeline.ValueKit

@[expose] public section

set_option maxRecDepth 16384
set_option maxHeartbeats 4000000

noncomputable section

namespace Cert.Same

open Idealize.ShloMosaic Idealize.ShloMosaic.TcCoe Idealize.SL.Sem
open Cert.Pick Cert.Perm

variable {F : FTy → Type} [FloatOps F]

/-- Two words side by side, told apart only by the words. -/
theorem words_same {a a' b b' : IVec KernelIdeal.S1 32} (h h') (ha : a = a') (hb : b = b') :
    concatenate KernelIdeal.S2 0 [⟨KernelIdeal.S1, a⟩, ⟨KernelIdeal.S1, b⟩] h
      = concatenate KernelIdeal.S2 0 [⟨KernelIdeal.S1, a'⟩, ⟨KernelIdeal.S1, b'⟩] h' := by
  subst ha
  subst hb
  rfl

/-- The two programs start the permutation from the same two words. -/
theorem key_same (V : VK F) (V2 : VR F) :
    rdK (.of KernelIdeal.main_v14 : StableHlo.TRef KernelIdeal.sig ⟨KernelIdeal.S2, .i32⟩) (StableHlo.after KernelIdeal.Gen.hostOps0 V)
      = rdR (.of ReferenceIdeal.main_v85 : StableHlo.TRef ReferenceIdeal.sig ⟨KernelIdeal.S2, .i32⟩) (StableHlo.after ReferenceIdeal.Ops.grpH V2) := by
  unfold rdK rdR ReferenceIdeal.Ops.grpH
  after_reads_simp
  refine words_same KernelIdeal.Gen.concatenates_S1_S1_S2_d0 ReferenceIdeal.Facts₀.concatenates_S1_S1_S2_d0 ?_ ?_ <;> (simp only [StableHlo.upto]; after_reads_simp; try rfl)

/-- Both draw it from the list 0 to 23. -/
theorem list_same (V : VK F) (V2 : VR F) :
    rdK (.of KernelIdeal.main_v15 : StableHlo.TRef KernelIdeal.sig ⟨KernelIdeal.S24, .i32⟩) (StableHlo.after KernelIdeal.Gen.hostOps0 V)
      = rdR (.of ReferenceIdeal.main_v86 : StableHlo.TRef ReferenceIdeal.sig ⟨KernelIdeal.S24, .i32⟩) (StableHlo.after ReferenceIdeal.Ops.grpH V2) := by
  unfold rdK rdR ReferenceIdeal.Ops.grpH
  after_reads_simp

/-- The reference's permutation, read without its reader. -/
theorem read_perm (V : VR F) (j : KernelIdeal.S24.Idx) :
    (V (Proc.devRef .tc ReferenceIdeal.main_v87) : IVec KernelIdeal.S24 32) j
      = (rdR (.of ReferenceIdeal.main_v87 : StableHlo.TRef ReferenceIdeal.sig ⟨KernelIdeal.S24, .i32⟩) V : IVec KernelIdeal.S24 32) j := rfl

/-- The kernel's permutation, read without its reader. -/
theorem read_permK (V : VK F) (j : KernelIdeal.S24.Idx) :
    (V (Proc.devRef .tc KernelIdeal.main_v16) : IVec KernelIdeal.S24 32) j
      = (rdK (.of KernelIdeal.main_v16 : StableHlo.TRef KernelIdeal.sig ⟨KernelIdeal.S24, .i32⟩) V : IVec KernelIdeal.S24 32) j := rfl

/-- Both programs draw, for each place of the result, one position below 24, the same. -/
theorem drawn (V : VK Ideal) (V2 : VR Ideal) (j : KernelIdeal.S24.Idx) : ∃ k : Fin 24,
    (StableHlo.after KernelIdeal.Gen.hostOps0_1 (StableHlo.after KernelIdeal.Gen.hostOps0 V) (Proc.devRef .tc KernelIdeal.main_v16) : IVec KernelIdeal.S24 32) j = BitVec.ofNat 32 k.val
    ∧ (ReferenceIdeal.Ops.RI V2 (Proc.devRef .tc ReferenceIdeal.main_v87) : IVec KernelIdeal.S24 32) j = BitVec.ofNat 32 k.val := by
  have hs := shuffle_same _ _ (key_same V (ReferenceIdeal.Ops.RG V2)) (list_same V (ReferenceIdeal.Ops.RG V2))
  have hl := ReferenceIdeal.Sel.perm_list (ReferenceIdeal.Ops.RG V2)
  unfold ReferenceIdeal.Ops.RI ReferenceIdeal.Ops.RH
  generalize StableHlo.after ReferenceIdeal.Ops.grpH (ReferenceIdeal.Ops.RG V2) = U at hs hl ⊢
  obtain ⟨k, hk⟩ := shuffle_range U hl j
  refine ⟨k, ?_, (read_perm _ j).trans hk⟩
  exact (read_permK _ j).trans ((congrFun hs j).trans hk)

/-- An index of the result by its coordinates. -/
theorem idx_six (x : KernelIdeal.S8x32x32x16x24x1.Idx) : ∃ b i o h j z, x = ix6 b i o h j z := by
  refine ⟨x 0, x 1, x 2, x 3, x 4, x 5, ?_⟩
  funext a
  fin_cases a <;> rfl

/-- From memories that agree on the arguments the two results are equal. -/
theorem results (m : (ℓ : Loc KernelIdeal.nD KernelIdeal.τ KernelIdeal.sig) → Buf (Elt Ideal) ℓ) (ρ : Dev KernelIdeal.nD → PrngReg)
    (c : Dev KernelIdeal.nD)
    (X : Vec Ideal KernelIdeal.S8x32x16x16x16 .f32) (R : Vec Ideal KernelIdeal.S8x32x32x16x16 .f32) (T : Vec Ideal KernelIdeal.S8x32x32x16x16x16 .f32)
    (hX : m ((c : Thread KernelIdeal.nD KernelIdeal.τ).loc KernelIdeal.main_arg0) = X)
    (hR : m ((c : Thread KernelIdeal.nD KernelIdeal.τ).loc KernelIdeal.main_arg1) = R)
    (hT : m ((c : Thread KernelIdeal.nD KernelIdeal.τ).loc KernelIdeal.main_arg2) = T)
    (V : VR Ideal) (hX' : V (Proc.devRef .tc ReferenceIdeal.main_arg0) = X) (hR' : V (Proc.devRef .tc ReferenceIdeal.main_arg1) = R)
    (hT' : V (Proc.devRef .tc ReferenceIdeal.main_arg2) = T) :
    (ReferenceIdeal.Ops.RK V (Proc.devRef .tc ReferenceIdeal.main_v99) : Vec Ideal KernelIdeal.S8x32x32x16x24x1 .f32)
      = KernelIdeal.Gen.W9 m ρ c (Proc.devRef .tc KernelIdeal.main_v23) := by
  funext x
  obtain ⟨b, i, o, h, j, z, rfl⟩ := idx_six x
  obtain ⟨k, hk', hk⟩ := drawn (KernelIdeal.Gen.W0 m ρ c) V (ix1 j)
  generalize hw : sortedFrom (Before (ReferenceIdeal.Sel.tops (raised (ReferenceIdeal.Sel.actOf X b o) (ReferenceIdeal.Sel.rteOf R b i o)))) ⟨k.val, by omega⟩ = w
  have hpl : place (ReferenceIdeal.Sel.actOf X b o) (ReferenceIdeal.Sel.rteOf R b i o) w = k.val := by
    rw [← hw]
    exact rnk_sortedFrom _ _
  obtain ⟨p, hp⟩ : ∃ p : Fin 256, p.val = spot (ReferenceIdeal.Sel.actOf X b o) (ReferenceIdeal.Sel.rteOf R b i o) w := ⟨⟨_, spot_lt _ _ w⟩, rfl⟩
  have h1 := ReferenceIdeal.Sel.value V X R T hX' hR' hT' b i o h j k z hk p (by rw [hw]; exact hp)
  have h2 := KernelIdeal.Sel.value m ρ c X R T hX hR hT b i o h j z w (by rw [hpl]; exact hk') p hp
  exact h1.trans h2.symm

end Cert.Same
-- ==== Proof.lean ====
/-
The proof of the certificate's claims: the frames of the kernel, of its idealization and of the reference, and the
equality of the idealized kernel's result with the reference's.
-/
module

public import proofs.«01_k».proof.Defs
public import proofs.«01_k».proof.Proof.Gen.Kernel.Frame
public import proofs.«01_k».proof.Proof.Gen.KernelIdeal.Frame
public import proofs.«01_k».proof.Proof.RefRun
public import proofs.«01_k».proof.Proof.Same
public import Idealize.ShloMosaic.Adequacy
public import Idealize.ShloMosaic.Init

@[expose] public section

noncomputable section

namespace Cert.Proof

open Idealize.ShloMosaic Idealize.SL.Sem

/-- The idealized kernel and the reference end with equal results, element by element. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Gen.W9 m g c (Proc.devRef .tc Cert.KernelIdeal.main_v23), Cert.KernelIdeal.Sel.run m g, ?_⟩
  refine θ_run_mono (Cert.ReferenceIdeal.Ops.run m' g') fun r h c => ?_
  refine ⟨(h c _).trans (Cert.Same.results m g c _ _ _ rfl rfl rfl (Cert.ReferenceIdeal.Ops.launch m' c) (hm c).1 (hm c).2.1 (hm c).2.2),
    (h c _).trans (Cert.ReferenceIdeal.Ops.RK_arg _ _ (by decide)), (h c _).trans (Cert.ReferenceIdeal.Ops.RK_arg _ _ (by decide)),
    (h c _).trans (Cert.ReferenceIdeal.Ops.RK_arg _ _ (by decide))⟩

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Ops.frame m ρ, trivial, algebraic⟩

end Cert.Proof

end
